-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v151) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_qk.lean ====
abbrev S16384x6144 : Shape := ⟨2, ![16384, 6144]⟩
abbrev S256x6144 : Shape := ⟨2, ![256, 6144]⟩
abbrev S16384x1280 : Shape := ⟨2, ![16384, 1280]⟩
abbrev S_ : Shape := ⟨0, ![]⟩
abbrev S256x256 : Shape := ⟨2, ![256, 256]⟩

class Facts : Prop where
  slices_S16384x6144_S16384x1280_0_0 : S16384x6144.Slices ![0, 0] S16384x1280
  bcast_S_S16384x1280 : S_.BroadcastsInDim S16384x1280 (![] : Fin 0 → Fin S16384x1280.rank)
  reducesTo_S16384x1280_S_d0_1 : S16384x1280.ReducesTo [0, 1] S_
  h_S_ : 0 < S_.numel
  slices_S256x6144_S256x256_0_1024 : S256x6144.Slices ![0, 1024] S256x256
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S16384x6144 .f32) (main_arg1 : FVec F S256x6144 .f32) : IVec S_ 1 :=
  let main_v0 : FVec F S16384x1280 .f32 := (extractStridedSlice S16384x1280 ![0, 0] · slices_S16384x6144_S16384x1280_0_0) main_arg0
  let main_v1 : FVec F S16384x1280 .f32 := Host.absf main_v0
  let main_cst : FVec F S_ .f32 := constant S_ .f32 0x7F800000#32
  let main_v2 : FVec F S16384x1280 .f32 := broadcastInDim S16384x1280 ![] bcast_S_S16384x1280 main_cst
  let main_v3 : IVec S16384x1280 1 := cmpf .olt main_v1 main_v2
  let main_c : IVec S_ 1 := constantI S_ 1 1#1
  let main_v4 : IVec S_ 1 := (fun x v => Host.reduce IntOp.andi x v reducesTo_S16384x1280_S_d0_1 h_S_) main_v3 main_c
  let main_v5 : FVec F S256x256 .f32 := (extractStridedSlice S256x256 ![0, 1024] · slices_S256x6144_S256x256_0_1024) main_arg1
  let main_v6 : FVec F S256x256 .f32 := Host.absf main_v5
  let main_cst_0 : FVec F S_ .f32 := constant S_ .f32 0x7F800000#32
  let main_v7 : FVec F S256x256 .f32 := broadcastInDim S256x256 ![] bcast_S_S256x256 main_cst_0
  let main_v8 : IVec S256x256 1 := cmpf .olt main_v6 main_v7
  let main_c_1 : IVec S_ 1 := constantI S_ 1 1#1
  let main_v9 : IVec S_ 1 := (fun x v => Host.reduce IntOp.andi x v reducesTo_S256x256_S_d0_1 h_S_) main_v8 main_c_1
  let main_v10 : IVec S_ 1 := andi main_v4 main_v9
  main_v10
-- ==== Kernel.lean ====
abbrev S16384x6144 : Shape := ⟨2, ![16384, 6144]⟩
abbrev S256x6144 : Shape := ⟨2, ![256, 6144]⟩
abbrev S16384x1024 : Shape := ⟨2, ![16384, 1024]⟩
abbrev S_ : Shape := ⟨0, ![]⟩
abbrev S16384x5120 : Shape := ⟨2, ![16384, 5120]⟩
abbrev S256x512 : Shape := ⟨2, ![256, 512]⟩
abbrev S256x128 : Shape := ⟨2, ![256, 128]⟩
abbrev S16384x128 : Shape := ⟨2, ![16384, 128]⟩
abbrev S1024x128 : Shape := ⟨2, ![1024, 128]⟩
abbrev S1024x512 : Shape := ⟨2, ![1024, 512]⟩
abbrev S512x128 : Shape := ⟨2, ![512, 128]⟩
abbrev S1024 : Shape := ⟨1, ![1024]⟩
abbrev S1024x1 : Shape := ⟨2, ![1024, 1]⟩
abbrev S1024x256 : Shape := ⟨2, ![1024, 256]⟩

abbrev nBuf : Space → Nat
  | .hbm => 17
  | .vmem => 20
  | .smem => 0
  | _ => 0

abbrev bufTy : (tb : Table) → Fin (tcTables nBuf tb) → BufTy
  | .hbm, ⟨0, _⟩ => ⟨S16384x6144, .f32⟩
  | .hbm, ⟨1, _⟩ => ⟨S256x6144, .f32⟩
  | .hbm, ⟨2, _⟩ => ⟨S16384x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x5120, .f32⟩
  | .hbm, ⟨13, _⟩ => ⟨S16384x6144, .f32⟩
  | .hbm, ⟨14, _⟩ => ⟨S16384x6144, .bf16⟩
  | .hbm, ⟨15, _⟩ => ⟨S256x6144, .bf16⟩
  | .hbm, ⟨16, _⟩ => ⟨S16384x1024, .bf16⟩
  | .local _ .vmem, ⟨0, _⟩ => ⟨S256x512, .bf16⟩
  | .local _ .vmem, ⟨1, _⟩ => ⟨S256x512, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S16384x128, .bf16⟩
  | .local _ .vmem, ⟨7, _⟩ => ⟨S16384x128, .bf16⟩
  | .local _ .vmem, ⟨8, _⟩ => ⟨S16384x128, .bf16⟩
  | .local _ .vmem, ⟨9, _⟩ => ⟨S16384x128, .bf16⟩
  | .local _ .vmem, ⟨10, _⟩ => ⟨S256x512, .bf16⟩
  | .local _ .vmem, ⟨11, _⟩ => ⟨S256x512, .bf16⟩
  | .local _ .vmem, ⟨12, _⟩ => ⟨S1024x128, .bf16⟩
  | .local _ .vmem, ⟨13, _⟩ => ⟨S1024x512, .f32⟩
  | .local _ .vmem, ⟨14, _⟩ => ⟨S1024x512, .f32⟩
  | .local _ .vmem, ⟨15, _⟩ => ⟨S1024x512, .bf16⟩
  | .local _ .vmem, ⟨16, _⟩ => ⟨S1024x512, .bf16⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32 : BitVec 32 := 0#32
  let c3_i32 : BitVec 32 := 3#32
  let v39 : BitVec 32 := Scalar.addi c0_i32 c3_i32
  let c1_i32 : BitVec 32 := 1#32
  ⟨c0_i32, v39, c1_i32⟩
def k0_mult1 (k0_t1 : Fin k0_t1_loop.trips) : BitVec 32 :=
  let c8_i32 : BitVec 32 := 8#32
  let c0_i32 : BitVec 32 := 0#32
  let c1_i32 : BitVec 32 := 1#32
  let arg16 : BitVec 32 := Scf.iv c0_i32 c1_i32 k0_t1
  let v666 : BitVec 32 := Scalar.muli c8_i32 arg16
  let c0_i32_385 : BitVec 32 := 0#32
  let v667 : BitVec 32 := Scalar.addi v666 c0_i32_385
  let c1_i32_386 : BitVec 32 := 1#32
  let v668 : BitVec 32 := Scalar.addi v667 c1_i32_386
  let c512_i32 : BitVec 32 := 512#32
  let v669 : BitVec 32 := Scalar.muli v668 c512_i32
  v669
def k0_off1 (k0_t1 : Fin k0_t1_loop.trips) (c0_i32_385 : BitVec 32) : Fin 2 → Nat :=
  let c8_i32 : BitVec 32 := 8#32
  let c0_i32 : BitVec 32 := 0#32
  let c1_i32 : BitVec 32 := 1#32
  let arg16 : BitVec 32 := Scf.iv c0_i32 c1_i32 k0_t1
  let v666 : BitVec 32 := Scalar.muli c8_i32 arg16
  let v667 : BitVec 32 := Scalar.addi v666 c0_i32_385
  let c1_i32_386 : BitVec 32 := 1#32
  let v668 : BitVec 32 := Scalar.addi v667 c1_i32_386
  let c512_i32 : BitVec 32 := 512#32
  let v669 : BitVec 32 := Scalar.muli v668 c512_i32
  let v670 : BitVec 32 := v669
  let v671 : Index := Scalar.indexCast v670
  let c0_387 : Index := 0#32
  ![v671.toNat, 0]
def k0_mult2 (k0_t1 : Fin k0_t1_loop.trips) : BitVec 32 :=
  let c8_i32 : BitVec 32 := 8#32
  let c0_i32 : BitVec 32 := 0#32
  let c1_i32 : BitVec 32 := 1#32
  let arg16 : BitVec 32 := Scf.iv c0_i32 c1_i32 k0_t1
  let v666 : BitVec 32 := Scalar.muli c8_i32 arg16
  let c0_i32_385 : BitVec 32 := 0#32
  let v667 : BitVec 32 := Scalar.addi v666 c0_i32_385
  let c512_i32_393 : BitVec 32 := 512#32
  let v679 : BitVec 32 := Scalar.muli v667 c512_i32_393
  v679
def k0_off2 (k0_t1 : Fin k0_t1_loop.trips) (c0_i32_385 : BitVec 32) : Fin 2 → Nat :=
  let c8_i32 : BitVec 32 := 8#32
  let c0_i32 : BitVec 32 := 0#32
  let c1_i32 : BitVec 32 := 1#32
  let arg16 : BitVec 32 := Scf.iv c0_i32 c1_i32 k0_t1
  let v666 : BitVec 32 := Scalar.muli c8_i32 arg16
  let v667 : BitVec 32 := Scalar.addi v666 c0_i32_385
  let c512_i32_393 : BitVec 32 := 512#32
  let v679 : BitVec 32 := Scalar.muli v667 c512_i32_393
  let v680 : BitVec 32 := v679
  let v681 : Index := Scalar.indexCast v680
  let c0_394 : Index := 0#32
  ![v681.toNat, 0]
def k0_mult3 (k0_t1 : Fin k0_t1_loop.trips) : BitVec 32 :=
  let c8_i32_427 : BitVec 32 := 8#32
  let c0_i32 : BitVec 32 := 0#32
  let c1_i32 : BitVec 32 := 1#32
  let arg16 : BitVec 32 := Scf.iv c0_i32 c1_i32 k0_t1
  let v742 : BitVec 32 := Scalar.muli c8_i32_427 arg16
  let c1_i32_428 : BitVec 32 := 1#32
  let v743 : BitVec 32 := Scalar.addi v742 c1_i32_428
  let c1_i32_429 : BitVec 32 := 1#32
  let v744 : BitVec 32 := Scalar.addi v743 c1_i32_429
  let c512_i32_430 : BitVec 32 := 512#32
  let v745 : BitVec 32 := Scalar.muli v744 c512_i32_430
  v745
def k0_mult4 (k0_t1 : Fin k0_t1_loop.trips) : BitVec 32 :=
  let c8_i32_427 : BitVec 32 := 8#32
  let c0_i32 : BitVec 32 := 0#32
  let c1_i32 : BitVec 32 := 1#32
  let arg16 : BitVec 32 := Scf.iv c0_i32 c1_i32 k0_t1
  let v742 : BitVec 32 := Scalar.muli c8_i32_427 arg16
  let c1_i32_428 : BitVec 32 := 1#32
  let v743 : BitVec 32 := Scalar.addi v742 c1_i32_428
  let c512_i32_437 : BitVec 32 := 512#32
  let v755 : BitVec 32 := Scalar.muli v743 c512_i32_437
  v755
def k0_mult5 (k0_t1 : Fin k0_t1_loop.trips) : BitVec 32 :=
  let c8_i32_471 : BitVec 32 := 8#32
  let c0_i32 : BitVec 32 := 0#32
  let c1_i32 : BitVec 32 := 1#32
  let arg16 : BitVec 32 := Scf.iv c0_i32 c1_i32 k0_t1
  let v818 : BitVec 32 := Scalar.muli c8_i32_471 arg16
  let c2_i32 : BitVec 32 := 2#32
  let v819 : BitVec 32 := Scalar.addi v818 c2_i32
  let c1_i32_472 : BitVec 32 := 1#32
  let v820 : BitVec 32 := Scalar.addi v819 c1_i32_472
  let c512_i32_473 : BitVec 32 := 512#32
  let v821 : BitVec 32 := Scalar.muli v820 c512_i32_473
  v821
def k0_mult6 (k0_t1 : Fin k0_t1_loop.trips) : BitVec 32 :=
  let c8_i32_471 : BitVec 32 := 8#32
  let c0_i32 : BitVec 32 := 0#32
  let c1_i32 : BitVec 32 := 1#32
  let arg16 : BitVec 32 := Scf.iv c0_i32 c1_i32 k0_t1
  let v818 : BitVec 32 := Scalar.muli c8_i32_471 arg16
  let c2_i32 : BitVec 32 := 2#32
  let v819 : BitVec 32 := Scalar.addi v818 c2_i32
  let c512_i32_480 : BitVec 32 := 512#32
  let v831 : BitVec 32 := Scalar.muli v819 c512_i32_480
  v831
def k0_mult7 (k0_t1 : Fin k0_t1_loop.trips) : BitVec 32 :=
  let c8_i32_514 : BitVec 32 := 8#32
  let c0_i32 : BitVec 32 := 0#32
  let c1_i32 : BitVec 32 := 1#32
  let arg16 : BitVec 32 := Scf.iv c0_i32 c1_i32 k0_t1
  let v894 : BitVec 32 := Scalar.muli c8_i32_514 arg16
  let c3_i32_515 : BitVec 32 := 3#32
  let v895 : BitVec 32 := Scalar.addi v894 c3_i32_515
  let c1_i32_516 : BitVec 32 := 1#32
  let v896 : BitVec 32 := Scalar.addi v895 c1_i32_516
  let c512_i32_517 : BitVec 32 := 512#32
  let v897 : BitVec 32 := Scalar.muli v896 c512_i32_517
  v897
def k0_mult8 (k0_t1 : Fin k0_t1_loop.trips) : BitVec 32 :=
  let c8_i32_514 : BitVec 32 := 8#32
  let c0_i32 : BitVec 32 := 0#32
  let c1_i32 : BitVec 32 := 1#32
  let arg16 : BitVec 32 := Scf.iv c0_i32 c1_i32 k0_t1
  let v894 : BitVec 32 := Scalar.muli c8_i32_514 arg16
  let c3_i32_515 : BitVec 32 := 3#32
  let v895 : BitVec 32 := Scalar.addi v894 c3_i32_515
  let c512_i32_524 : BitVec 32 := 512#32
  let v907 : BitVec 32 := Scalar.muli v895 c512_i32_524
  v907
def k0_mult9 (k0_t1 : Fin k0_t1_loop.trips) : BitVec 32 :=
  let c8_i32_558 : BitVec 32 := 8#32
  let c0_i32 : BitVec 32 := 0#32
  let c1_i32 : BitVec 32 := 1#32
  let arg16 : BitVec 32 := Scf.iv c0_i32 c1_i32 k0_t1
  let v970 : BitVec 32 := Scalar.muli c8_i32_558 arg16
  let c4_i32 : BitVec 32 := 4#32
  let v971 : BitVec 32 := Scalar.addi v970 c4_i32
  let c1_i32_559 : BitVec 32 := 1#32
  let v972 : BitVec 32 := Scalar.addi v971 c1_i32_559
  let c512_i32_560 : BitVec 32 := 512#32
  let v973 : BitVec 32 := Scalar.muli v972 c512_i32_560
  v973
def k0_mult10 (k0_t1 : Fin k0_t1_loop.trips) : BitVec 32 :=
  let c8_i32_558 : BitVec 32 := 8#32
  let c0_i32 : BitVec 32 := 0#32
  let c1_i32 : BitVec 32 := 1#32
  let arg16 : BitVec 32 := Scf.iv c0_i32 c1_i32 k0_t1
  let v970 : BitVec 32 := Scalar.muli c8_i32_558 arg16
  let c4_i32 : BitVec 32 := 4#32
  let v971 : BitVec 32 := Scalar.addi v970 c4_i32
  let c512_i32_567 : BitVec 32 := 512#32
  let v983 : BitVec 32 := Scalar.muli v971 c512_i32_567
  v983
def k0_mult11 (k0_t1 : Fin k0_t1_loop.trips) : BitVec 32 :=
  let c8_i32_601 : BitVec 32 := 8#32
  let c0_i32 : BitVec 32 := 0#32
  let c1_i32 : BitVec 32 := 1#32
  let arg16 : BitVec 32 := Scf.iv c0_i32 c1_i32 k0_t1
  let v1046 : BitVec 32 := Scalar.muli c8_i32_601 arg16
  let c5_i32 : BitVec 32 := 5#32
  let v1047 : BitVec 32 := Scalar.addi v1046 c5_i32
  let c1_i32_602 : BitVec 32 := 1#32
  let v1048 : BitVec 32 := Scalar.addi v1047 c1_i32_602
  let c512_i32_603 : BitVec 32 := 512#32
  let v1049 : BitVec 32 := Scalar.muli v1048 c512_i32_603
  v1049
def k0_mult12 (k0_t1 : Fin k0_t1_loop.trips) : BitVec 32 :=
  let c8_i32_601 : BitVec 32 := 8#32
  let c0_i32 : BitVec 32 := 0#32
  let c1_i32 : BitVec 32 := 1#32
  let arg16 : BitVec 32 := Scf.iv c0_i32 c1_i32 k0_t1
  let v1046 : BitVec 32 := Scalar.muli c8_i32_601 arg16
  let c5_i32 : BitVec 32 := 5#32
  let v1047 : BitVec 32 := Scalar.addi v1046 c5_i32
  let c512_i32_610 : BitVec 32 := 512#32
  let v1059 : BitVec 32 := Scalar.muli v1047 c512_i32_610
  v1059
def k0_mult13 (k0_t1 : Fin k0_t1_loop.trips) : BitVec 32 :=
  let c8_i32_644 : BitVec 32 := 8#32
  let c0_i32 : BitVec 32 := 0#32
  let c1_i32 : BitVec 32 := 1#32
  let arg16 : BitVec 32 := Scf.iv c0_i32 c1_i32 k0_t1
  let v1122 : BitVec 32 := Scalar.muli c8_i32_644 arg16
  let c6_i32 : BitVec 32 := 6#32
  let v1123 : BitVec 32 := Scalar.addi v1122 c6_i32
  let c1_i32_645 : BitVec 32 := 1#32
  let v1124 : BitVec 32 := Scalar.addi v1123 c1_i32_645
  let c512_i32_646 : BitVec 32 := 512#32
  let v1125 : BitVec 32 := Scalar.muli v1124 c512_i32_646
  v1125
def k0_mult14 (k0_t1 : Fin k0_t1_loop.trips) : BitVec 32 :=
  let c8_i32_644 : BitVec 32 := 8#32
  let c0_i32 : BitVec 32 := 0#32
  let c1_i32 : BitVec 32 := 1#32
  let arg16 : BitVec 32 := Scf.iv c0_i32 c1_i32 k0_t1
  let v1122 : BitVec 32 := Scalar.muli c8_i32_644 arg16
  let c6_i32 : BitVec 32 := 6#32
  let v1123 : BitVec 32 := Scalar.addi v1122 c6_i32
  let c512_i32_653 : BitVec 32 := 512#32
  let v1135 : BitVec 32 := Scalar.muli v1123 c512_i32_653
  v1135
def k0_mult15 (k0_t1 : Fin k0_t1_loop.trips) : BitVec 32 :=
  let c8_i32_687 : BitVec 32 := 8#32
  let c0_i32 : BitVec 32 := 0#32
  let c1_i32 : BitVec 32 := 1#32
  let arg16 : BitVec 32 := Scf.iv c0_i32 c1_i32 k0_t1
  let v1198 : BitVec 32 := Scalar.muli c8_i32_687 arg16
  let c7_i32 : BitVec 32 := 7#32
  let v1199 : BitVec 32 := Scalar.addi v1198 c7_i32
  let c1_i32_688 : BitVec 32 := 1#32
  let v1200 : BitVec 32 := Scalar.addi v1199 c1_i32_688
  let c512_i32_689 : BitVec 32 := 512#32
  let v1201 : BitVec 32 := Scalar.muli v1200 c512_i32_689
  v1201
def k0_mult16 (k0_t1 : Fin k0_t1_loop.trips) : BitVec 32 :=
  let c8_i32_687 : BitVec 32 := 8#32
  let c0_i32 : BitVec 32 := 0#32
  let c1_i32 : BitVec 32 := 1#32
  let arg16 : BitVec 32 := Scf.iv c0_i32 c1_i32 k0_t1
  let v1198 : BitVec 32 := Scalar.muli c8_i32_687 arg16
  let c7_i32 : BitVec 32 := 7#32
  let v1199 : BitVec 32 := Scalar.addi v1198 c7_i32
  let c512_i32_696 : BitVec 32 := 512#32
  let v1211 : BitVec 32 := Scalar.muli v1199 c512_i32_696
  v1211
def k0_mult17 : BitVec 32 :=
  let c12800_i32 : BitVec 32 := 12800#32
  c12800_i32
def k0_mult18 : BitVec 32 :=
  let c12288_i32 : BitVec 32 := 12288#32
  c12288_i32
def k0_mult19 : BitVec 32 :=
  let c13312_i32 : BitVec 32 := 13312#32
  c13312_i32
def k0_mult20 : BitVec 32 :=
  let c12800_i32_71 : BitVec 32 := 12800#32
  c12800_i32_71
def k0_mult21 : BitVec 32 :=
  let c13824_i32 : BitVec 32 := 13824#32
  c13824_i32
def k0_mult22 : BitVec 32 :=
  let c13312_i32_111 : BitVec 32 := 13312#32
  c13312_i32_111
def k0_mult23 : BitVec 32 :=
  let c14336_i32 : BitVec 32 := 14336#32
  c14336_i32
def k0_mult24 : BitVec 32 :=
  let c13824_i32_151 : BitVec 32 := 13824#32
  c13824_i32_151
def k0_mult25 : BitVec 32 :=
  let c14848_i32 : BitVec 32 := 14848#32
  c14848_i32
def k0_mult26 : BitVec 32 :=
  let c14336_i32_191 : BitVec 32 := 14336#32
  c14336_i32_191
def k0_mult27 : BitVec 32 :=
  let c15360_i32 : BitVec 32 := 15360#32
  c15360_i32
def k0_mult28 : BitVec 32 :=
  let c14848_i32_231 : BitVec 32 := 14848#32
  c14848_i32_231
def k0_mult29 : BitVec 32 :=
  let c15872_i32 : BitVec 32 := 15872#32
  c15872_i32
def k0_mult30 : BitVec 32 :=
  let c15360_i32_271 : BitVec 32 := 15360#32
  c15360_i32_271
def k0_mult31 : BitVec 32 :=
  let c15872_i32_312 : BitVec 32 := 15872#32
  c15872_i32_312
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16384x6144 : Shape := ⟨2, ![16384, 6144]⟩
abbrev S256x6144 : Shape := ⟨2, ![256, 6144]⟩
abbrev S16384x1024 : Shape := ⟨2, ![16384, 1024]⟩
abbrev S16384x8x128 : Shape := ⟨3, ![16384, 8, 128]⟩
abbrev S16384x256 : Shape := ⟨2, ![16384, 256]⟩
abbrev S16384x2x128 : Shape := ⟨3, ![16384, 2, 128]⟩
abbrev S256x256 : Shape := ⟨2, ![256, 256]⟩
abbrev S256x2x128 : Shape := ⟨3, ![256, 2, 128]⟩
abbrev S16640x2x128 : Shape := ⟨3, ![16640, 2, 128]⟩
abbrev S16384x2x4x128 : Shape := ⟨4, ![16384, 2, 4, 128]⟩
abbrev S_ : Shape := ⟨0, ![]⟩
abbrev S2x16640x16384x4 : Shape := ⟨4, ![2, 16640, 16384, 4]⟩
abbrev S2x4x16384x16640 : Shape := ⟨4, ![2, 4, 16384, 16640]⟩
abbrev S2x4x16384 : Shape := ⟨3, ![2, 4, 16384]⟩
abbrev S2x4x16384x1 : Shape := ⟨4, ![2, 4, 16384, 1]⟩
abbrev S2x128x4x16384 : Shape := ⟨4, ![2, 128, 4, 16384]⟩

abbrev nBuf : Space → Nat
  | .hbm => 41
  | .vmem => 0
  | .smem => 0
  | _ => 0

abbrev bufTy : (tb : Table) → Fin (tcTables nBuf tb) → BufTy
  | .hbm, ⟨0, _⟩ => ⟨S16384x6144, .f32⟩
  | .hbm, ⟨1, _⟩ => ⟨S256x6144, .f32⟩
  | .hbm, ⟨2, _⟩ => ⟨S16384x1024, .f32⟩
  | .hbm, ⟨3, _⟩ => ⟨S16384x8x128, .f32⟩
  | .hbm, ⟨4, _⟩ => ⟨S16384x256, .f32⟩
  | .hbm, ⟨5, _⟩ => ⟨S16384x2x128, .f32⟩
  | .hbm, ⟨6, _⟩ => ⟨S16384x256, .f32⟩
  | .hbm, ⟨7, _⟩ => ⟨S16384x2x128, .f32⟩
  | .hbm, ⟨8, _⟩ => ⟨S256x256, .f32⟩
  | .hbm, ⟨9, _⟩ => ⟨S256x2x128, .f32⟩
  | .hbm, ⟨10, _⟩ => ⟨S256x256, .f32⟩
  | .hbm, ⟨11, _⟩ => ⟨S256x2x128, .f32⟩
  | .hbm, ⟨12, _⟩ => ⟨S16640x2x128, .f32⟩
  | .hbm, ⟨13, _⟩ => ⟨S16640x2x128, .f32⟩
  | .hbm, ⟨14, _⟩ => ⟨S16384x2x4x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x16640x16384x4, .f32⟩
  | .hbm, ⟨20, _⟩ => ⟨S2x4x16384x16640, .f32⟩
  | .hbm, ⟨21, _⟩ => ⟨S2x4x16384x16640, .f32⟩
  | .hbm, ⟨22, _⟩ => ⟨S2x4x16384x16640, .f32⟩
  | .hbm, ⟨23, _⟩ => ⟨S_, .f32⟩
  | .hbm, ⟨24, _⟩ => ⟨S2x4x16384, .f32⟩
  | .hbm, ⟨25, _⟩ => ⟨S_, .f32⟩
  | .hbm, ⟨26, _⟩ => ⟨S2x4x16384, .f32⟩
  | .hbm, ⟨27, _⟩ => ⟨S2x4x16384, .f32⟩
  | .hbm, ⟨28, _⟩ => ⟨S2x4x16384x1, .f32⟩
  | .hbm, ⟨29, _⟩ => ⟨S2x4x16384x16640, .f32⟩
  | .hbm, ⟨30, _⟩ => ⟨S2x4x16384x16640, .f32⟩
  | .hbm, ⟨31, _⟩ => ⟨S2x4x16384x16640, .f32⟩
  | .hbm, ⟨32, _⟩ => ⟨S_, .f32⟩
  | .hbm, ⟨33, _⟩ => ⟨S2x4x16384, .f32⟩
  | .hbm, ⟨34, _⟩ => ⟨S2x4x16384x1, .f32⟩
  | .hbm, ⟨35, _⟩ => ⟨S2x4x16384x16640, .f32⟩
  | .hbm, ⟨36, _⟩ => ⟨S2x4x16384x16640, .f32⟩
  | .hbm, ⟨37, _⟩ => ⟨S2x128x4x16384, .f32⟩
  | .hbm, ⟨38, _⟩ => ⟨S16384x2x4x128, .f32⟩
  | .hbm, ⟨39, _⟩ => ⟨S16384x1024, .f32⟩
  | .hbm, ⟨40, _⟩ => ⟨S16384x1024, .bf16⟩
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 13
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x5632, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S_, .f32⟩
  | .hbm, ⟨43, _⟩ => ⟨S16384x2816, .f32⟩
  | .hbm, ⟨44, _⟩ => ⟨S16384x2816, .f32⟩
  | .hbm, ⟨45, _⟩ => ⟨S_, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x1024, .f32⟩
  | .hbm, ⟨74, _⟩ => ⟨S16384x1024, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S16384x1, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | .hbm, ⟨84, _⟩ => ⟨S1x1024, .f32⟩
  | .hbm, ⟨85, _⟩ => ⟨S16384x1024, .f32⟩
  | .hbm, ⟨86, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x6144 : Shape := ⟨2, ![1024, 6144]⟩
abbrev S128 : Shape := ⟨1, ![128]⟩
abbrev S512 : Shape := ⟨1, ![512]⟩
abbrev S16384x64 : Shape := ⟨2, ![16384, 64]⟩
abbrev S16384x64x2 : Shape := ⟨3, ![16384, 64, 2]⟩
abbrev S16384x128 : Shape := ⟨2, ![16384, 128]⟩
abbrev S16384x64x1 : Shape := ⟨3, ![16384, 64, 1]⟩
abbrev S1x128 : Shape := ⟨2, ![1, 128]⟩
abbrev S1x512 : Shape := ⟨2, ![1, 512]⟩
abbrev S16384x6144 : Shape := ⟨2, ![16384, 6144]⟩
abbrev S512x1024 : Shape := ⟨2, ![512, 1024]⟩
abbrev S512x128 : Shape := ⟨2, ![512, 128]⟩
abbrev S512x6144 : Shape := ⟨2, ![512, 6144]⟩
abbrev S512x1 : Shape := ⟨2, ![512, 1]⟩
abbrev S1024x512 : Shape := ⟨2, ![1024, 512]⟩
abbrev S512x512 : Shape := ⟨2, ![512, 512]⟩
abbrev S512x256 : Shape := ⟨2, ![512, 256]⟩

abbrev nBuf : Space → Nat
  | .hbm => 23
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x6144, .f32⟩
  | .hbm, ⟨4, _⟩ => ⟨S128, .f32⟩
  | .hbm, ⟨5, _⟩ => ⟨S128, .f32⟩
  | .hbm, ⟨6, _⟩ => ⟨S512, .f32⟩
  | .hbm, ⟨7, _⟩ => ⟨S512, .f32⟩
  | .hbm, ⟨8, _⟩ => ⟨S16384x64, .f32⟩
  | .hbm, ⟨9, _⟩ => ⟨S16384x64, .f32⟩
  | .hbm, ⟨10, _⟩ => ⟨S16384x64x2, .f32⟩
  | .hbm, ⟨11, _⟩ => ⟨S16384x128, .f32⟩
  | .hbm, ⟨12, _⟩ => ⟨S16384x64, .f32⟩
  | .hbm, ⟨13, _⟩ => ⟨S16384x64x1, .f32⟩
  | .hbm, ⟨14, _⟩ => ⟨S16384x64x1, .f32⟩
  | .hbm, ⟨15, _⟩ => ⟨S16384x64x2, .f32⟩
  | .hbm, ⟨16, _⟩ => ⟨S16384x128, .f32⟩
  | .hbm, ⟨17, _⟩ => ⟨S1024x6144, .bf16⟩
  | .hbm, ⟨18, _⟩ => ⟨S1x128, .f32⟩
  | .hbm, ⟨19, _⟩ => ⟨S1x128, .f32⟩
  | .hbm, ⟨20, _⟩ => ⟨S1x512, .f32⟩
  | .hbm, ⟨21, _⟩ => ⟨S1x512, .f32⟩
  | .hbm, ⟨22, _⟩ => ⟨S16384x6144, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x6144, .bf16⟩
  | .local _ .vmem, ⟨5, _⟩ => ⟨S1x128, .f32⟩
  | .local _ .vmem, ⟨6, _⟩ => ⟨S1x128, .f32⟩
  | .local _ .vmem, ⟨7, _⟩ => ⟨S1x512, .f32⟩
  | .local _ .vmem, ⟨8, _⟩ => ⟨S1x512, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x6144, .bf16⟩
  | .local _ .vmem, ⟨14, _⟩ => ⟨S512x6144, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x6144 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16384x1024 : Shape := ⟨2, ![16384, 1024]⟩
abbrev S1x1024 : Shape := ⟨2, ![1, 1024]⟩
abbrev S1024x6144 : Shape := ⟨2, ![1024, 6144]⟩
abbrev S128 : Shape := ⟨1, ![128]⟩
abbrev S512 : Shape := ⟨1, ![512]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x6144 : Shape := ⟨2, ![16384, 6144]⟩
abbrev S16384x8x128 : Shape := ⟨3, ![16384, 8, 128]⟩
abbrev S16384x8 : Shape := ⟨2, ![16384, 8]⟩
abbrev S16384x8x1 : Shape := ⟨3, ![16384, 8, 1]⟩
abbrev S1x1x128 : Shape := ⟨3, ![1, 1, 128]⟩
abbrev S16384x8x64x2 : Shape := ⟨4, ![16384, 8, 64, 2]⟩
abbrev S16384x8x64x1 : Shape := ⟨4, ![16384, 8, 64, 1]⟩
abbrev S16384x8x64 : Shape := ⟨3, ![16384, 8, 64]⟩
abbrev S16384x1x64 : Shape := ⟨3, ![16384, 1, 64]⟩
abbrev S16384x256 : Shape := ⟨2, ![16384, 256]⟩
abbrev S16384x2x128 : Shape := ⟨3, ![16384, 2, 128]⟩
abbrev S16384x2 : Shape := ⟨2, ![16384, 2]⟩
abbrev S16384x2x1 : Shape := ⟨3, ![16384, 2, 1]⟩
abbrev S16384x2x64x2 : Shape := ⟨4, ![16384, 2, 64, 2]⟩
abbrev S16384x2x64x1 : Shape := ⟨4, ![16384, 2, 64, 1]⟩
abbrev S16384x2x64 : Shape := ⟨3, ![16384, 2, 64]⟩
abbrev S16384x512 : Shape := ⟨2, ![16384, 512]⟩
abbrev S16384x3072 : Shape := ⟨2, ![16384, 3072]⟩
abbrev S1x512 : Shape := ⟨2, ![1, 512]⟩

abbrev nBuf : Space → Nat
  | .hbm => 186
  | .vmem => 0
  | .smem => 0
  | _ => 0

abbrev hbmTy0_0 (i : Nat) : BufTy := match i % 128 with
  | 0 => ⟨S16384x1024, .f32⟩
  | 1 => ⟨S1x1024, .f32⟩
  | 2 => ⟨S1x1024, .f32⟩
  | 3 => ⟨S1024x6144, .f32⟩
  | 4 => ⟨S128, .f32⟩
  | 5 => ⟨S128, .f32⟩
  | 6 => ⟨S512, .f32⟩
  | 7 => ⟨S512, .f32⟩
  | 8 => ⟨S16384x64, .f32⟩
  | 9 => ⟨S16384x64, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S16384x1024, .f32⟩
  | 17 => ⟨S16384x1024, .f32⟩
  | 18 => ⟨S16384x1024, .f32⟩
  | 19 => ⟨S_, .f32⟩
  | 20 => ⟨S16384, .f32⟩
  | 21 => ⟨S16384x1, .f32⟩
  | 22 => ⟨S_, .f32⟩
  | 23 => ⟨S16384x1, .f32⟩
  | 24 => ⟨S16384x1, .f32⟩
  | 25 => ⟨S16384x1024, .f32⟩
  | 26 => ⟨S16384x1024, .f32⟩
  | 27 => ⟨S_, .f32⟩
  | 28 => ⟨S16384x1, .f32⟩
  | 29 => ⟨S16384x1, .f32⟩
  | 30 => ⟨S16384x1, .f32⟩
  | 31 => ⟨S16384x1024, .f32⟩
  | 32 => ⟨S16384x1024, .f32⟩
  | 33 => ⟨S_, .f32⟩
  | 34 => ⟨S1x1024, .f32⟩
  | 35 => ⟨S1x1024, .f32⟩
  | 36 => ⟨S16384x1024, .f32⟩
  | 37 => ⟨S16384x1024, .f32⟩
  | 38 => ⟨S16384x1024, .f32⟩
  | 39 => ⟨S16384x1024, .f32⟩
  | 40 => ⟨S16384x6144, .f32⟩
  | 41 => ⟨S16384x1024, .f32⟩
  | 42 => ⟨S16384x8x128, .f32⟩
  | 43 => ⟨S16384x8x128, .f32⟩
  | 44 => ⟨S_, .f32⟩
  | 45 => ⟨S16384x8, .f32⟩
  | 46 => ⟨S16384x8x1, .f32⟩
  | 47 => ⟨S_, .f32⟩
  | 48 => ⟨S16384x8x1, .f32⟩
  | 49 => ⟨S16384x8x1, .f32⟩
  | 50 => ⟨S_, .f32⟩
  | 51 => ⟨S16384x8x1, .f32⟩
  | 52 => ⟨S16384x8x1, .f32⟩
  | 53 => ⟨S16384x8x1, .f32⟩
  | 54 => ⟨S16384x8x128, .f32⟩
  | 55 => ⟨S16384x8x128, .f32⟩
  | 56 => ⟨S1x1x128, .f32⟩
  | 57 => ⟨S16384x8x128, .f32⟩
  | 58 => ⟨S16384x8x128, .f32⟩
  | 59 => ⟨S16384x8x64x2, .f32⟩
  | 60 => ⟨S16384x8x64x1, .f32⟩
  | 61 => ⟨S16384x8x64, .f32⟩
  | 62 => ⟨S16384x8x64x1, .f32⟩
  | 63 => ⟨S16384x8x64, .f32⟩
  | 64 => ⟨S16384x1x64, .f32⟩
  | 65 => ⟨S16384x1x64, .f32⟩
  | 66 => ⟨S16384x8x64, .f32⟩
  | 67 => ⟨S16384x8x64, .f32⟩
  | 68 => ⟨S16384x8x64, .f32⟩
  | 69 => ⟨S16384x8x64, .f32⟩
  | 70 => ⟨S16384x8x64, .f32⟩
  | 71 => ⟨S16384x8x64, .f32⟩
  | 72 => ⟨S16384x8x64, .f32⟩
  | 73 => ⟨S16384x8x64, .f32⟩
  | 74 => ⟨S16384x8x64, .f32⟩
  | 75 => ⟨S16384x8x64, .f32⟩
  | 76 => ⟨S16384x8x64x1, .f32⟩
  | 77 => ⟨S16384x8x64x1, .f32⟩
  | 78 => ⟨S16384x8x64x2, .f32⟩
  | 79 => ⟨S16384x8x128, .f32⟩
  | 80 => ⟨S16384x1024, .f32⟩
  | 81 => ⟨S16384x256, .f32⟩
  | 82 => ⟨S16384x2x128, .f32⟩
  | 83 => ⟨S16384x2x128, .f32⟩
  | 84 => ⟨S_, .f32⟩
  | 85 => ⟨S16384x2, .f32⟩
  | 86 => ⟨S16384x2x1, .f32⟩
  | 87 => ⟨S_, .f32⟩
  | 88 => ⟨S16384x2x1, .f32⟩
  | 89 => ⟨S16384x2x1, .f32⟩
  | 90 => ⟨S_, .f32⟩
  | 91 => ⟨S16384x2x1, .f32⟩
  | 92 => ⟨S16384x2x1, .f32⟩
  | 93 => ⟨S16384x2x1, .f32⟩
  | 94 => ⟨S16384x2x128, .f32⟩
  | 95 => ⟨S16384x2x128, .f32⟩
  | 96 => ⟨S1x1x128, .f32⟩
  | 97 => ⟨S16384x2x128, .f32⟩
  | 98 => ⟨S16384x2x128, .f32⟩
  | 99 => ⟨S16384x2x64x2, .f32⟩
  | 100 => ⟨S16384x2x64x1, .f32⟩
  | 101 => ⟨S16384x2x64, .f32⟩
  | 102 => ⟨S16384x2x64x1, .f32⟩
  | 103 => ⟨S16384x2x64, .f32⟩
  | 104 => ⟨S16384x1x64, .f32⟩
  | 105 => ⟨S16384x1x64, .f32⟩
  | 106 => ⟨S16384x2x64, .f32⟩
  | 107 => ⟨S16384x2x64, .f32⟩
  | 108 => ⟨S16384x2x64, .f32⟩
  | 109 => ⟨S16384x2x64, .f32⟩
  | 110 => ⟨S16384x2x64, .f32⟩
  | 111 => ⟨S16384x2x64, .f32⟩
  | 112 => ⟨S16384x2x64, .f32⟩
  | 113 => ⟨S16384x2x64, .f32⟩
  | 114 => ⟨S16384x2x64, .f32⟩
  | 115 => ⟨S16384x2x64, .f32⟩
  | 116 => ⟨S16384x2x64x1, .f32⟩
  | 117 => ⟨S16384x2x64x1, .f32⟩
  | 118 => ⟨S16384x2x64x2, .f32⟩
  | 119 => ⟨S16384x2x128, .f32⟩
  | 120 => ⟨S16384x256, .f32⟩
  | 121 => ⟨S16384x256, .f32⟩
  | 122 => ⟨S16384x1024, .f32⟩
  | 123 => ⟨S16384x1024, .f32⟩
  | 124 => ⟨S16384x1024, .f32⟩
  | 125 => ⟨S_, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S_, .f32⟩
  | 2 => ⟨S16384x1024, .f32⟩
  | 3 => ⟨S16384x1024, .f32⟩
  | 4 => ⟨S16384x1024, .f32⟩
  | 5 => ⟨S_, .f32⟩
  | 6 => ⟨S16384x1024, .f32⟩
  | 7 => ⟨S16384x1024, .f32⟩
  | 8 => ⟨S_, .f32⟩
  | 9 => ⟨S16384x1024, .f32⟩
  | 10 => ⟨S16384x1024, .f32⟩
  | 11 => ⟨S16384x1024, .f32⟩
  | 12 => ⟨S16384x512, .f32⟩
  | 13 => ⟨S16384x3072, .f32⟩
  | 14 => ⟨S16384x3072, .f32⟩
  | 15 => ⟨S16384x3072, .f32⟩
  | 16 => ⟨S_, .f32⟩
  | 17 => ⟨S16384x3072, .f32⟩
  | 18 => ⟨S16384x3072, .f32⟩
  | 19 => ⟨S_, .f32⟩
  | 20 => ⟨S16384x3072, .f32⟩
  | 21 => ⟨S16384x3072, .f32⟩
  | 22 => ⟨S_, .f32⟩
  | 23 => ⟨S16384x1024, .f32⟩
  | 24 => ⟨S16384x1024, .f32⟩
  | 25 => ⟨S16384x512, .f32⟩
  | 26 => ⟨S16384x512, .f32⟩
  | 27 => ⟨S_, .f32⟩
  | 28 => ⟨S16384, .f32⟩
  | 29 => ⟨S16384x1, .f32⟩
  | 30 => ⟨S_, .f32⟩
  | 31 => ⟨S16384x1, .f32⟩
  | 32 => ⟨S16384x1, .f32⟩
  | 33 => ⟨S16384x512, .f32⟩
  | 34 => ⟨S16384x512, .f32⟩
  | 35 => ⟨S16384x512, .f32⟩
  | 36 => ⟨S_, .f32⟩
  | 37 => ⟨S16384, .f32⟩
  | 38 => ⟨S16384x1, .f32⟩
  | 39 => ⟨S_, .f32⟩
  | 40 => ⟨S16384x1, .f32⟩
  | 41 => ⟨S16384x1, .f32⟩
  | 42 => ⟨S16384x512, .f32⟩
  | 43 => ⟨S16384x512, .f32⟩
  | 44 => ⟨S_, .f32⟩
  | 45 => ⟨S16384x1, .f32⟩
  | 46 => ⟨S16384x1, .f32⟩
  | 47 => ⟨S16384x1, .f32⟩
  | 48 => ⟨S16384x512, .f32⟩
  | 49 => ⟨S16384x512, .f32⟩
  | 50 => ⟨S1x512, .f32⟩
  | 51 => ⟨S16384x512, .f32⟩
  | 52 => ⟨S16384x512, .f32⟩
  | 53 => ⟨S1x512, .f32⟩
  | 54 => ⟨S16384x512, .f32⟩
  | 55 => ⟨S16384x512, .f32⟩
  | 56 => ⟨S16384x6144, .f32⟩
  | 57 => ⟨S16384x6144, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_cst_9 : Ref sig .tc := ⟨.hbm, 87, rfl⟩
abbrev main_v67 : Ref sig .tc := ⟨.hbm, 88, rfl⟩
abbrev main_v68 : Ref sig .tc := ⟨.hbm, 89, rfl⟩
abbrev main_cst_10 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_cst_11 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_cst_12 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_cst_13 : Ref sig .tc := ⟨.hbm, 133, rfl⟩
abbrev main_v109 : Ref sig .tc := ⟨.hbm, 134, rfl⟩
abbrev main_v110 : Ref sig .tc := ⟨.hbm, 135, rfl⟩
abbrev main_cst_14 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_cst_15 : Ref sig .tc := ⟨.hbm, 144, rfl⟩
abbrev main_v118 : Ref sig .tc := ⟨.hbm, 145, rfl⟩
abbrev main_v119 : Ref sig .tc := ⟨.hbm, 146, rfl⟩
abbrev main_cst_16 : Ref sig .tc := ⟨.hbm, 147, rfl⟩
abbrev main_v120 : Ref sig .tc := ⟨.hbm, 148, rfl⟩
abbrev main_v121 : Ref sig .tc := ⟨.hbm, 149, rfl⟩
abbrev main_cst_17 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_cst_18 : Ref sig .tc := ⟨.hbm, 155, rfl⟩
abbrev main_v126 : Ref sig .tc := ⟨.hbm, 156, rfl⟩
abbrev main_v127 : Ref sig .tc := ⟨.hbm, 157, rfl⟩
abbrev main_cst_19 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_20 : Ref sig .tc := ⟨.hbm, 164, rfl⟩
abbrev main_v133 : Ref sig .tc := ⟨.hbm, 165, rfl⟩
abbrev main_v134 : Ref sig .tc := ⟨.hbm, 166, rfl⟩
abbrev main_cst_21 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_22 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩

abbrev nD : Nat := 1
abbrev τ : Topo := Topo.v7x

variable {F : FTy → Type} [FloatOps F]
-- ==== Kernel4.lean ====
abbrev S16384x1024 : Shape := ⟨2, ![16384, 1024]⟩
abbrev S16384x6144 : Shape := ⟨2, ![16384, 6144]⟩
abbrev S16384x512 : Shape := ⟨2, ![16384, 512]⟩
abbrev S1024x1024 : Shape := ⟨2, ![1024, 1024]⟩
abbrev S512x1024 : Shape := ⟨2, ![512, 1024]⟩
abbrev S8x128x128 : Shape := ⟨3, ![8, 128, 128]⟩
abbrev S8x128 : Shape := ⟨2, ![8, 128]⟩
abbrev S1x1024 : Shape := ⟨2, ![1, 1024]⟩
abbrev S1024 : Shape := ⟨1, ![1024]⟩
abbrev S4x256x128 : Shape := ⟨3, ![4, 256, 128]⟩
abbrev S128x8 : Shape := ⟨2, ![128, 8]⟩
abbrev S128x8x64 : Shape := ⟨3, ![128, 8, 64]⟩
abbrev S128x512 : Shape := ⟨2, ![128, 512]⟩
abbrev S512x512 : Shape := ⟨2, ![512, 512]⟩
abbrev S512x3072 : Shape := ⟨2, ![512, 3072]⟩
abbrev S128x128 : Shape := ⟨2, ![128, 128]⟩
abbrev S1x256x128 : Shape := ⟨3, ![1, 256, 128]⟩
abbrev S256x128 : Shape := ⟨2, ![256, 128]⟩
abbrev S512 : Shape := ⟨1, ![512]⟩
abbrev S512x1 : Shape := ⟨2, ![512, 1]⟩

abbrev nBuf : Space → Nat
  | .hbm => 25
  | .vmem => 24
  | .smem => 0
  | _ => 0

abbrev bufTy : (tb : Table) → Fin (tcTables nBuf tb) → BufTy
  | .hbm, ⟨0, _⟩ => ⟨S16384x1024, .bf16⟩
  | .hbm, ⟨1, _⟩ => ⟨S16384x6144, .bf16⟩
  | .hbm, ⟨2, _⟩ => ⟨S16384x512, .f32⟩
  | .hbm, ⟨3, _⟩ => ⟨S16384x1024, .f32⟩
  | .hbm, ⟨4, _⟩ => ⟨S1024x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S8x128x128, .f32⟩
  | .hbm, ⟨9, _⟩ => ⟨S8x128, .f32⟩
  | .hbm, ⟨10, _⟩ => ⟨S1x1024, .f32⟩
  | .hbm, ⟨11, _⟩ => ⟨S1024, .f32⟩
  | .hbm, ⟨12, _⟩ => ⟨S1024, .f32⟩
  | .hbm, ⟨13, _⟩ => ⟨S8x128x128, .bf16⟩
  | .hbm, ⟨14, _⟩ => ⟨S4x256x128, .bf16⟩
  | .hbm, ⟨15, _⟩ => ⟨S128x8, .f32⟩
  | .hbm, ⟨16, _⟩ => ⟨S128x8x64, .f32⟩
  | .hbm, ⟨17, _⟩ => ⟨S128x512, .f32⟩
  | .hbm, ⟨18, _⟩ => ⟨S1024x1024, .bf16⟩
  | .hbm, ⟨19, _⟩ => ⟨S512x1024, .bf16⟩
  | .hbm, ⟨20, _⟩ => ⟨S512x1024, .bf16⟩
  | .hbm, ⟨21, _⟩ => ⟨S1024x1024, .bf16⟩
  | .hbm, ⟨22, _⟩ => ⟨S1x1024, .f32⟩
  | .hbm, ⟨23, _⟩ => ⟨S1x1024, .f32⟩
  | .hbm, ⟨24, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x3072, .bf16⟩
  | .local _ .vmem, ⟨9, _⟩ => ⟨S512x3072, .bf16⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S4x256x128, .bf16⟩
  | .local _ .vmem, ⟨17, _⟩ => ⟨S128x512, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S512x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S16384x1024 : Shape := ⟨2, ![16384, 1024]⟩
abbrev S16384x6144 : Shape := ⟨2, ![16384, 6144]⟩
abbrev S16384x512 : Shape := ⟨2, ![16384, 512]⟩
abbrev S1024x1024 : Shape := ⟨2, ![1024, 1024]⟩
abbrev S512x1024 : Shape := ⟨2, ![512, 1024]⟩
abbrev S8x128x128 : Shape := ⟨3, ![8, 128, 128]⟩
abbrev S8x128 : Shape := ⟨2, ![8, 128]⟩
abbrev S1x1024 : Shape := ⟨2, ![1, 1024]⟩
abbrev S1024 : Shape := ⟨1, ![1024]⟩
abbrev S128x128x8x64 : Shape := ⟨4, ![128, 128, 8, 64]⟩
abbrev S8x128x64x128 : Shape := ⟨4, ![8, 128, 64, 128]⟩
abbrev S128x8 : Shape := ⟨2, ![128, 8]⟩
abbrev S1x128x8x1 : Shape := ⟨4, ![1, 128, 8, 1]⟩
abbrev S16384x3072 : Shape := ⟨2, ![16384, 3072]⟩
abbrev S16384x3x1024 : Shape := ⟨3, ![16384, 3, 1024]⟩
abbrev S16384x1x1024 : Shape := ⟨3, ![16384, 1, 1024]⟩
abbrev S_ : Shape := ⟨0, ![]⟩
abbrev S16384 : Shape := ⟨1, ![16384]⟩
abbrev S16384x1 : Shape := ⟨2, ![16384, 1]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x6144, .bf16⟩
  | .hbm, ⟨2, _⟩ => ⟨S16384x512, .f32⟩
  | .hbm, ⟨3, _⟩ => ⟨S16384x1024, .f32⟩
  | .hbm, ⟨4, _⟩ => ⟨S1024x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S8x128x128, .f32⟩
  | .hbm, ⟨9, _⟩ => ⟨S8x128, .f32⟩
  | .hbm, ⟨10, _⟩ => ⟨S1x1024, .f32⟩
  | .hbm, ⟨11, _⟩ => ⟨S1024, .f32⟩
  | .hbm, ⟨12, _⟩ => ⟨S1024, .f32⟩
  | .hbm, ⟨13, _⟩ => ⟨S16384x6144, .f32⟩
  | .hbm, ⟨14, _⟩ => ⟨S16384x512, .f32⟩
  | .hbm, ⟨15, _⟩ => ⟨S16384x512, .f32⟩
  | .hbm, ⟨16, _⟩ => ⟨S128x128x8x64, .f32⟩
  | .hbm, ⟨17, _⟩ => ⟨S8x128x64x128, .f32⟩
  | .hbm, ⟨18, _⟩ => ⟨S128x128x8x64, .f32⟩
  | .hbm, ⟨19, _⟩ => ⟨S128x8, .f32⟩
  | .hbm, ⟨20, _⟩ => ⟨S1x128x8x1, .f32⟩
  | .hbm, ⟨21, _⟩ => ⟨S128x128x8x64, .f32⟩
  | .hbm, ⟨22, _⟩ => ⟨S128x128x8x64, .f32⟩
  | .hbm, ⟨23, _⟩ => ⟨S16384x512, .f32⟩
  | .hbm, ⟨24, _⟩ => ⟨S16384x512, .f32⟩
  | .hbm, ⟨25, _⟩ => ⟨S16384x3072, .f32⟩
  | .hbm, ⟨26, _⟩ => ⟨S16384x3x1024, .f32⟩
  | .hbm, ⟨27, _⟩ => ⟨S16384x1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S1x1024, .f32⟩
  | .hbm, ⟨73, _⟩ => ⟨S16384x1024, .f32⟩
  | .hbm, ⟨74, _⟩ => ⟨S16384x1024, .f32⟩
  | .hbm, ⟨75, _⟩ => ⟨S1x1024, .f32⟩
  | .hbm, ⟨76, _⟩ => ⟨S16384x1024, .f32⟩
  | .hbm, ⟨77, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_0 : Ref sig .tc := ⟨.hbm, 49, rfl⟩
abbrev main_v35 : Ref sig .tc := ⟨.hbm, 50, rfl⟩
abbrev main_v36 : Ref sig .tc := ⟨.hbm, 51, rfl⟩
abbrev main_cst_1 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_2 : Ref sig .tc := ⟨.hbm, 58, rfl⟩
abbrev main_v42 : Ref sig .tc := ⟨.hbm, 59, rfl⟩
abbrev main_v43 : Ref sig .tc := ⟨.hbm, 60, rfl⟩
abbrev main_cst_3 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Proof.Programs.lean ====
/-
  The attention kernel's body in few words. The body works through the keys in blocks: it stores one block's scores into
  a score buffer and takes the softmax weights and the weighted values of the block before out of the other. Here are the
  programs of these two acts, written once over the buffers they work on (`fill`, `absorb`, and their short forms for the
  context keys `fillCtx`, `absorbCtx`), of the set-up (`start`) and of the last division (`finish`); and the theorems that
  one trip of the loop, and the whole body, are these programs one after the other.
-/
module

public import proofs.«01_k».proof.Proof.Gen.KernelIdeal.Skeleton
public import Idealize.ShloMosaic.Lib.Pipeline.FrameBody
public import Idealize.ShloMosaic.Lib.Pipeline.Regions

@[expose] public section

noncomputable section

namespace Cert.Attn

open Cert.KernelIdeal Cert.KernelIdeal.Gen
open Idealize.ShloMosaic Idealize.SL.Sem

variable {F : FTy → Type} [FloatOps F]

/-! ## The values -/

/-- One number per row and lane. -/
abbrev Rows (F : FTy → Type) [FloatOps F] : Type := FVec F S1024x128 .f32

/-- Every row's largest element of `x` in each of its lanes, or the maximum `m` so far where that is larger. -/
def rowMax (x m : Rows F) : Rows F :=
  maximumf m (broadcastTo S1024x128 (shapeCast S1024x1
    (multiReduction .maximumf [1] S1024 x 0xFF800000#32 reduces_S1024x128_S1024 (.inl rfl) rfl) shapeCasts_S1024_S1024x1)
    broadcasts_S1024x1_S1024x128)

/-- The maximum after four groups of 128 scores; -/
def max4 (a b c d m : Rows F) : Rows F := rowMax (maximumf (maximumf (maximumf a b) c) d) m
/-- after two. -/
def max2 (a b m : Rows F) : Rows F := rowMax (maximumf a b) m
/-- The weights of a group of scores against the maximum `m`: two to the power of the difference. -/
def wt (s m : Rows F) : Rows F := exp2 (subf s m)
/-- The weights as they are stored for the product with the values. -/
def wtCast (s m : Rows F) : FVec F S1024x128 .bf16 :=
  shapeCast S1024x128 (truncf .bf16 (wt s m) bitsLt_bf16_f32) shapeCasts_S1024x128_S1024x128
/-- The same vector again, as it is handed to a store. -/
def same (x : Rows F) : Rows F := shapeCast S1024x128 x shapeCasts_S1024x128_S1024x128
/-- The scores of all rows against a block of 512 keys; -/
def scores (q : Vec F S1024x128 .bf16) (k : Vec F S512x128 .bf16) : FVec F S1024x512 .f32 :=
  shapeCast S1024x512 (matmul dot_S1024x128_S512x128_S1024x512_1_1_0_0_n_n none q
    (shapeCast S512x128 k shapeCasts_S512x128_S512x128 : FVec F S512x128 .bf16)
    (constant S1024x512 .f32 0x00000000#32)) shapeCasts_S1024x512_S1024x512
/-- against the 256 context keys. -/
def scoresCtx (q : Vec F S1024x128 .bf16) (k : Vec F S256x128 .bf16) : FVec F S1024x256 .f32 :=
  shapeCast S1024x256 (matmul dot_S1024x128_S256x128_S1024x256_1_1_0_0_n_n none q
    (shapeCast S256x128 k shapeCasts_S256x128_S256x128 : FVec F S256x128 .bf16)
    (constant S1024x256 .f32 0x00000000#32)) shapeCasts_S1024x256_S1024x256
/-- The sum of weights after four groups: the old sum rescaled to the new maximum, and the groups' weights lane by lane; -/
def sum4 (a b c d mo mn l : Rows F) : Rows F :=
  same (addf (mulf (wt mo mn) l) (addf (addf (addf (wt a mn) (wt b mn)) (wt c mn)) (wt d mn)))
/-- after two. -/
def sum2 (a b mo mn l : Rows F) : Rows F :=
  same (addf (mulf (wt mo mn) l) (addf (wt a mn) (wt b mn)))
/-- The weighted values after a block of 512: the old ones rescaled, and the block's; -/
def acc4 (p : Vec F S1024x512 .bf16) (v : Vec F S512x128 .bf16) (mo mn acc : Rows F) : Rows F :=
  same (addf (mulf (wt mo mn) acc) (matmul dot_S1024x512_S512x128_S1024x128_1_0_0_1_n_n none p
    (shapeCast S512x128 v shapeCasts_S512x128_S512x128 : FVec F S512x128 .bf16) (constant S1024x128 .f32 0x00000000#32)))
/-- after the 256 context values. -/
def acc2 (p : Vec F S1024x256 .bf16) (v : Vec F S256x128 .bf16) (mo mn acc : Rows F) : Rows F :=
  same (addf (mulf (wt mo mn) acc) (matmul dot_S1024x256_S256x128_S1024x128_1_0_0_1_n_n none p
    (shapeCast S256x128 v shapeCasts_S256x128_S256x128 : FVec F S256x128 .bf16) (constant S1024x128 .f32 0x00000000#32)))
/-- The weighted values over every row's sum of weights. -/
def quot (l acc : Rows F) : Rows F :=
  divf acc (broadcastTo S1024x128 (shapeCast S1024x1
    (multiReduction .add [1] S1024 l 0x00000000#32 reduces_S1024x128_S1024 (.inl rfl) rfl) shapeCasts_S1024_S1024x1)
    broadcasts_S1024x1_S1024x128)

/-! ## The programs -/

abbrev MK : Type := Memref sig .tc .vmem S16384x128 .bf16
abbrev MS : Type := Memref sig .tc .vmem S1024x512 .f32
abbrev MP : Type := Memref sig .tc .vmem S1024x512 .bf16
abbrev MR : Type := Memref sig .tc .vmem S1024x128 .f32
abbrev MQ : Type := Memref sig .tc .vmem S1024x128 .bf16
abbrev MC : Type := Memref sig .tc .vmem S256x128 .bf16
abbrev MO : Type := Memref sig .tc .vmem S256x512 .bf16
/-- A program of the kernel body. -/
abbrev Pr (F : FTy → Type) [FloatOps F] (α : Type) : Type _ := Prog (TpuEff nD τ sig (Elt F) Λ₀ .tc) α

/-- A whole buffer of rows read. -/
abbrev ldR (r : MR) : Pr F (Vec F S1024x128 .f32) :=
  Prog.lift (.load r (Rect.unit (s := S1024x128) ![0, 0] S1024x128.size inb_S1024x128_S1024x128_0_0).toLoadRect (View.loadsAt_vmem h_S1024x128))
/-- A whole buffer of rows stored. -/
abbrev stR (r : MR) (x : FVec F S1024x128 .f32) : Pr F PUnit :=
  Prog.lift (.store r (Rect.unit (s := S1024x128) ![0, 0] S1024x128.size inb_S1024x128_S1024x128_0_0) x Finset.univ (View.stores_vmem_bits_univ h_S1024x128 rfl) (.inl rfl))
/-- A group of 128 scores read. -/
abbrev ldS (s : MS) (off : Fin 2 → Nat) (h : ∀ a, off a + S1024x128.size a ≤ S1024x512.size a) : Pr F (Vec F S1024x128 .f32) :=
  Prog.lift (.load s (Rect.unit (s := S1024x512) off S1024x128.size h).toLoadRect (View.loadsAt_vmem h_S1024x128))
/-- A group of 128 weights read. -/
abbrev ldP (s : MP) (off : Fin 2 → Nat) (h : ∀ a, off a + S1024x128.size a ≤ S1024x512.size a) : Pr F (Vec F S1024x128 .bf16) :=
  Prog.lift (.load s (Rect.unit (s := S1024x512) off S1024x128.size h).toLoadRect (View.loadsAt_vmem h_S1024x128))
/-- A block of 512 keys or values read. -/
abbrev ldK (s : MK) (off : Fin 2 → Nat) (h : ∀ a, off a + S512x128.size a ≤ S16384x128.size a) : Pr F (Vec F S512x128 .bf16) :=
  Prog.lift (.load s (Rect.unit (s := S16384x128) off S512x128.size h).toLoadRect (View.loadsAt_vmem h_S512x128))
/-- The rows of queries read. -/
abbrev ldQ (q : MQ) : Pr F (Vec F S1024x128 .bf16) :=
  Prog.lift (.load q (Rect.unit (s := S1024x128) ![0, 0] S1024x128.size inb_S1024x128_S1024x128_0_0).toLoadRect (View.loadsAt_vmem h_S1024x128))
/-- The context's keys or values read. -/
abbrev ldC (q : MC) : Pr F (Vec F S256x128 .bf16) :=
  Prog.lift (.load q (Rect.unit (s := S256x128) ![0, 0] S256x128.size inb_S256x128_S256x128_0_0).toLoadRect (View.loadsAt_vmem h_S256x128))

/-- The scores of the block of keys at `off` stored into `s`. -/
def fill (k : MK) (qs : MQ) (s : MS) (off : Fin 2 → Nat) (h : ∀ a, off a + S512x128.size a ≤ S16384x128.size a) : Pr F PUnit := do
  let kb ← ldK k off h
  let q ← ldQ qs
  let _ : Vec F S1024x512 .f32 ← Prog.lift (.load s (Rect.unit (s := S1024x512) ![0, 0] S1024x512.size inb_S1024x512_S1024x512_0_0).toLoadRect (View.loadsAt_vmem h_S1024x512))
  Prog.lift (.store s (Rect.unit (s := S1024x512) ![0, 0] S1024x512.size inb_S1024x512_S1024x512_0_0) (scores q kb) Finset.univ (View.stores_vmem_bits_univ h_S1024x512 rfl) (.inl rfl))

/-- A group of weights stored. -/
abbrev stP (p : MP) (hp : p.IsWhole) (off : Fin 2 → Nat) (h : ∀ a, off a + S1024x128.size a ≤ S1024x512.size a)
    (hpk : (Rect.unit (s := S1024x512) off S1024x128.size h).PackedRows (EltTy.packing .bf16)) (x : FVec F S1024x128 .bf16) : Pr F PUnit :=
  Prog.lift (.store p (Rect.unit (s := S1024x512) off S1024x128.size h) x Finset.univ (View.stores_vmem h_S1024x128 (hp.storeExact_slice rfl _ hpk) (fun _ => rfl)) (.inl rfl))

/-- The block of scores in `s` and the block of values at `off` taken into the maximum, the sum and the weighted values. -/
def absorb (v : MK) (s : MS) (p : MP) (hp : p.IsWhole) (m l acc : MR) (off : Fin 2 → Nat)
    (h : ∀ a, off a + S512x128.size a ≤ S16384x128.size a) : Pr F PUnit := do
  let vb ← ldK v off h
  let a ← ldS s ![0, 0] inb_S1024x512_S1024x128_0_0
  let b ← ldS s ![0, 128] inb_S1024x512_S1024x128_0_128
  let c ← ldS s ![0, 256] inb_S1024x512_S1024x128_0_256
  let d ← ldS s ![0, 384] inb_S1024x512_S1024x128_0_384
  let mo ← ldR m
  let mn : Rows F := max4 a b c d mo
  let _ ← ldP p ![0, 0] inb_S1024x512_S1024x128_0_0
  stP p hp ![0, 0] inb_S1024x512_S1024x128_0_0 packedbf16_S1024x512_S1024x128_0_0 (wtCast a mn)
  let _ ← ldP p ![0, 128] inb_S1024x512_S1024x128_0_128
  stP p hp ![0, 128] inb_S1024x512_S1024x128_0_128 packedbf16_S1024x512_S1024x128_0_128 (wtCast b mn)
  let _ ← ldP p ![0, 256] inb_S1024x512_S1024x128_0_256
  stP p hp ![0, 256] inb_S1024x512_S1024x128_0_256 packedbf16_S1024x512_S1024x128_0_256 (wtCast c mn)
  let _ ← ldP p ![0, 384] inb_S1024x512_S1024x128_0_384
  stP p hp ![0, 384] inb_S1024x512_S1024x128_0_384 packedbf16_S1024x512_S1024x128_0_384 (wtCast d mn)
  let lo ← ldR l
  let _ ← ldR l
  stR l (sum4 a b c d mo mn lo)
  let _ ← ldR m
  stR m (same mn)
  let ao ← ldR acc
  let pw : Vec F S1024x512 .bf16 ← Prog.lift (.load p (Rect.unit (s := S1024x512) ![0, 0] S1024x512.size inb_S1024x512_S1024x512_0_0).toLoadRect (View.loadsAt_vmem h_S1024x512))
  let _ ← ldR acc
  stR acc (acc4 pw vb mo mn ao)

/-- The scores of the context keys stored into the first half of `s`. -/
def fillCtx (kc : MC) (qs : MQ) (s : MS) : Pr F PUnit := do
  let kb ← ldC kc
  let q ← ldQ qs
  let _ : Vec F S1024x256 .f32 ← Prog.lift (.load s (Rect.unit (s := S1024x512) ![0, 0] S1024x256.size inb_S1024x512_S1024x256_0_0).toLoadRect (View.loadsAt_vmem h_S1024x256))
  Prog.lift (.store s (Rect.unit (s := S1024x512) ![0, 0] S1024x256.size inb_S1024x512_S1024x256_0_0) (scoresCtx q kb) Finset.univ (View.stores_vmem_bits_univ h_S1024x256 rfl) (.inl rfl))

/-- The context's scores in the first half of `s` and its values taken into the maximum, the sum and the weighted values. -/
def absorbCtx (vc : MC) (s : MS) (p : MP) (hp : p.IsWhole) (m l acc : MR) : Pr F PUnit := do
  let vb ← ldC vc
  let a ← ldS s ![0, 0] inb_S1024x512_S1024x128_0_0
  let b ← ldS s ![0, 128] inb_S1024x512_S1024x128_0_128
  let mo ← ldR m
  let mn : Rows F := max2 a b mo
  let _ ← ldP p ![0, 0] inb_S1024x512_S1024x128_0_0
  stP p hp ![0, 0] inb_S1024x512_S1024x128_0_0 packedbf16_S1024x512_S1024x128_0_0 (wtCast a mn)
  let _ ← ldP p ![0, 128] inb_S1024x512_S1024x128_0_128
  stP p hp ![0, 128] inb_S1024x512_S1024x128_0_128 packedbf16_S1024x512_S1024x128_0_128 (wtCast b mn)
  let lo ← ldR l
  let _ ← ldR l
  stR l (sum2 a b mo mn lo)
  let _ ← ldR m
  stR m (same mn)
  let ao ← ldR acc
  let pw : Vec F S1024x256 .bf16 ← Prog.lift (.load p (Rect.unit (s := S1024x512) ![0, 0] S1024x256.size inb_S1024x512_S1024x256_0_0).toLoadRect (View.loadsAt_vmem h_S1024x256))
  let _ ← ldR acc
  stR acc (acc2 pw vb mo mn ao)

/-- One head's queries, as they are stored among the rows. -/
def head (x : Vec F S256x128 .bf16) : FVec F S256x128 .bf16 :=
  shapeCast S256x128 (shapeCast S256x128 x shapeCasts_S256x128_S256x128 : FVec F S256x128 .bf16) shapeCasts_S256x128_S256x128
/-- The same number everywhere. -/
def fillRows (w : BitVec 32) : Rows F := broadcast S1024x128 (Scalar.ofBits .f32 w : F .f32)

/-- The set-up: the four heads' queries one under the other, the maximum at minus infinity, the sum and the weighted
    values at zero. -/
def start (q : MO) (qs : MQ) (hqs : qs.IsWhole) (m l acc : MR) : Pr F PUnit := do
  let q0 : Vec F S256x128 .bf16 ← Prog.lift (.load q (Rect.unit (s := S256x512) ![0, 0] S256x128.size inb_S256x512_S256x128_0_0).toLoadRect (View.loadsAt_vmem h_S256x128))
  let _ : Vec F S256x128 .bf16 ← Prog.lift (.load qs (Rect.unit (s := S1024x128) ![0, 0] S256x128.size inb_S1024x128_S256x128_0_0).toLoadRect (View.loadsAt_vmem h_S256x128))
  Prog.lift (.store qs (Rect.unit (s := S1024x128) ![0, 0] S256x128.size inb_S1024x128_S256x128_0_0) (head q0) Finset.univ (View.stores_vmem h_S256x128 (hqs.storeExact_slice rfl _ packedbf16_S1024x128_S256x128_0_0) (fun _ => rfl)) (.inl rfl))
  let q1 : Vec F S256x128 .bf16 ← Prog.lift (.load q (Rect.unit (s := S256x512) ![0, 128] S256x128.size inb_S256x512_S256x128_0_128).toLoadRect (View.loadsAt_vmem h_S256x128))
  let _ : Vec F S256x128 .bf16 ← Prog.lift (.load qs (Rect.unit (s := S1024x128) ![256, 0] S256x128.size inb_S1024x128_S256x128_256_0).toLoadRect (View.loadsAt_vmem h_S256x128))
  Prog.lift (.store qs (Rect.unit (s := S1024x128) ![256, 0] S256x128.size inb_S1024x128_S256x128_256_0) (head q1) Finset.univ (View.stores_vmem h_S256x128 (hqs.storeExact_slice rfl _ packedbf16_S1024x128_S256x128_256_0) (fun _ => rfl)) (.inl rfl))
  let q2 : Vec F S256x128 .bf16 ← Prog.lift (.load q (Rect.unit (s := S256x512) ![0, 256] S256x128.size inb_S256x512_S256x128_0_256).toLoadRect (View.loadsAt_vmem h_S256x128))
  let _ : Vec F S256x128 .bf16 ← Prog.lift (.load qs (Rect.unit (s := S1024x128) ![512, 0] S256x128.size inb_S1024x128_S256x128_512_0).toLoadRect (View.loadsAt_vmem h_S256x128))
  Prog.lift (.store qs (Rect.unit (s := S1024x128) ![512, 0] S256x128.size inb_S1024x128_S256x128_512_0) (head q2) Finset.univ (View.stores_vmem h_S256x128 (hqs.storeExact_slice rfl _ packedbf16_S1024x128_S256x128_512_0) (fun _ => rfl)) (.inl rfl))
  let q3 : Vec F S256x128 .bf16 ← Prog.lift (.load q (Rect.unit (s := S256x512) ![0, 384] S256x128.size inb_S256x512_S256x128_0_384).toLoadRect (View.loadsAt_vmem h_S256x128))
  let _ : Vec F S256x128 .bf16 ← Prog.lift (.load qs (Rect.unit (s := S1024x128) ![768, 0] S256x128.size inb_S1024x128_S256x128_768_0).toLoadRect (View.loadsAt_vmem h_S256x128))
  Prog.lift (.store qs (Rect.unit (s := S1024x128) ![768, 0] S256x128.size inb_S1024x128_S256x128_768_0) (head q3) Finset.univ (View.stores_vmem h_S256x128 (hqs.storeExact_slice rfl _ packedbf16_S1024x128_S256x128_768_0) (fun _ => rfl)) (.inl rfl))
  let _ ← ldR m
  stR m (same (fillRows 0xFF800000#32))
  let _ ← ldR l
  stR l (same (fillRows 0x00000000#32))
  let _ ← ldR acc
  stR acc (same (fillRows 0x00000000#32))

/-- The rows of the first head out of the four, as they are stored; of the second, the third, the fourth. -/
def out0 (x : Rows F) : FVec F S256x128 .bf16 :=
  truncf .bf16 (extractStridedSlice S256x128 ![0, 0] x slices_S1024x128_o0_0_S256x128) bitsLt_bf16_f32
def out1 (x : Rows F) : FVec F S256x128 .bf16 :=
  truncf .bf16 (extractStridedSlice S256x128 ![256, 0] x slices_S1024x128_o256_0_S256x128) bitsLt_bf16_f32
def out2 (x : Rows F) : FVec F S256x128 .bf16 :=
  truncf .bf16 (extractStridedSlice S256x128 ![512, 0] x slices_S1024x128_o512_0_S256x128) bitsLt_bf16_f32
def out3 (x : Rows F) : FVec F S256x128 .bf16 :=
  truncf .bf16 (extractStridedSlice S256x128 ![768, 0] x slices_S1024x128_o768_0_S256x128) bitsLt_bf16_f32

/-- The weighted values divided by the sum of weights, and the heads stored side by side. -/
def finish (o : MO) (ho : o.IsWhole) (l acc : MR) : Pr F PUnit := do
  let lv ← ldR l
  let av ← ldR acc
  let _ : Vec F S256x128 .bf16 ← Prog.lift (.load o (Rect.unit (s := S256x512) ![0, 0] S256x128.size inb_S256x512_S256x128_0_0).toLoadRect (View.loadsAt_vmem h_S256x128))
  Prog.lift (.store o (Rect.unit (s := S256x512) ![0, 0] S256x128.size inb_S256x512_S256x128_0_0) (out0 (quot lv av)) Finset.univ (View.stores_vmem h_S256x128 (ho.storeExact_slice rfl _ packedbf16_S256x512_S256x128_0_0) (fun _ => rfl)) (.inl rfl))
  let _ : Vec F S256x128 .bf16 ← Prog.lift (.load o (Rect.unit (s := S256x512) ![0, 128] S256x128.size inb_S256x512_S256x128_0_128).toLoadRect (View.loadsAt_vmem h_S256x128))
  Prog.lift (.store o (Rect.unit (s := S256x512) ![0, 128] S256x128.size inb_S256x512_S256x128_0_128) (out1 (quot lv av)) Finset.univ (View.stores_vmem h_S256x128 (ho.storeExact_slice rfl _ packedbf16_S256x512_S256x128_0_128) (fun _ => rfl)) (.inl rfl))
  let _ : Vec F S256x128 .bf16 ← Prog.lift (.load o (Rect.unit (s := S256x512) ![0, 256] S256x128.size inb_S256x512_S256x128_0_256).toLoadRect (View.loadsAt_vmem h_S256x128))
  Prog.lift (.store o (Rect.unit (s := S256x512) ![0, 256] S256x128.size inb_S256x512_S256x128_0_256) (out2 (quot lv av)) Finset.univ (View.stores_vmem h_S256x128 (ho.storeExact_slice rfl _ packedbf16_S256x512_S256x128_0_256) (fun _ => rfl)) (.inl rfl))
  let _ : Vec F S256x128 .bf16 ← Prog.lift (.load o (Rect.unit (s := S256x512) ![0, 384] S256x128.size inb_S256x512_S256x128_0_384).toLoadRect (View.loadsAt_vmem h_S256x128))
  Prog.lift (.store o (Rect.unit (s := S256x512) ![0, 384] S256x128.size inb_S256x512_S256x128_0_384) (out3 (quot lv av)) Finset.univ (View.stores_vmem h_S256x128 (ho.storeExact_slice rfl _ packedbf16_S256x512_S256x128_0_384) (fun _ => rfl)) (.inl rfl))

/-! ## The body as these programs -/

/-- One trip of the loop: eight blocks. -/
def trip (k v : MK) (qs : MQ) (s0 s1 : MS) (p0 p1 : MP) (hp0 : p0.IsWhole) (hp1 : p1.IsWhole) (m l acc : MR)
    (t : Fin k0_t1_loop.trips) : Pr F Unit := do
  fill k qs s1 (k0_off1 t 0#32) (k0_off1_inb t 0)
  absorb v s0 p0 hp0 m l acc (k0_off2 t 0#32) (k0_off2_inb t 0)
  fill k qs s0 (k0_off1 t 1#32) (k0_off1_inb t 1)
  absorb v s1 p1 hp1 m l acc (k0_off2 t 1#32) (k0_off2_inb t 1)
  fill k qs s1 (k0_off1 t 2#32) (k0_off1_inb t 2)
  absorb v s0 p0 hp0 m l acc (k0_off2 t 2#32) (k0_off2_inb t 2)
  fill k qs s0 (k0_off1 t 3#32) (k0_off1_inb t 3)
  absorb v s1 p1 hp1 m l acc (k0_off2 t 3#32) (k0_off2_inb t 3)
  fill k qs s1 (k0_off1 t 4#32) (k0_off1_inb t 4)
  absorb v s0 p0 hp0 m l acc (k0_off2 t 4#32) (k0_off2_inb t 4)
  fill k qs s0 (k0_off1 t 5#32) (k0_off1_inb t 5)
  absorb v s1 p1 hp1 m l acc (k0_off2 t 5#32) (k0_off2_inb t 5)
  fill k qs s1 (k0_off1 t 6#32) (k0_off1_inb t 6)
  absorb v s0 p0 hp0 m l acc (k0_off2 t 6#32) (k0_off2_inb t 6)
  fill k qs s0 (k0_off1 t 7#32) (k0_off1_inb t 7)
  absorb v s1 p1 hp1 m l acc (k0_off2 t 7#32) (k0_off2_inb t 7)
  pure ()

/-- What comes after the loop: seven blocks, then the last block and the context. -/
def rest (kc vc : MC) (k v : MK) (o : MO) (ho : o.IsWhole) (qs : MQ) (s0 s1 : MS) (p0 p1 : MP) (hp0 : p0.IsWhole) (hp1 : p1.IsWhole)
    (m l acc : MR) : Pr F PUnit := do
  fill k qs s1 ![12800, 0] inb_S16384x128_S512x128_12800_0
  absorb v s0 p0 hp0 m l acc ![12288, 0] inb_S16384x128_S512x128_12288_0
  fill k qs s0 ![13312, 0] inb_S16384x128_S512x128_13312_0
  absorb v s1 p1 hp1 m l acc ![12800, 0] inb_S16384x128_S512x128_12800_0
  fill k qs s1 ![13824, 0] inb_S16384x128_S512x128_13824_0
  absorb v s0 p0 hp0 m l acc ![13312, 0] inb_S16384x128_S512x128_13312_0
  fill k qs s0 ![14336, 0] inb_S16384x128_S512x128_14336_0
  absorb v s1 p1 hp1 m l acc ![13824, 0] inb_S16384x128_S512x128_13824_0
  fill k qs s1 ![14848, 0] inb_S16384x128_S512x128_14848_0
  absorb v s0 p0 hp0 m l acc ![14336, 0] inb_S16384x128_S512x128_14336_0
  fill k qs s0 ![15360, 0] inb_S16384x128_S512x128_15360_0
  absorb v s1 p1 hp1 m l acc ![14848, 0] inb_S16384x128_S512x128_14848_0
  fill k qs s1 ![15872, 0] inb_S16384x128_S512x128_15872_0
  absorb v s0 p0 hp0 m l acc ![15360, 0] inb_S16384x128_S512x128_15360_0
  fillCtx kc qs s0
  absorb v s1 p1 hp1 m l acc ![15872, 0] inb_S16384x128_S512x128_15872_0
  absorbCtx vc s0 p0 hp0 m l acc
  finish o ho l acc

/-- The loop's region is `trip`. -/
theorem body_eq (i : grid0.Coords) (q : MO) (hq : q.IsWhole) (kc : MC) (hkc : kc.IsWhole) (vc : MC) (hvc : vc.IsWhole) (k : MK) (hk : k.IsWhole) (v : MK) (hv : v.IsWhole) (o : MO) (ho : o.IsWhole) (qs : MQ) (hqs : qs.IsWhole) (s0 : MS) (hs0 : s0.IsWhole) (s1 : MS) (hs1 : s1.IsWhole) (p0 : MP) (hp0 : p0.IsWhole) (p1 : MP) (hp1 : p1.IsWhole) (m : MR) (hm : m.IsWhole) (l : MR) (hl : l.IsWhole) (acc : MR) (hacc : acc.IsWhole) (z : FVec F S1024x128 .f32) :
    k0_t1_body i q hq kc hkc vc hvc k hk v hv o ho qs hqs s0 hs0 s1 hs1 p0 hp0 p1 hp1 m hm l hl acc hacc z = fun t _ => trip k v qs s0 s1 p0 p1 hp0 hp1 m l acc t := by
  chain_rfl

/-- The kernel body: the set-up, the first block's scores, the loop, and the rest. -/
theorem attn_eq (i : grid0.Coords) (q : MO) (hq : q.IsWhole) (kc : MC) (hkc : kc.IsWhole) (vc : MC) (hvc : vc.IsWhole) (k : MK) (hk : k.IsWhole) (v : MK) (hv : v.IsWhole) (o : MO) (ho : o.IsWhole) (qs : MQ) (hqs : qs.IsWhole) (s0 : MS) (hs0 : s0.IsWhole) (s1 : MS) (hs1 : s1.IsWhole) (p0 : MP) (hp0 : p0.IsWhole) (p1 : MP) (hp1 : p1.IsWhole) (m : MR) (hm : m.IsWhole) (l : MR) (hl : l.IsWhole) (acc : MR) (hacc : acc.IsWhole) :
    cc0_attn (F := F) i q hq kc hkc vc hvc k hk v hv o ho qs hqs s0 hs0 s1 hs1 p0 hp0 p1 hp1 m hm l hl acc hacc = (do
      start q qs hqs m l acc
      fill k qs s0 ![0, 0] inb_S16384x128_S512x128_0_0
      Scf.Loop.for k0_t1_loop k0_t1_ok ⟨⟩ (fun t _ => trip k v qs s0 s1 p0 p1 hp0 hp1 m l acc t)
      rest kc vc k v o ho qs s0 s1 p0 p1 hp0 hp1 m l acc) := by
  rw [cc0_attn_eq_skeleton, cc0_attn_skel, k0_part19_eq_skeleton]
  simp only [k0_part19_skel, Prog.bind_assoc]
  chain_rfl

end Cert.Attn

end
-- ==== Proof.Steps.lean ====
/-
  What each of the body's programs does to the buffers it works on (`Programs.lean`), the buffers named and nothing else
  assumed of them: every theorem takes the buffers at given contents, and hands them back at the contents after.
-/
module

public import proofs.«01_k».proof.Proof.Programs
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.ValueKit
public import Idealize.ShloMosaic.Lib.WritesUnit

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A buffer's contents, -/
abbrev Bf (F : FTy → Type) [FloatOps F] (c : Dev nD) {S : Shape} {e : EltTy} (M : Memref sig .tc .vmem S e) : Type :=
  Buf (Elt F) (M.view.loc (c : Thread nD τ))
/-- and the buffer held whole at them. -/
abbrev pt (c : Dev nD) {S : Shape} {e : EltTy} (M : Memref sig .tc .vmem S e) (f : Bf F c M) : sProp 𝕄 :=
  M.view.loc (c : Thread nD τ) ↦{fullShare} f

/-- A program run on core `c`. -/
abbrev run (c : Dev nD) {α : Type} (p : Pr F α) (Q : α → sProp 𝕄) : sProp 𝕄 :=
  wp frame (wpE (defs₀ (F := F)) Variants.none c none) Set.univ p Q

/-- The buffer held whole, reading `X`. -/
abbrev hold (c : Dev nD) {S : Shape} {e : EltTy} (M : Memref sig .tc .vmem S e) (X : S.Idx → Elt F e) : sProp 𝕄 :=
  iprop(∃ f : Bf F c M, ⌜M.view.read (Elt F) f = X⌝ ∗ pt c M f)
/-- The buffer held whole, whatever it reads. -/
abbrev some' (c : Dev nD) {S : Shape} {e : EltTy} (M : Memref sig .tc .vmem S e) : sProp 𝕄 :=
  iprop(∃ f : Bf F c M, pt c M f)

theorem hold_some (c : Dev nD) {S : Shape} {e : EltTy} (M : Memref sig .tc .vmem S e) (X : S.Idx → Elt F e) :
    hold c M X ⊢ some' (F := F) c M := by
  iintro ⟨%f, -, H⟩
  iexists f; iexact H

/-- A store of a whole buffer is what it then reads. -/
theorem read_store {S : Shape} {e : EltTy} (M : Memref sig .tc .vmem S e) {c : Dev nD} (f : Bf F c M) {off : Fin S.rank → Nat}
    (h0 : ∀ a, off a = 0) (inb : ∀ a, off a + S.size a ≤ S.size a) (w : S.Idx → Elt F e) (L) :
    M.view.read (Elt F) (M.view.writes (Elt F) f (⟨Rect.unit (s := S) off S.size inb, w⟩ :: L)) = w := by
  obtain rfl : off = fun _ => 0 := funext h0
  rw [View.read_writes_eq_canon _ _ _ (fun y => ⟨_, List.mem_cons_self, View.mem_set_unit_zero rfl inb y⟩),
    View.canon_cons_unit_zero rfl]
/-- A load of a whole buffer is what it reads. -/
theorem load_whole {S : Shape} {e : EltTy} (M : Memref sig .tc .vmem S e) {c : Dev nD} (f : Bf F c M) {off : Fin S.rank → Nat}
    (h0 : ∀ a, off a = 0) (inb : ∀ a, off a + S.size a ≤ S.size a) :
    M.view.readAt (Elt F) (Rect.unit (s := S) off S.size inb).toLoadRect f = M.view.read (Elt F) f := by
  obtain rfl : off = fun _ => 0 := funext h0
  rw [View.readAt_eq_ld, View.ld_unit_zero rfl]

/-! ## Groups and blocks of a buffer -/

/-- The four groups of 128 columns of a block of scores. -/
abbrev ra : Rect S1024x512 := Rect.unit (s := S1024x512) ![0, 0] S1024x128.size inb_S1024x512_S1024x128_0_0
abbrev rb : Rect S1024x512 := Rect.unit (s := S1024x512) ![0, 128] S1024x128.size inb_S1024x512_S1024x128_0_128
abbrev rc : Rect S1024x512 := Rect.unit (s := S1024x512) ![0, 256] S1024x128.size inb_S1024x512_S1024x128_0_256
abbrev rd : Rect S1024x512 := Rect.unit (s := S1024x512) ![0, 384] S1024x128.size inb_S1024x512_S1024x128_0_384
/-- The 512 keys or values at `off`. -/
abbrev blk (X : Vec F S16384x128 .bf16) (off : Fin 2 → Nat) (h : ∀ a, off a + S512x128.size a ≤ S16384x128.size a) :
    Vec F S512x128 .bf16 := View.ld X (Rect.unit (s := S16384x128) off S512x128.size h)

/-- One group of a block. -/
abbrev g0 (S : FVec F S1024x512 .f32) : Rows F := View.ld (Val := Elt F) (e' := .f32) S ra
abbrev g1 (S : FVec F S1024x512 .f32) : Rows F := View.ld (Val := Elt F) (e' := .f32) S rb
abbrev g2 (S : FVec F S1024x512 .f32) : Rows F := View.ld (Val := Elt F) (e' := .f32) S rc
abbrev g3 (S : FVec F S1024x512 .f32) : Rows F := View.ld (Val := Elt F) (e' := .f32) S rd

/-- The maximum after the block of scores `S`, the maximum before being `m`; -/
def newM (S : FVec F S1024x512 .f32) (m : Rows F) : Rows F :=
  max4 (g0 S) (g1 S) (g2 S) (g3 S) m
/-- the sum of weights; -/
def newL (S : FVec F S1024x512 .f32) (m l : Rows F) : Rows F :=
  sum4 (g0 S) (g1 S) (g2 S) (g3 S) m (newM S m) l
/-- the weights of the block, group by group; -/
def weights (S : FVec F S1024x512 .f32) (mn : Rows F) : Vec F S1024x512 .bf16 :=
  View.canon (Val := Elt F) (e := .bf16) [⟨rd, wtCast (g3 S) mn⟩, ⟨rc, wtCast (g2 S) mn⟩, ⟨rb, wtCast (g1 S) mn⟩,
    ⟨ra, wtCast (g0 S) mn⟩]
/-- the weighted values. -/
def newA (S : FVec F S1024x512 .f32) (v : Vec F S512x128 .bf16) (m acc : Rows F) : Rows F :=
  acc4 (weights S (newM S m)) v m (newM S m) acc

/-- The context's half of a block of scores, -/
abbrev rh : Rect S1024x512 := Rect.unit (s := S1024x512) ![0, 0] S1024x256.size inb_S1024x512_S1024x256_0_0
/-- the maximum, -/
def newM2 (a b m : Rows F) : Rows F := max2 a b m
/-- the sum of weights, -/
def newL2 (a b m l : Rows F) : Rows F := sum2 a b m (newM2 a b m) l
/-- the weights -/
def weights2 (a b mn : Rows F) : Vec F S1024x256 .bf16 :=
  View.ld (View.canon (Val := Elt F) (e := .bf16) [⟨rb, wtCast b mn⟩, ⟨ra, wtCast a mn⟩]) rh
/-- and the weighted values after it. -/
def newA2 (a b : Rows F) (v : Vec F S256x128 .bf16) (m acc : Rows F) : Rows F :=
  acc2 (weights2 a b (newM2 a b m)) v m (newM2 a b m) acc

/-- The four heads' queries one under the other. -/
def queries (X : Vec F S256x512 .bf16) : Vec F S1024x128 .bf16 :=
  View.canon (Val := Elt F) (e := .bf16)
   [⟨Rect.unit (s := S1024x128) ![768, 0] S256x128.size inb_S1024x128_S256x128_768_0,
      head (View.ld X (Rect.unit (s := S256x512) ![0, 384] S256x128.size inb_S256x512_S256x128_0_384))⟩,
    ⟨Rect.unit (s := S1024x128) ![512, 0] S256x128.size inb_S1024x128_S256x128_512_0,
      head (View.ld X (Rect.unit (s := S256x512) ![0, 256] S256x128.size inb_S256x512_S256x128_0_256))⟩,
    ⟨Rect.unit (s := S1024x128) ![256, 0] S256x128.size inb_S1024x128_S256x128_256_0,
      head (View.ld X (Rect.unit (s := S256x512) ![0, 128] S256x128.size inb_S256x512_S256x128_0_128))⟩,
    ⟨Rect.unit (s := S1024x128) ![0, 0] S256x128.size inb_S1024x128_S256x128_0_0,
      head (View.ld X (Rect.unit (s := S256x512) ![0, 0] S256x128.size inb_S256x512_S256x128_0_0))⟩]
/-- The rows of the four heads side by side. -/
def heads (x : Rows F) : Vec F S256x512 .bf16 :=
  View.canon (Val := Elt F) (e := .bf16)
   [⟨Rect.unit (s := S256x512) ![0, 384] S256x128.size inb_S256x512_S256x128_0_384, out3 x⟩,
    ⟨Rect.unit (s := S256x512) ![0, 256] S256x128.size inb_S256x512_S256x128_0_256, out2 x⟩,
    ⟨Rect.unit (s := S256x512) ![0, 128] S256x128.size inb_S256x512_S256x128_0_128, out1 x⟩,
    ⟨Rect.unit (s := S256x512) ![0, 0] S256x128.size inb_S256x512_S256x128_0_0, out0 x⟩]

/-- Four groups of 256 rows are all rows. -/
theorem rows_cover (w3 w2 w1 w0 : S256x128.Idx → Elt F .bf16) (y : S1024x128.Idx) :
    ∃ p ∈ ([⟨Rect.unit (s := S1024x128) ![768, 0] S256x128.size inb_S1024x128_S256x128_768_0, w3⟩,
      ⟨Rect.unit (s := S1024x128) ![512, 0] S256x128.size inb_S1024x128_S256x128_512_0, w2⟩,
      ⟨Rect.unit (s := S1024x128) ![256, 0] S256x128.size inb_S1024x128_S256x128_256_0, w1⟩,
      ⟨Rect.unit (s := S1024x128) ![0, 0] S256x128.size inb_S1024x128_S256x128_0_0, w0⟩] : List (View.Piece (Elt F) S1024x128 .bf16)),
      y ∈ p.1.set := by
  have h0 : (y 0).val < 1024 := (y 0).isLt
  have h1 : (y 1).val < 128 := (y 1).isLt
  rcases Nat.lt_or_ge (y 0).val 256 with h | h
  · refine ⟨_, List.mem_cons_of_mem _ (List.mem_cons_of_mem _ (List.mem_cons_of_mem _ List.mem_cons_self)), ?_⟩
    exact (Rect.mem_set_unit (inb := inb_S1024x128_S256x128_0_0)).mpr
      (Fin.forall_fin_two.mpr ⟨⟨Nat.zero_le _, by simpa using h⟩, ⟨Nat.zero_le _, by simpa using h1⟩⟩)
  rcases Nat.lt_or_ge (y 0).val 512 with h' | h'
  · refine ⟨_, List.mem_cons_of_mem _ (List.mem_cons_of_mem _ List.mem_cons_self), ?_⟩
    exact (Rect.mem_set_unit (inb := inb_S1024x128_S256x128_256_0)).mpr (Fin.forall_fin_two.mpr ⟨⟨h, h'⟩, ⟨Nat.zero_le _, by simpa using h1⟩⟩)
  rcases Nat.lt_or_ge (y 0).val 768 with h'' | h''
  · refine ⟨_, List.mem_cons_of_mem _ List.mem_cons_self, ?_⟩
    exact (Rect.mem_set_unit (inb := inb_S1024x128_S256x128_512_0)).mpr (Fin.forall_fin_two.mpr ⟨⟨h', h''⟩, ⟨Nat.zero_le _, by simpa using h1⟩⟩)
  · refine ⟨_, List.mem_cons_self, ?_⟩
    exact (Rect.mem_set_unit (inb := inb_S1024x128_S256x128_768_0)).mpr (Fin.forall_fin_two.mpr ⟨⟨h'', h0⟩, ⟨Nat.zero_le _, by simpa using h1⟩⟩)
/-- Four groups of 128 columns are all columns. -/
theorem cols_cover (w3 w2 w1 w0 : S256x128.Idx → Elt F .bf16) (y : S256x512.Idx) :
    ∃ p ∈ ([⟨Rect.unit (s := S256x512) ![0, 384] S256x128.size inb_S256x512_S256x128_0_384, w3⟩,
      ⟨Rect.unit (s := S256x512) ![0, 256] S256x128.size inb_S256x512_S256x128_0_256, w2⟩,
      ⟨Rect.unit (s := S256x512) ![0, 128] S256x128.size inb_S256x512_S256x128_0_128, w1⟩,
      ⟨Rect.unit (s := S256x512) ![0, 0] S256x128.size inb_S256x512_S256x128_0_0, w0⟩] : List (View.Piece (Elt F) S256x512 .bf16)),
      y ∈ p.1.set := by
  have h0 : (y 0).val < 256 := (y 0).isLt
  have h1 : (y 1).val < 512 := (y 1).isLt
  rcases Nat.lt_or_ge (y 1).val 128 with h | h
  · refine ⟨_, List.mem_cons_of_mem _ (List.mem_cons_of_mem _ (List.mem_cons_of_mem _ List.mem_cons_self)), ?_⟩
    exact (Rect.mem_set_unit (inb := inb_S256x512_S256x128_0_0)).mpr
      (Fin.forall_fin_two.mpr ⟨⟨Nat.zero_le _, by simpa using h0⟩, ⟨Nat.zero_le _, by simpa using h⟩⟩)
  rcases Nat.lt_or_ge (y 1).val 256 with h' | h'
  · refine ⟨_, List.mem_cons_of_mem _ (List.mem_cons_of_mem _ List.mem_cons_self), ?_⟩
    exact (Rect.mem_set_unit (inb := inb_S256x512_S256x128_0_128)).mpr (Fin.forall_fin_two.mpr ⟨⟨Nat.zero_le _, by simpa using h0⟩, ⟨h, h'⟩⟩)
  rcases Nat.lt_or_ge (y 1).val 384 with h'' | h''
  · refine ⟨_, List.mem_cons_of_mem _ List.mem_cons_self, ?_⟩
    exact (Rect.mem_set_unit (inb := inb_S256x512_S256x128_0_256)).mpr (Fin.forall_fin_two.mpr ⟨⟨Nat.zero_le _, by simpa using h0⟩, ⟨h', h''⟩⟩)
  · refine ⟨_, List.mem_cons_self, ?_⟩
    exact (Rect.mem_set_unit (inb := inb_S256x512_S256x128_0_384)).mpr (Fin.forall_fin_two.mpr ⟨⟨Nat.zero_le _, by simpa using h0⟩, ⟨h'', h1⟩⟩)

/-! ## The acts -/

theorem fill_run (c : Dev nD) (k : MK) (qs : MQ) (s : MS) (off : Fin 2 → Nat) (h : ∀ a, off a + S512x128.size a ≤ S16384x128.size a)
    (K : Vec F S16384x128 .bf16) (q : Vec F S1024x128 .bf16) (Q : PUnit → sProp 𝕄) :
    iprop(hold c k K ∗ hold c qs q ∗ some' c s ∗
      (iprop(hold c k K ∗ hold c qs q ∗ hold c s (scores q (blk K off h))) -∗ Q ⟨⟩))
    ⊢ run c (fill k qs s off h) Q := by
  unfold run fill ldK ldQ
  iintro ⟨⟨%fk, %hk, Hk⟩, ⟨%fq, %hq, Hq⟩, ⟨%fs, Hs⟩, HQ⟩
  sl_exec!
  sl_step
  iapply HQ
  isplitl [Hk]; · iexists fk; isplitr; (· ipureintro; exact hk); iexact Hk
  isplitl [Hq]; · iexists fq; isplitr; (· ipureintro; exact hq); iexact Hq
  iexists _
  isplitr; swap; (· iexact Hs)
  ipureintro
  rw [read_store _ _ (by decide)]
  subst hk hq
  rw [load_whole _ _ (by decide)]; rfl

theorem absorb_run (c : Dev nD) (v : MK) (s : MS) (p : MP) (hp : p.IsWhole) (m l acc : MR) (off : Fin 2 → Nat)
    (h : ∀ a, off a + S512x128.size a ≤ S16384x128.size a)
    (V : Vec F S16384x128 .bf16) (S : FVec F S1024x512 .f32) (M L A : Rows F) (Q : PUnit → sProp 𝕄) :
    iprop(hold c v V ∗ hold c s S ∗ some' c p ∗ hold c m M ∗ hold c l L ∗ hold c acc A ∗
      (iprop(hold c v V ∗ hold c s S ∗ some' c p ∗ hold c m (newM S M) ∗ hold c l (newL S M L) ∗ hold c acc (newA S (blk V off h) M A)) -∗ Q ⟨⟩))
    ⊢ run c (absorb v s p hp m l acc off h) Q := by
  unfold run absorb ldK ldS ldR ldP stP stR
  iintro ⟨⟨%fv, %hv, Hv⟩, ⟨%fs, %hs, Hs⟩, ⟨%fp, Hp⟩, ⟨%fm, %hm, Hm⟩, ⟨%fl, %hl, Hl⟩, ⟨%fa, %ha, Ha⟩, HQ⟩
  sl_exec!
  sl_step
  iapply HQ
  isplitl [Hv]; · iexists fv; isplitr; (· ipureintro; exact hv); iexact Hv
  isplitl [Hs]; · iexists fs; isplitr; (· ipureintro; exact hs); iexact Hs
  isplitl [Hp]; · iexists _; iexact Hp
  subst hv hs hm hl ha
  have hmn : absorb_run.sl.mn c s m fs fm = newM (s.view.read (Elt F) fs) (m.view.read (Elt F) fm) := by
    unfold absorb_run.sl.mn
    rw [load_whole _ _ (by decide)]; rfl
  rw [hmn]
  isplitl [Hm]
  · iexists _
    isplitr; swap; (· iexact Hm)
    ipureintro
    rw [read_store _ _ (by decide)]
    exact shapeCast_self _ _
  isplitl [Hl]
  · iexists _
    isplitr; swap; (· iexact Hl)
    ipureintro
    rw [read_store _ _ (by decide)]
    rw [load_whole _ _ (by decide), load_whole _ _ (by decide)]; rfl
  · iexists _
    isplitr; swap; (· iexact Ha)
    ipureintro
    rw [read_store _ _ (by decide)]
    rw [load_whole _ _ (by decide), load_whole _ _ (by decide)]
    unfold absorb_run.sl.pw
    rw [View.readCov_eq_canon', show (fun j => View.canon (absorb_run.sl.Hp_4 c s m fs fm) ((Rect.unit ![0, 0] S1024x512.size
        inb_S1024x512_S1024x512_0_0).toLoadRect.idx j)) = View.canon (absorb_run.sl.Hp_4 c s m fs fm) from
      View.ld_unit_lit inb_S1024x512_S1024x512_0_0 _ (by decide)]
    unfold absorb_run.sl.Hp_4
    rw [hmn]; rfl

theorem fillCtx_run (c : Dev nD) (kc : MC) (qs : MQ) (s : MS)
    (K : Vec F S256x128 .bf16) (q : Vec F S1024x128 .bf16) (Q : PUnit → sProp 𝕄) :
    iprop(hold c kc K ∗ hold c qs q ∗ some' c s ∗
      (iprop(hold c kc K ∗ hold c qs q ∗ ∃ X : FVec F S1024x512 .f32, ⌜View.ld (Val := Elt F) (e' := .f32) X rh = scoresCtx q K⌝ ∗ hold c s X) -∗ Q ⟨⟩))
    ⊢ run c (fillCtx kc qs s) Q := by
  unfold run fillCtx ldC ldQ
  iintro ⟨⟨%fk, %hk, Hk⟩, ⟨%fq, %hq, Hq⟩, ⟨%fs, Hs⟩, HQ⟩
  sl_exec!
  sl_step
  iapply HQ
  isplitl [Hk]; · iexists fk; isplitr; (· ipureintro; exact hk); iexact Hk
  isplitl [Hq]; · iexists fq; isplitr; (· ipureintro; exact hq); iexact Hq
  iexists _
  isplitr; swap
  · iexists _
    isplitr; swap; (· iexact Hs)
    ipureintro
    rfl
  ipureintro
  subst hk hq
  rw [load_whole _ _ (by decide), load_whole _ _ (by decide)]
  funext x
  refine View.read_writes_cons_unit_of_mem _ _ _ _ _ _ _ rfl fun a => ?_
  exact congrArg (_ + ·) (Nat.one_mul _)

theorem absorbCtx_run (c : Dev nD) (vc : MC) (s : MS) (p : MP) (hp : p.IsWhole) (m l acc : MR)
    (V : Vec F S256x128 .bf16) (S : FVec F S1024x512 .f32) (M L A : Rows F) (Q : PUnit → sProp 𝕄) :
    iprop(hold c vc V ∗ hold c s S ∗ some' c p ∗ hold c m M ∗ hold c l L ∗ hold c acc A ∗
      (iprop(hold c vc V ∗ hold c s S ∗ some' c p ∗ hold c m (newM2 (g0 S) (g1 S) M) ∗
        hold c l (newL2 (g0 S) (g1 S) M L) ∗ hold c acc (newA2 (g0 S) (g1 S) V M A)) -∗ Q ⟨⟩))
    ⊢ run c (absorbCtx vc s p hp m l acc) Q := by
  unfold run absorbCtx ldC ldS ldR ldP stP stR
  iintro ⟨⟨%fv, %hv, Hv⟩, ⟨%fs, %hs, Hs⟩, ⟨%fp, Hp⟩, ⟨%fm, %hm, Hm⟩, ⟨%fl, %hl, Hl⟩, ⟨%fa, %ha, Ha⟩, HQ⟩
  sl_exec!
  sl_step
  iapply HQ
  isplitl [Hv]; · iexists fv; isplitr; (· ipureintro; exact hv); iexact Hv
  isplitl [Hs]; · iexists fs; isplitr; (· ipureintro; exact hs); iexact Hs
  isplitl [Hp]; · iexists _; iexact Hp
  subst hv hs hm hl ha
  have hmn : absorbCtx_run.sl.mn c s m fs fm = newM2 (g0 (s.view.read (Elt F) fs)) (g1 (s.view.read (Elt F) fs)) (m.view.read (Elt F) fm) := by
    unfold absorbCtx_run.sl.mn
    rw [load_whole _ _ (by decide)]; rfl
  rw [hmn]
  isplitl [Hm]
  · iexists _
    isplitr; swap; (· iexact Hm)
    ipureintro
    rw [read_store _ _ (by decide)]
    exact shapeCast_self _ _
  isplitl [Hl]
  · iexists _
    isplitr; swap; (· iexact Hl)
    ipureintro
    rw [read_store _ _ (by decide)]
    rw [load_whole _ _ (by decide), load_whole _ _ (by decide)]; rfl
  · iexists _
    isplitr; swap; (· iexact Ha)
    ipureintro
    rw [read_store _ _ (by decide)]
    rw [load_whole _ _ (by decide), load_whole _ _ (by decide), load_whole _ _ (by decide)]
    unfold absorbCtx_run.sl.pw
    rw [View.readCov_eq_canon']
    unfold absorbCtx_run.sl.Hp_2
    rw [hmn]; rfl

theorem start_run (c : Dev nD) (q : MO) (qs : MQ) (hqs : qs.IsWhole) (m l acc : MR)
    (X : Vec F S256x512 .bf16) (Q : PUnit → sProp 𝕄) :
    iprop(hold c q X ∗ some' c qs ∗ some' c m ∗ some' c l ∗ some' c acc ∗
      (iprop(hold c q X ∗ hold c qs (queries X) ∗ hold c m (fillRows 0xFF800000#32) ∗ hold c l (fillRows 0x00000000#32) ∗
        hold c acc (fillRows 0x00000000#32)) -∗ Q ⟨⟩))
    ⊢ run c (start q qs hqs m l acc) Q := by
  unfold run start ldR stR
  iintro ⟨⟨%fo, %ho, Ho⟩, ⟨%fq, Hq⟩, ⟨%fm, Hm⟩, ⟨%fl, Hl⟩, ⟨%fa, Ha⟩, HQ⟩
  sl_exec!
  sl_step
  iapply HQ
  isplitl [Ho]; · iexists fo; isplitr; (· ipureintro; exact ho); iexact Ho
  subst ho
  isplitl [Hq]
  · iexists _
    isplitr; swap; (· iexact Hq)
    ipureintro
    unfold start_run.sl.Hq_4
    rw [View.read_writes_eq_canon _ _ _ (rows_cover _ _ _ _)]
    rfl
  isplitl [Hm]
  · iexists _
    isplitr; swap; (· iexact Hm)
    ipureintro
    rw [read_store _ _ (by decide)]; exact shapeCast_self _ _
  isplitl [Hl]
  · iexists _
    isplitr; swap; (· iexact Hl)
    ipureintro
    rw [read_store _ _ (by decide)]; exact shapeCast_self _ _
  · iexists _
    isplitr; swap; (· iexact Ha)
    ipureintro
    rw [read_store _ _ (by decide)]; exact shapeCast_self _ _

theorem finish_run (c : Dev nD) (o : MO) (ho : o.IsWhole) (l acc : MR) (L A : Rows F) (Q : PUnit → sProp 𝕄) :
    iprop(some' c o ∗ hold c l L ∗ hold c acc A ∗
      (iprop(hold c o (heads (quot L A)) ∗ hold c l L ∗ hold c acc A) -∗ Q ⟨⟩))
    ⊢ run c (finish o ho l acc) Q := by
  unfold run finish ldR
  iintro ⟨⟨%fo, Ho⟩, ⟨%fl, %hl, Hl⟩, ⟨%fa, %ha, Ha⟩, HQ⟩
  sl_exec!
  sl_step
  iapply HQ
  subst hl ha
  isplitl [Ho]
  · iexists _
    isplitr; swap; (· iexact Ho)
    ipureintro
    unfold finish_run.sl.Ho_4
    rw [View.read_writes_eq_canon _ _ _ (cols_cover _ _ _ _), load_whole _ _ (by decide), load_whole _ _ (by decide)]
    rfl
  isplitl [Hl]
  · iexists fl; isplitr; (· ipureintro; rfl); iexact Hl
  · iexists fa; isplitr; (· ipureintro; rfl); iexact Ha

end Cert.Attn

end
-- ==== Proof.Body.lean ====
/-
  One grid point's run of the attention body: what the acts of `Steps` leave one after the other. The keys and values are
  worked through in blocks of 512; `state n` is the maximum, the sum of weights and the weighted values after `n` blocks,
  and `result` is what the point leaves in its window of the output.
-/
module

public import proofs.«01_k».proof.Proof.Steps

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The values -/

theorem size_pos : ∀ a : Fin 2, 0 < S16384x128.size a := by decide

/-- Block `n` of 512 rows of the keys or values. -/
def part (X : Vec F S16384x128 .bf16) (n : Nat) : Vec F S512x128 .bf16 :=
  fun y => X fun a => ⟨((![512 * n, 0] : Fin 2 → Nat) a + (y a).val) % S16384x128.size a, Nat.mod_lt _ (size_pos a)⟩

theorem blk_eq (X : Vec F S16384x128 .bf16) (off : Fin 2 → Nat) (h : ∀ a, off a + S512x128.size a ≤ S16384x128.size a) (n : Nat)
    (e : off = ![512 * n, 0]) : blk X off h = part X n := by
  subst e
  funext y
  refine congrArg X (funext fun a => Fin.ext ?_)
  have hy : (y a).val < S512x128.size a := (y a).isLt
  have := h a
  show (![512 * n, 0] : Fin 2 → Nat) a + 1 * (y a).val = ((![512 * n, 0] : Fin 2 → Nat) a + (y a).val) % S16384x128.size a
  rw [Nat.one_mul, Nat.mod_eq_of_lt (by omega)]

/-- The maximum, the sum of weights and the weighted values. -/
structure St (F : FTy → Type) [FloatOps F] where
  m : Rows F
  l : Rows F
  acc : Rows F

/-- A block of scores and its values taken in. -/
def St.next (s : St F) (S : FVec F S1024x512 .f32) (v : Vec F S512x128 .bf16) : St F :=
  ⟨newM S s.m, newL S s.m s.l, newA S v s.m s.acc⟩
theorem inb_ctx0 : ∀ a, (![0, 0] : Fin 2 → Nat) a + S1024x128.size a ≤ S1024x256.size a := by decide
theorem inb_ctx1 : ∀ a, (![0, 128] : Fin 2 → Nat) a + S1024x128.size a ≤ S1024x256.size a := by decide
/-- The two groups of the context's scores. -/
def c0 (C : FVec F S1024x256 .f32) : Rows F := View.ld (Val := Elt F) (e' := .f32) C (Rect.unit (s := S1024x256) ![0, 0] S1024x128.size inb_ctx0)
def c1 (C : FVec F S1024x256 .f32) : Rows F := View.ld (Val := Elt F) (e' := .f32) C (Rect.unit (s := S1024x256) ![0, 128] S1024x128.size inb_ctx1)
theorem g0_eq (X : FVec F S1024x512 .f32) : g0 X = c0 (View.ld (Val := Elt F) (e' := .f32) X rh) := by
  funext y
  refine congrArg X (funext fun a => Fin.ext ?_)
  show (![0, 0] : Fin 2 → Nat) a + 1 * (y a).val = (![0, 0] : Fin 2 → Nat) a + 1 * ((![0, 0] : Fin 2 → Nat) a + 1 * (y a).val)
  revert a; exact Fin.forall_fin_two.mpr ⟨by simp, by simp⟩
theorem g1_eq (X : FVec F S1024x512 .f32) : g1 X = c1 (View.ld (Val := Elt F) (e' := .f32) X rh) := by
  funext y
  refine congrArg X (funext fun a => Fin.ext ?_)
  show (![0, 128] : Fin 2 → Nat) a + 1 * (y a).val = (![0, 0] : Fin 2 → Nat) a + 1 * ((![0, 128] : Fin 2 → Nat) a + 1 * (y a).val)
  revert a; exact Fin.forall_fin_two.mpr ⟨by simp, by simp⟩
/-- The context taken in. -/
def St.last (s : St F) (C : FVec F S1024x256 .f32) (v : Vec F S256x128 .bf16) : St F :=
  ⟨newM2 (c0 C) (c1 C) s.m, newL2 (c0 C) (c1 C) s.m s.l, newA2 (c0 C) (c1 C) v s.m s.acc⟩

/-- The state after `n` blocks of the keys `K` and values `V`. -/
def state (q : Vec F S1024x128 .bf16) (K V : Vec F S16384x128 .bf16) : Nat → St F
  | 0 => ⟨fillRows 0xFF800000#32, fillRows 0x00000000#32, fillRows 0x00000000#32⟩
  | n + 1 => (state q K V n).next (scores q (part K n)) (part V n)

/-! ## The invariant -/

/-- The buffers of one grid point. -/
structure Bufs where
  q : MO
  kc : MC
  vc : MC
  k : MK
  v : MK
  o : MO
  qs : MQ
  m : MR
  l : MR
  acc : MR
/-- What its windows hold. -/
structure Ins (F : FTy → Type) [FloatOps F] where
  X : Vec F S256x512 .bf16
  Kc : Vec F S256x128 .bf16
  Vc : Vec F S256x128 .bf16
  K : Vec F S16384x128 .bf16
  V : Vec F S16384x128 .bf16

/-- The input windows, as they are throughout; -/
def Wins (c : Dev nD) (b : Bufs) (x : Ins F) : sProp 𝕄 :=
  iprop(hold c b.q x.X ∗ hold c b.kc x.Kc ∗ hold c b.vc x.Vc ∗ hold c b.k x.K ∗ hold c b.v x.V)
/-- the rows of the state. -/
def Rws (c : Dev nD) (b : Bufs) (s : St F) : sProp 𝕄 := iprop(hold c b.m s.m ∗ hold c b.l s.l ∗ hold c b.acc s.acc)

/-- After `n` blocks: the scores of the next block wait in `s`. -/
def Inv (c : Dev nD) (b : Bufs) (x : Ins F) (n : Nat) (s s' : MS) (p p' : MP) : sProp 𝕄 :=
  iprop(Wins c b x ∗ some' c b.o ∗ hold c b.qs (queries x.X) ∗ hold c s (scores (queries x.X) (part x.K n)) ∗ some' c s' ∗
    some' c p ∗ some' c p' ∗ Rws c b (state (queries x.X) x.K x.V n))

/-- A block: the next one's scores into the other buffer, this one's weights and values taken in. -/
theorem step_run {α : Type} (c : Dev nD) (b : Bufs) (x : Ins F) (n : Nat) (s s' : MS) (p p' : MP) (hp : p.IsWhole)
    (off off' : Fin 2 → Nat) (h h') (e' : off' = ![512 * (n + 1), 0]) (e : off = ![512 * n, 0]) (more : Pr F α) (Q : α → sProp 𝕄)
    (hm : Inv c b x (n + 1) s' s p' p ⊢ run c more Q) :
    Inv c b x n s s' p p' ⊢ run c (do fill b.k b.qs s' off' h'; absorb b.v s p hp b.m b.l b.acc off h; more) Q := by
  unfold run at hm ⊢
  rw [wp_bind]
  unfold Inv Wins Rws
  iintro ⟨⟨Hx, Hkc, Hvc, Hk, Hv⟩, Ho, Hqs, Hs, Hs', Hp, Hp', Hm, Hl, Ha⟩
  iapply (fill_run c b.k b.qs s' off' h' x.K (queries x.X))
  isplitl [Hk]; · iexact Hk
  isplitl [Hqs]; · iexact Hqs
  isplitl [Hs']; · iexact Hs'
  iintro ⟨Hk, Hqs, Hs'⟩
  rw [wp_bind]
  iapply (absorb_run c b.v s p hp b.m b.l b.acc off h x.V)
  isplitl [Hv]; · iexact Hv
  isplitl [Hs]; · iexact Hs
  isplitl [Hp]; · iexact Hp
  isplitl [Hm]; · iexact Hm
  isplitl [Hl]; · iexact Hl
  isplitl [Ha]; · iexact Ha
  iintro ⟨Hv, Hs, Hp, Hm, Hl, Ha⟩
  iapply hm
  unfold Inv Wins Rws
  rw [blk_eq _ _ _ _ e, blk_eq _ _ _ _ e']
  isplitl [Hx Hkc Hvc Hk Hv]
  · isplitl [Hx]; · iexact Hx
    isplitl [Hkc]; · iexact Hkc
    isplitl [Hvc]; · iexact Hvc
    isplitl [Hk]; · iexact Hk
    iexact Hv
  isplitl [Ho]; · iexact Ho
  isplitl [Hqs]; · iexact Hqs
  isplitl [Hs']; · iexact Hs'
  isplitl [Hs]; · iapply (hold_some c s); iexact Hs
  isplitl [Hp']; · iexact Hp'
  isplitl [Hp]; · iexact Hp
  isplitl [Hm]; · iexact Hm
  isplitl [Hl]; · iexact Hl
  iexact Ha

/-- What one grid point leaves in its window of the output. -/
def result (x : Ins F) : Vec F S256x512 .bf16 :=
  let s := (state (queries x.X) x.K x.V 32).last (scoresCtx (queries x.X) x.Kc) x.Vc
  heads (quot s.l s.acc)

/-- The scratch buffers, whatever they hold. -/
def Scr (c : Dev nD) (b : Bufs) (s0 s1 : MS) (p0 p1 : MP) : sProp 𝕄 :=
  iprop(some' (F := F) c b.qs ∗ some' (F := F) c s0 ∗ some' (F := F) c s1 ∗ some' (F := F) c p0 ∗ some' (F := F) c p1 ∗
    some' (F := F) c b.m ∗ some' (F := F) c b.l ∗ some' (F := F) c b.acc)

/-- The end of the body: the last block, the context, the division. -/
theorem end_run (c : Dev nD) (b : Bufs) (ho : b.o.IsWhole) (x : Ins F) (s0 s1 : MS) (p0 p1 : MP) (hp0 : p0.IsWhole) (hp1 : p1.IsWhole) :
    Inv c b x 31 s1 s0 p1 p0 ⊢ run c (do
        fillCtx b.kc b.qs s0
        absorb b.v s1 p1 hp1 b.m b.l b.acc ![15872, 0] inb_S16384x128_S512x128_15872_0
        absorbCtx b.vc s0 p0 hp0 b.m b.l b.acc
        finish b.o ho b.l b.acc)
      (fun _ => iprop(Wins c b x ∗ hold c b.o (result x) ∗ Scr (F := F) c b s0 s1 p0 p1)) := by
  unfold run
  rw [wp_bind]
  unfold Inv Wins Rws
  iintro ⟨⟨Hx, Hkc, Hvc, Hk, Hv⟩, Ho, Hqs, Hs, Hs', Hp, Hp', Hm, Hl, Ha⟩
  iapply (fillCtx_run c b.kc b.qs s0 x.Kc (queries x.X))
  isplitl [Hkc]; · iexact Hkc
  isplitl [Hqs]; · iexact Hqs
  isplitl [Hs']; · iexact Hs'
  iintro ⟨Hkc, Hqs, %C, %hC, Hs'⟩
  rw [wp_bind]
  iapply (absorb_run c b.v s1 p1 hp1 b.m b.l b.acc ![15872, 0] inb_S16384x128_S512x128_15872_0 x.V)
  isplitl [Hv]; · iexact Hv
  isplitl [Hs]; · iexact Hs
  isplitl [Hp]; · iexact Hp
  isplitl [Hm]; · iexact Hm
  isplitl [Hl]; · iexact Hl
  isplitl [Ha]; · iexact Ha
  iintro ⟨Hv, Hs, Hp, Hm, Hl, Ha⟩
  rw [wp_bind]
  iapply (absorbCtx_run c b.vc s0 p0 hp0 b.m b.l b.acc x.Vc C)
  isplitl [Hvc]; · iexact Hvc
  isplitl [Hs']; · iexact Hs'
  isplitl [Hp']; · iexact Hp'
  isplitl [Hm]; · iexact Hm
  isplitl [Hl]; · iexact Hl
  isplitl [Ha]; · iexact Ha
  iintro ⟨Hvc, Hs', Hp', Hm, Hl, Ha⟩
  iapply (finish_run c b.o ho b.l b.acc)
  isplitl [Ho]; · iexact Ho
  isplitl [Hl]; · iexact Hl
  isplitl [Ha]; · iexact Ha
  iintro ⟨Ho, Hl, Ha⟩
  isplitl [Hx Hkc Hvc Hk Hv]
  · isplitl [Hx]; · iexact Hx
    isplitl [Hkc]; · iexact Hkc
    isplitl [Hvc]; · iexact Hvc
    isplitl [Hk]; · iexact Hk
    iexact Hv
  isplitl [Ho]
  · rw [blk_eq _ _ _ 31 rfl, g0_eq, g1_eq, hC]
    iexact Ho
  unfold Scr
  isplitl [Hqs]; · iapply (hold_some c b.qs); iexact Hqs
  isplitl [Hs']; · iapply (hold_some c s0); iexact Hs'
  isplitl [Hs]; · iapply (hold_some c s1); iexact Hs
  isplitl [Hp']; · iexact Hp'
  isplitl [Hp]; · iexact Hp
  isplitl [Hm]; · iapply (hold_some c b.m); iexact Hm
  isplitl [Hl]; · iapply (hold_some c b.l); iexact Hl
  iapply (hold_some c b.acc); iexact Ha

/-- One trip of the loop takes in eight blocks. -/
theorem trip_run (c : Dev nD) (b : Bufs) (x : Ins F) (s0 s1 : MS) (p0 p1 : MP) (hp0 : p0.IsWhole) (hp1 : p1.IsWhole)
    (t : Fin k0_t1_loop.trips) :
    Inv c b x (8 * t.val) s0 s1 p0 p1 ⊢ run c (trip b.k b.v b.qs s0 s1 p0 p1 hp0 hp1 b.m b.l b.acc t)
      (fun _ => Inv c b x (8 * (t.val + 1)) s0 s1 p0 p1) := by
  have e (u : Fin 8) : k0_off1 t (BitVec.ofNat 32 u.val) = ![512 * (8 * t.val + u.val + 1), 0] := by
    rw [k0_off1_eq]; congr 1; omega
  have e' (u : Fin 8) : k0_off2 t (BitVec.ofNat 32 u.val) = ![512 * (8 * t.val + u.val), 0] := by
    rw [k0_off2_eq]; congr 1; omega
  unfold trip
  refine step_run c b x (8 * t.val) s0 s1 p0 p1 hp0 _ _ _ _ (e 0) (e' 0) _ _ ?_
  refine step_run c b x (8 * t.val + 1) s1 s0 p1 p0 hp1 _ _ _ _ (e 1) (e' 1) _ _ ?_
  refine step_run c b x (8 * t.val + 2) s0 s1 p0 p1 hp0 _ _ _ _ (e 2) (e' 2) _ _ ?_
  refine step_run c b x (8 * t.val + 3) s1 s0 p1 p0 hp1 _ _ _ _ (e 3) (e' 3) _ _ ?_
  refine step_run c b x (8 * t.val + 4) s0 s1 p0 p1 hp0 _ _ _ _ (e 4) (e' 4) _ _ ?_
  refine step_run c b x (8 * t.val + 5) s1 s0 p1 p0 hp1 _ _ _ _ (e 5) (e' 5) _ _ ?_
  refine step_run c b x (8 * t.val + 6) s0 s1 p0 p1 hp0 _ _ _ _ (e 6) (e' 6) _ _ ?_
  refine step_run c b x (8 * t.val + 7) s1 s0 p1 p0 hp1 _ _ _ _ (e 7) (e' 7) _ _ ?_
  unfold run
  iintro H
  sl_step
  iexact H

/-- What comes after the loop. -/
theorem rest_run (c : Dev nD) (b : Bufs) (ho : b.o.IsWhole) (x : Ins F) (s0 s1 : MS) (p0 p1 : MP) (hp0 : p0.IsWhole) (hp1 : p1.IsWhole) :
    Inv c b x 24 s0 s1 p0 p1 ⊢ run c (rest b.kc b.vc b.k b.v b.o ho b.qs s0 s1 p0 p1 hp0 hp1 b.m b.l b.acc)
      (fun _ => iprop(Wins c b x ∗ hold c b.o (result x) ∗ Scr (F := F) c b s0 s1 p0 p1)) := by
  unfold rest
  refine step_run c b x 24 s0 s1 p0 p1 hp0 _ _ _ _ rfl rfl _ _ ?_
  refine step_run c b x 25 s1 s0 p1 p0 hp1 _ _ _ _ rfl rfl _ _ ?_
  refine step_run c b x 26 s0 s1 p0 p1 hp0 _ _ _ _ rfl rfl _ _ ?_
  refine step_run c b x 27 s1 s0 p1 p0 hp1 _ _ _ _ rfl rfl _ _ ?_
  refine step_run c b x 28 s0 s1 p0 p1 hp0 _ _ _ _ rfl rfl _ _ ?_
  refine step_run c b x 29 s1 s0 p1 p0 hp1 _ _ _ _ rfl rfl _ _ ?_
  refine step_run c b x 30 s0 s1 p0 p1 hp0 _ _ _ _ rfl rfl _ _ ?_
  exact end_run c b ho x s0 s1 p0 p1 hp0 hp1

/-- The kernel body: the windows read, the output's window left at `result`, the scratch buffers left somehow. -/
theorem attn_run (c : Dev nD) (i : grid0.Coords) (b : Bufs) (x : Ins F) (s0 s1 : MS) (p0 p1 : MP)
    (hq : b.q.IsWhole) (hkc : b.kc.IsWhole) (hvc : b.vc.IsWhole) (hk : b.k.IsWhole) (hv : b.v.IsWhole) (ho : b.o.IsWhole)
    (hqs : b.qs.IsWhole) (hs0 : s0.IsWhole) (hs1 : s1.IsWhole) (hp0 : p0.IsWhole) (hp1 : p1.IsWhole)
    (hm : b.m.IsWhole) (hl : b.l.IsWhole) (ha : b.acc.IsWhole) :
    iprop(Wins c b x ∗ some' c b.o ∗ Scr (F := F) c b s0 s1 p0 p1)
    ⊢ run c (cc0_attn (F := F) i b.q hq b.kc hkc b.vc hvc b.k hk b.v hv b.o ho b.qs hqs s0 hs0 s1 hs1 p0 hp0 p1 hp1 b.m hm b.l hl b.acc ha)
      (fun _ => iprop(Wins c b x ∗ hold c b.o (result x) ∗ Scr (F := F) c b s0 s1 p0 p1)) := by
  rw [attn_eq]
  unfold run
  rw [wp_bind]
  unfold Wins Scr
  iintro ⟨⟨Hx, Hkc, Hvc, Hk, Hv⟩, Ho, Hqs, Hs0, Hs1, Hp0, Hp1, Hm, Hl, Ha⟩
  iapply (start_run c b.q b.qs hqs b.m b.l b.acc x.X)
  isplitl [Hx]; · iexact Hx
  isplitl [Hqs]; · iexact Hqs
  isplitl [Hm]; · iexact Hm
  isplitl [Hl]; · iexact Hl
  isplitl [Ha]; · iexact Ha
  iintro ⟨Hx, Hqs, Hm, Hl, Ha⟩
  rw [wp_bind]
  iapply (fill_run c b.k b.qs s0 ![0, 0] inb_S16384x128_S512x128_0_0 x.K (queries x.X))
  isplitl [Hk]; · iexact Hk
  isplitl [Hqs]; · iexact Hqs
  isplitl [Hs0]; · iexact Hs0
  iintro ⟨Hk, Hqs, Hs0⟩
  rw [blk_eq _ _ _ 0 rfl]
  iapply (Scf.wp_for_bind frame (wpE (defs₀ (F := F)) Variants.none c none) Set.univ _ _ _ _ _ _ (fun n _ => Inv c b x (8 * n) s0 s1 p0 p1)
    (fun t _ => trip_run c b x s0 s1 p0 p1 hp0 hp1 t)) $$ [Hx Hkc Hvc Hk Hv Ho Hqs Hs0 Hs1 Hp0 Hp1 Hm Hl Ha]
  · unfold Inv Wins Rws
    isplitl [Hx Hkc Hvc Hk Hv]
    · isplitl [Hx]; · iexact Hx
      isplitl [Hkc]; · iexact Hkc
      isplitl [Hvc]; · iexact Hvc
      isplitl [Hk]; · iexact Hk
      iexact Hv
    isplitl [Ho]; · iexact Ho
    isplitl [Hqs]; · iexact Hqs
    isplitl [Hs0]; · iexact Hs0
    isplitl [Hs1]; · iexact Hs1
    isplitl [Hp0]; · iexact Hp0
    isplitl [Hp1]; · iexact Hp1
    isplitl [Hm]; · iexact Hm
    isplitl [Hl]; · iexact Hl
    iexact Ha
  iintro %z H
  iapply (rest_run c b ho x s0 s1 p0 p1 hp0 hp1)
  iexact H

end Cert.Attn

end
-- ==== Proof.Softmax.lean ====
/-
  The mathematics of the running softmax, over the extended reals. A sum of weights `2 ^ (s − M)` and the weighted sum of the
  values keep their form when the base `M` moves to another number, whatever that number is; and the quotient of the two is the
  softmax's mean of the values at any base.
-/
module

public import Idealize.ShloMosaic.PureOps.Ideal

@[expose] public section

noncomputable section

namespace Cert.Attn

open Idealize.ShloMosaic

/-- A real number, among the extended reals. -/
def IsReal (x : EReal) : Prop := ∃ r : ℝ, x = r

theorem IsReal.coe (r : ℝ) : IsReal (r : EReal) := ⟨r, rfl⟩

theorem isReal_of_ne {x : EReal} (h : x ≠ ⊤) (h' : x ≠ ⊥) : IsReal x := ⟨x.toReal, (EReal.coe_toReal h h').symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.sum {ι : Type} (s : Finset ι) {f : ι → EReal} (h : ∀ i ∈ s, IsReal (f i)) : IsReal (∑ i ∈ s, f i) := by
  induction s using Finset.cons_induction with
  | empty => exact ⟨0, by simp⟩
  | cons a s ha ih =>
    rw [Finset.sum_cons]
    exact (h a (Finset.mem_cons_self a s)).add (ih fun i hi => h i (Finset.mem_cons_of_mem hi))

/-- The greatest of some reals is a real, where there is one. -/
theorem IsReal.fold_max {ι : Type} (s : Finset ι) {f : ι → EReal} (h : ∀ i ∈ s, IsReal (f i)) :
    s.fold Max.max ⊥ f = ⊥ ∨ IsReal (s.fold Max.max ⊥ f) := by
  induction s using Finset.cons_induction with
  | empty => exact .inl (by simp)
  | cons a s ha ih =>
    rw [Finset.fold_cons]
    refine .inr ?_
    rcases ih fun i hi => h i (Finset.mem_cons_of_mem hi) with e | e
    · rw [e, max_eq_left bot_le]
      exact h a (Finset.mem_cons_self a s)
    · exact (h a (Finset.mem_cons_self a s)).max e

theorem IsReal.fold_max_univ {n : ℕ} {f : Fin (n + 1) → EReal} (h : ∀ i, IsReal (f i)) :
    IsReal (Finset.univ.fold Max.max ⊥ f) := by
  rcases IsReal.fold_max Finset.univ (fun i _ => h i) with e | e
  · have hle : f 0 ≤ Finset.univ.fold Max.max ⊥ f := (Finset.le_fold_max (f 0)).mpr (.inr ⟨0, Finset.mem_univ 0, le_rfl⟩)
    rw [e] at hle
    obtain ⟨r, hr⟩ := h 0
    rw [hr] at hle
    exact absurd (le_bot_iff.mp hle) (EReal.coe_ne_bot r)
  · exact e

/-- A factor that is a nonnegative real goes through a sum of any extended reals. -/
theorem mul_sum {ι : Type} (s : Finset ι) (f : ι → EReal) {c : ℝ} (hc : 0 ≤ c) :
    (c : EReal) * ∑ i ∈ s, f i = ∑ i ∈ s, (c : EReal) * f i := by
  induction s using Finset.cons_induction with
  | empty => simp
  | cons a s ha ih =>
    rw [Finset.sum_cons, Finset.sum_cons, ← ih,
      EReal.left_distrib_of_nonneg_of_ne_top (EReal.coe_nonneg.mpr hc) (EReal.coe_ne_top c)]

/-- The sum of some reals, as one. -/
theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- The weight of a score `s` at the base `M`. -/
def weight (s M : EReal) : EReal := Ideal.exp2 (s - M)

theorem weight_coe (s M : ℝ) : weight s M = (((2 : ℝ) ^ (s - M) : ℝ) : EReal) := by
  unfold weight
  rw [← EReal.coe_sub, Ideal.exp2_coe]
  rfl

theorem weight_bot {M : EReal} (hM : IsReal M) : weight ⊥ M = 0 := by
  obtain ⟨r, rfl⟩ := hM
  unfold weight
  rw [EReal.bot_sub, Ideal.exp2_bot]

/-- Moving the base: the weights at the old base times the old base's weight at the new one are the weights at the new. The
    base before the first block is `⊥`, and there is nothing to move. -/
theorem rescale {ι : Type} (s : Finset ι) (S : ι → EReal) (hS : ∀ i ∈ s, IsReal (S i)) (v : ι → EReal) {M M' : EReal}
    (hM : (s = ∅ ∧ M = ⊥) ∨ IsReal M) (hM' : IsReal M') :
    weight M M' * ∑ i ∈ s, weight (S i) M * v i = ∑ i ∈ s, weight (S i) M' * v i := by
  obtain ⟨b, rfl⟩ := hM'
  rcases hM with ⟨rfl, rfl⟩ | ⟨a, rfl⟩
  · simp
  rw [weight_coe, mul_sum s _ (Real.rpow_nonneg (by norm_num) _)]
  refine Finset.sum_congr rfl fun i hi => ?_
  obtain ⟨x, hx⟩ := hS i hi
  rw [hx, weight_coe, weight_coe, ← mul_assoc, ← EReal.coe_mul]
  rw [← Real.rpow_add (by norm_num : (0 : ℝ) < 2), show a - b + (x - a) = x - b by ring]

/-- The same for the sum of the weights alone. -/
theorem rescale_one {ι : Type} (s : Finset ι) (S : ι → EReal) (hS : ∀ i ∈ s, IsReal (S i)) {M M' : EReal}
    (hM : (s = ∅ ∧ M = ⊥) ∨ IsReal M) (hM' : IsReal M') :
    weight M M' * ∑ i ∈ s, weight (S i) M = ∑ i ∈ s, weight (S i) M' := by
  have := rescale s S hS (fun _ => 1) hM hM'
  simpa only [mul_one] using this

/-- The mean of the values by the weights `2 ^ (s − a)` is their mean by the softmax of the scores `t = s · log 2`, taken at
    any base `b`: the bases' factors cancel. -/
theorem mean_eq {ι : Type} (J : Finset ι) (hJ : J.Nonempty) (s t : ι → ℝ) (v : ι → EReal) (hst : ∀ j ∈ J, t j = Real.log 2 * s j)
    (a b : ℝ) :
    Ideal.div (∑ j ∈ J, weight (s j) a * v j) (∑ j ∈ J, weight (s j) a)
      = ∑ j ∈ J, v j * Ideal.div (Ideal.exp ((t j : EReal) - b)) (∑ i ∈ J, Ideal.exp ((t i : EReal) - b)) := by
  set C : ℝ := Real.exp (b - Real.log 2 * a) with hC
  have hCpos : 0 < C := Real.exp_pos _
  have hw : ∀ j ∈ J, weight (s j) a = ((C * Real.exp (t j - b) : ℝ) : EReal) := fun j hj => by
    rw [weight_coe, hC, hst j hj, ← Real.exp_add]
    congr 1
    rw [Real.rpow_def_of_pos (by norm_num)]
    congr 1
    ring
  set L : ℝ := ∑ j ∈ J, Real.exp (t j - b) with hL
  have hLpos : 0 < L := Finset.sum_pos (fun j _ => Real.exp_pos _) hJ
  have hLs : ∑ i ∈ J, Ideal.exp ((t i : EReal) - b) = (L : EReal) := by
    rw [hL, coe_sum]
    exact Finset.sum_congr rfl fun i _ => by rw [← EReal.coe_sub, Ideal.exp_coe]
  have hden : ∑ j ∈ J, weight (s j) a = ((C * L : ℝ) : EReal) := by
    rw [Finset.sum_congr rfl hw, ← coe_sum, hL, Finset.mul_sum]
  have hnum : ∑ j ∈ J, weight (s j) a * v j = (C : EReal) * ∑ j ∈ J, ((Real.exp (t j - b) : ℝ) : EReal) * v j := by
    rw [mul_sum J _ hCpos.le]
    exact Finset.sum_congr rfl fun j hj => by rw [hw j hj, EReal.coe_mul, mul_assoc]
  rw [hden, hnum, Ideal.div_coe (mul_pos hCpos hLpos).ne', hLs, mul_comm, ← mul_assoc, ← EReal.coe_mul,
    show 1 / (C * L) * C = 1 / L by field_simp, mul_sum J _ (by positivity)]
  refine Finset.sum_congr rfl fun j _ => ?_
  rw [Ideal.div_coe hLpos.ne', ← EReal.coe_sub, Ideal.exp_coe, mul_comm (v j), ← mul_assoc, mul_comm (_ : EReal) ((1 / L : ℝ) : EReal)]

/-- A sum over the keys, group by group of 128: the lanes' sums over the groups, added over the lanes. -/
theorem sum_lanes (f : ℕ → EReal) (n : ℕ) :
    ∑ c : Fin 128, ∑ i ∈ Finset.range n, f (128 * i + c) = ∑ j ∈ Finset.range (128 * n), f j := by
  induction n with
  | zero => simp
  | succ n ih =>
    rw [show 128 * (n + 1) = 128 * n + 128 by ring, Finset.sum_range_add, ← ih, Finset.sum_range, ← Finset.sum_add_distrib]
    exact Finset.sum_congr rfl fun c _ => Finset.sum_range_succ _ _

end Cert.Attn

end
-- ==== Proof.Rows.lean ====
/-
  The kernel's vectors over the extended reals, read at a row and a lane: the running maximum, the weights, their sums, the
  weighted values, the scores of a block and the queries they are of.
-/
module

public import proofs.«01_k».proof.Proof.Body
public import proofs.«01_k».proof.Proof.Softmax
public import Idealize.ShloMosaic.Lib.Pipeline.ValueKit
public import Idealize.ShloMosaic.Lib.Pointwise

@[expose] public section

noncomputable section

namespace Cert.Attn

open Cert.KernelIdeal Cert.KernelIdeal.Gen
open Idealize.ShloMosaic

theorem wt_apply (s m : Rows Ideal) (i : S1024x128.Idx) : wt s m i = weight (s i) (m i) := rfl

theorem wtCast_apply (s m : Rows Ideal) (i : S1024x128.Idx) : wtCast s m i = weight (s i) (m i) := by
  unfold wtCast
  rw [shapeCast_self]
  rfl

/-- A row's new maximum is the larger of the old one and of the greatest over the lanes. -/
theorem rowMax_apply (x m : Rows Ideal) (r : Fin 1024) (c : Fin 128) :
    rowMax x m (ix2 r c) = max (m (ix2 r c)) (Finset.univ.fold max (Ideal.ofBits .f32 0xFF800000#32) fun k : Fin 128 => x (ix2 r k)) := by
  pointwise [rowMax]

theorem sum4_apply (a b c d mo mn l : Rows Ideal) (i : S1024x128.Idx) :
    sum4 a b c d mo mn l i = weight (mo i) (mn i) * l i
      + (((weight (a i) (mn i) + weight (b i) (mn i)) + weight (c i) (mn i)) + weight (d i) (mn i)) := by
  unfold sum4 same
  rw [shapeCast_self]
  rfl

theorem sum2_apply (a b mo mn l : Rows Ideal) (i : S1024x128.Idx) :
    sum2 a b mo mn l i = weight (mo i) (mn i) * l i + (weight (a i) (mn i) + weight (b i) (mn i)) := by
  unfold sum2 same
  rw [shapeCast_self]
  rfl

theorem scores_apply (q : Vec Ideal S1024x128 .bf16) (k : Vec Ideal S512x128 .bf16) (r : Fin 1024) (j : Fin 512) :
    scores q k (ix2 r j) = ∑ d : Fin 128, q (ix2 r d) * k (ix2 j d) := by
  pointwise [scores]

theorem scoresCtx_apply (q : Vec Ideal S1024x128 .bf16) (k : Vec Ideal S256x128 .bf16) (r : Fin 1024) (j : Fin 256) :
    scoresCtx q k (ix2 r j) = ∑ d : Fin 128, q (ix2 r d) * k (ix2 j d) := by
  pointwise [scoresCtx]

theorem acc4_apply (p : Vec Ideal S1024x512 .bf16) (v : Vec Ideal S512x128 .bf16) (mo mn acc : Rows Ideal) (r : Fin 1024) (d : Fin 128) :
    acc4 p v mo mn acc (ix2 r d) = weight (mo (ix2 r d)) (mn (ix2 r d)) * acc (ix2 r d) + ∑ j : Fin 512, p (ix2 r j) * v (ix2 j d) := by
  rw [← wt_apply]
  pointwise [acc4, same]

theorem acc2_apply (p : Vec Ideal S1024x256 .bf16) (v : Vec Ideal S256x128 .bf16) (mo mn acc : Rows Ideal) (r : Fin 1024) (d : Fin 128) :
    acc2 p v mo mn acc (ix2 r d) = weight (mo (ix2 r d)) (mn (ix2 r d)) * acc (ix2 r d) + ∑ j : Fin 256, p (ix2 r j) * v (ix2 j d) := by
  rw [← wt_apply]
  pointwise [acc2, same]

theorem quot_apply (l acc : Rows Ideal) (r : Fin 1024) (d : Fin 128) :
    quot l acc (ix2 r d) = Ideal.div (acc (ix2 r d)) (∑ c : Fin 128, l (ix2 r c)) := by
  pointwise [quot]

theorem fillRows_apply (w : BitVec 32) (i : S1024x128.Idx) : fillRows (F := Ideal) w i = Ideal.ofBits .f32 w := rfl

theorem g0_apply (S : FVec Ideal S1024x512 .f32) (r : Fin 1024) (c : Fin 128) : g0 S (ix2 r c) = S (ix2 r ⟨c.val, by omega⟩) :=
  View.ld_unit_apply_of (Val := Elt Ideal) (e := .f32) S _ _ _ _ _ (Fin.forall_fin_two.mpr ⟨by simp, by simp⟩)
theorem g1_apply (S : FVec Ideal S1024x512 .f32) (r : Fin 1024) (c : Fin 128) : g1 S (ix2 r c) = S (ix2 r ⟨128 + c.val, by omega⟩) :=
  View.ld_unit_apply_of (Val := Elt Ideal) (e := .f32) S _ _ _ _ _ (Fin.forall_fin_two.mpr ⟨by simp, by simp⟩)
theorem g2_apply (S : FVec Ideal S1024x512 .f32) (r : Fin 1024) (c : Fin 128) : g2 S (ix2 r c) = S (ix2 r ⟨256 + c.val, by omega⟩) :=
  View.ld_unit_apply_of (Val := Elt Ideal) (e := .f32) S _ _ _ _ _ (Fin.forall_fin_two.mpr ⟨by simp, by simp⟩)
theorem g3_apply (S : FVec Ideal S1024x512 .f32) (r : Fin 1024) (c : Fin 128) : g3 S (ix2 r c) = S (ix2 r ⟨384 + c.val, by omega⟩) :=
  View.ld_unit_apply_of (Val := Elt Ideal) (e := .f32) S _ _ _ _ _ (Fin.forall_fin_two.mpr ⟨by simp, by simp⟩)
theorem c0_apply (S : FVec Ideal S1024x256 .f32) (r : Fin 1024) (c : Fin 128) : c0 S (ix2 r c) = S (ix2 r ⟨c.val, by omega⟩) :=
  View.ld_unit_apply_of (Val := Elt Ideal) (e := .f32) S _ _ _ _ _ (Fin.forall_fin_two.mpr ⟨by simp, by simp⟩)
theorem c1_apply (S : FVec Ideal S1024x256 .f32) (r : Fin 1024) (c : Fin 128) : c1 S (ix2 r c) = S (ix2 r ⟨128 + c.val, by omega⟩) :=
  View.ld_unit_apply_of (Val := Elt Ideal) (e := .f32) S _ _ _ _ _ (Fin.forall_fin_two.mpr ⟨by simp, by simp⟩)

/-- Block `n` of the keys or values holds those from `512 n` on. -/
theorem part_apply (X : Vec Ideal S16384x128 .bf16) (n : ℕ) (hn : n < 32) (j : Fin 512) (d : Fin 128) :
    part X n (ix2 j d) = X (ix2 ⟨512 * n + j.val, by omega⟩ d) := by
  refine congrArg X (funext fun a => Fin.ext ?_)
  revert a
  refine Fin.forall_fin_two.mpr ⟨?_, ?_⟩
  · show (512 * n + j.val) % 16384 = 512 * n + j.val
    exact Nat.mod_eq_of_lt (by omega)
  · show (0 + d.val) % 128 = d.val
    omega

end Cert.Attn

end
-- ==== Proof.Blocks.lean ====
/-
  One block of keys over the extended reals: the weights of a block read at a row and a key, and the queries as the kernel
  stacks them, head under head.
-/
module

public import proofs.«01_k».proof.Proof.Rows

@[expose] public section

noncomputable section

namespace Cert.Attn

open Cert.KernelIdeal Cert.KernelIdeal.Gen
open Idealize.ShloMosaic

/-! ## Vectors stored in pieces -/

theorem groups_cover (w3 w2 w1 w0 : S1024x128.Idx → Elt Ideal .bf16) (y : S1024x512.Idx) :
    ∃ p ∈ ([⟨rd, w3⟩, ⟨rc, w2⟩, ⟨rb, w1⟩, ⟨ra, w0⟩] : List (View.Piece (Elt Ideal) S1024x512 .bf16)), y ∈ p.1.set := by
  have h0 : (y 0).val < 1024 := (y 0).isLt
  have h1 : (y 1).val < 512 := (y 1).isLt
  rcases Nat.lt_or_ge (y 1).val 128 with h | h
  · refine ⟨_, List.mem_cons_of_mem _ (List.mem_cons_of_mem _ (List.mem_cons_of_mem _ List.mem_cons_self)), ?_⟩
    exact (Rect.mem_set_unit (inb := inb_S1024x512_S1024x128_0_0)).mpr
      (Fin.forall_fin_two.mpr ⟨⟨Nat.zero_le _, by simpa using h0⟩, ⟨Nat.zero_le _, by simpa using h⟩⟩)
  rcases Nat.lt_or_ge (y 1).val 256 with h' | h'
  · refine ⟨_, List.mem_cons_of_mem _ (List.mem_cons_of_mem _ List.mem_cons_self), ?_⟩
    exact (Rect.mem_set_unit (inb := inb_S1024x512_S1024x128_0_128)).mpr (Fin.forall_fin_two.mpr ⟨⟨Nat.zero_le _, by simpa using h0⟩, ⟨h, h'⟩⟩)
  rcases Nat.lt_or_ge (y 1).val 384 with h'' | h''
  · refine ⟨_, List.mem_cons_of_mem _ List.mem_cons_self, ?_⟩
    exact (Rect.mem_set_unit (inb := inb_S1024x512_S1024x128_0_256)).mpr (Fin.forall_fin_two.mpr ⟨⟨Nat.zero_le _, by simpa using h0⟩, ⟨h', h''⟩⟩)
  · refine ⟨_, List.mem_cons_self, ?_⟩
    exact (Rect.mem_set_unit (inb := inb_S1024x512_S1024x128_0_384)).mpr (Fin.forall_fin_two.mpr ⟨⟨Nat.zero_le _, by simpa using h0⟩, ⟨h'', h1⟩⟩)

/-- A weight of a stored group, at the place the group's columns (from `o`) put it. -/
theorem group_apply (S : FVec Ideal S1024x512 .f32) (mn : Rows Ideal) (o : ℕ) (ho : o % 128 = 0)
    (h : ∀ a, (![0, o] : Fin 2 → Nat) a + S1024x128.size a ≤ S1024x512.size a) (x : S1024x128.Idx) (y : S1024x512.Idx)
    (hy : y = (Rect.unit (s := S1024x512) ![0, o] S1024x128.size h).emb x) :
    wtCast (View.ld (Val := Elt Ideal) (e' := .f32) S (Rect.unit (s := S1024x512) ![0, o] S1024x128.size h)) mn x
      = weight (S y) (mn (ix2 (y 0) ⟨(y 1).val % 128, Nat.mod_lt _ (by norm_num)⟩)) := by
  rw [wtCast_apply]
  have e0 : (y 0).val = 0 + (x 0).val := by subst hy; exact Rect.idx_unit_val (s := S1024x512) ![0, o] S1024x128.size h x 0
  have e1 : (y 1).val = o + (x 1).val := by subst hy; exact Rect.idx_unit_val (s := S1024x512) ![0, o] S1024x128.size h x 1
  have h1 : (x 1).val < 128 := (x 1).isLt
  congr 1
  · exact congrArg S hy.symm
  · refine congrArg mn (funext fun a => Fin.ext ?_)
    revert a
    refine Fin.forall_fin_two.mpr ⟨?_, ?_⟩
    · show (x 0).val = (y 0).val
      omega
    · show (x 1).val = (y 1).val % 128
      omega

/-- The weights of a block, each against the maximum of its lane. -/
theorem weights_apply (S : FVec Ideal S1024x512 .f32) (mn : Rows Ideal) (y : S1024x512.Idx) :
    weights S mn y = weight (S y) (mn (ix2 (y 0) ⟨(y 1).val % 128, Nat.mod_lt _ (by norm_num)⟩)) := by
  unfold weights
  refine View.canon_apply_of_pieces (Val := Elt Ideal) (e := .bf16)
    (fun y => weight (S y) (mn (ix2 (y 0) ⟨(y 1).val % 128, Nat.mod_lt _ (by norm_num)⟩))) _ ?_ y (groups_cover _ _ _ _ y)
  simp only [List.forall_mem_cons, List.not_mem_nil, false_imp_iff, implies_true, and_true]
  exact ⟨fun x => group_apply S mn 384 (by norm_num) _ x _ rfl, fun x => group_apply S mn 256 (by norm_num) _ x _ rfl,
    fun x => group_apply S mn 128 (by norm_num) _ x _ rfl, fun x => group_apply S mn 0 (by norm_num) _ x _ rfl⟩

/-- The four heads' queries: head `g`'s are the rows from `256 g`. -/
theorem queries_apply (X : Vec Ideal S256x512 .bf16) (y : S1024x128.Idx) :
    queries X y = X (ix2 ⟨(y 0).val % 256, Nat.mod_lt _ (by norm_num)⟩ ⟨128 * ((y 0).val / 256) + (y 1).val, by
      have h0 : (y 0).val < 1024 := (y 0).isLt
      have h1 : (y 1).val < 128 := (y 1).isLt
      omega⟩) := by
  unfold queries
  refine View.canon_apply_of_pieces (Val := Elt Ideal) (e := .bf16) (fun y => X (ix2 ⟨(y 0).val % 256, Nat.mod_lt _ (by norm_num)⟩
    ⟨128 * ((y 0).val / 256) + (y 1).val, by
      have h0 : (y 0).val < 1024 := (y 0).isLt
      have h1 : (y 1).val < 128 := (y 1).isLt
      omega⟩)) _ ?_ y (rows_cover _ _ _ _ y)
  have key : ∀ (g : ℕ) (inb : ∀ a, (![256 * g, 0] : Fin 2 → Nat) a + S256x128.size a ≤ S1024x128.size a)
      (inb' : ∀ a, (![0, 128 * g] : Fin 2 → Nat) a + S256x128.size a ≤ S256x512.size a) (x : S256x128.Idx) (y : S1024x128.Idx)
      (_ : y = (Rect.unit (s := S1024x128) ![256 * g, 0] S256x128.size inb).emb x) h,
      head (View.ld (Val := Elt Ideal) (e' := .bf16) X (Rect.unit (s := S256x512) ![0, 128 * g] S256x128.size inb')) x
        = X (ix2 ⟨(y 0).val % 256, Nat.mod_lt _ (by norm_num)⟩ ⟨128 * ((y 0).val / 256) + (y 1).val, h⟩) := by
    intro g inb inb' x y hy h
    have e0 : (y 0).val = 256 * g + (x 0).val := by subst hy; exact Rect.idx_unit_val (s := S1024x128) ![256 * g, 0] S256x128.size inb x 0
    have e1 : (y 1).val = 0 + (x 1).val := by subst hy; exact Rect.idx_unit_val (s := S1024x128) ![256 * g, 0] S256x128.size inb x 1
    have h0 : (x 0).val < 256 := (x 0).isLt
    unfold head
    rw [shapeCast_self, shapeCast_self]
    refine View.ld_unit_apply_of (Val := Elt Ideal) (e := .bf16) X _ _ _ _ _ (Fin.forall_fin_two.mpr ⟨?_, ?_⟩)
    · show (y 0).val % 256 = 0 + (x 0).val
      omega
    · show 128 * ((y 0).val / 256) + (y 1).val = 128 * g + (x 1).val
      have : (y 0).val / 256 = g := by omega
      rw [this]
      omega
  simp only [List.forall_mem_cons, List.not_mem_nil, false_imp_iff, implies_true, and_true]
  exact ⟨fun x => key 3 inb_S1024x128_S256x128_768_0 inb_S256x512_S256x128_0_384 x _ rfl _,
    fun x => key 2 inb_S1024x128_S256x128_512_0 inb_S256x512_S256x128_0_256 x _ rfl _,
    fun x => key 1 inb_S1024x128_S256x128_256_0 inb_S256x512_S256x128_0_128 x _ rfl _,
    fun x => key 0 inb_S1024x128_S256x128_0_0 inb_S256x512_S256x128_0_0 x _ rfl _⟩

theorem out0_apply (x : Rows Ideal) (r : Fin 256) (d : Fin 128) : out0 x (ix2 r d) = x (ix2 ⟨r.val, by omega⟩ d) := by
  pointwise [out0]
theorem out1_apply (x : Rows Ideal) (r : Fin 256) (d : Fin 128) : out1 x (ix2 r d) = x (ix2 ⟨256 + r.val, by omega⟩ d) := by
  pointwise [out1]
theorem out2_apply (x : Rows Ideal) (r : Fin 256) (d : Fin 128) : out2 x (ix2 r d) = x (ix2 ⟨512 + r.val, by omega⟩ d) := by
  pointwise [out2]
theorem out3_apply (x : Rows Ideal) (r : Fin 256) (d : Fin 128) : out3 x (ix2 r d) = x (ix2 ⟨768 + r.val, by omega⟩ d) := by
  pointwise [out3]

/-- The four heads side by side: head `g`'s rows, from `256 g`, in the columns from `128 g`. -/
theorem heads_apply (x : Rows Ideal) (y : S256x512.Idx) :
    heads x y = x (ix2 ⟨256 * ((y 1).val / 128) + (y 0).val, by
      have h0 : (y 0).val < 256 := (y 0).isLt
      have h1 : (y 1).val < 512 := (y 1).isLt
      omega⟩ ⟨(y 1).val % 128, Nat.mod_lt _ (by norm_num)⟩) := by
  unfold heads
  refine View.canon_apply_of_pieces (Val := Elt Ideal) (e := .bf16) (fun y => x (ix2 ⟨256 * ((y 1).val / 128) + (y 0).val, by
      have h0 : (y 0).val < 256 := (y 0).isLt
      have h1 : (y 1).val < 512 := (y 1).isLt
      omega⟩ ⟨(y 1).val % 128, Nat.mod_lt _ (by norm_num)⟩)) _ ?_ y (cols_cover _ _ _ _ y)
  have key : ∀ (g : ℕ) (inb : ∀ a, (![0, 128 * g] : Fin 2 → Nat) a + S256x128.size a ≤ S256x512.size a) (i : S256x128.Idx) (y : S256x512.Idx)
      (_ : y = (Rect.unit (s := S256x512) ![0, 128 * g] S256x128.size inb).emb i) (r : Fin 1024) (_ : r.val = 256 * g + (i 0).val) h,
      x (ix2 r (i 1)) = x (ix2 ⟨256 * ((y 1).val / 128) + (y 0).val, h⟩ ⟨(y 1).val % 128, Nat.mod_lt _ (by norm_num)⟩) := by
    intro g inb i y hy r hr h
    have e0 : (y 0).val = 0 + (i 0).val := by subst hy; exact Rect.idx_unit_val (s := S256x512) ![0, 128 * g] S256x128.size inb i 0
    have e1 : (y 1).val = 128 * g + (i 1).val := by subst hy; exact Rect.idx_unit_val (s := S256x512) ![0, 128 * g] S256x128.size inb i 1
    have h1 : (i 1).val < 128 := (i 1).isLt
    have hq : (y 1).val / 128 = g := by omega
    refine congrArg x (funext fun a => Fin.ext ?_)
    revert a
    refine Fin.forall_fin_two.mpr ⟨?_, ?_⟩
    · show r.val = 256 * ((y 1).val / 128) + (y 0).val
      rw [hq]
      omega
    · show (i 1).val = (y 1).val % 128
      omega
  simp only [List.forall_mem_cons, List.not_mem_nil, false_imp_iff, implies_true, and_true]
  refine ⟨fun i => ?_, fun i => ?_, fun i => ?_, fun i => ?_⟩
  · exact ((congrArg (out3 x) (eq_ix2 i)).trans (out3_apply x _ _)).trans (key 3 inb_S256x512_S256x128_0_384 i _ rfl _ (by rfl) _)
  · exact ((congrArg (out2 x) (eq_ix2 i)).trans (out2_apply x _ _)).trans (key 2 inb_S256x512_S256x128_0_256 i _ rfl _ (by rfl) _)
  · exact ((congrArg (out1 x) (eq_ix2 i)).trans (out1_apply x _ _)).trans (key 1 inb_S256x512_S256x128_0_128 i _ rfl _ (by rfl) _)
  · exact ((congrArg (out0 x) (eq_ix2 i)).trans (out0_apply x _ _)).trans (key 0 inb_S256x512_S256x128_0_0 i _ rfl _ (by simp) _)

end Cert.Attn

end
-- ==== Proof.Mean.lean ====
/-
  The kernel's state after each block of keys, over the extended reals: at every row one maximum in all lanes, the sums of the
  weights lane by lane, and the weighted values, all against that maximum; and after the last division the mean of the values.
-/
module

public import proofs.«01_k».proof.Proof.Blocks

@[expose] public section

noncomputable section

namespace Cert.Attn

open Cert.KernelIdeal Cert.KernelIdeal.Gen
open Idealize.ShloMosaic

theorem bits_neg_inf : Ideal.ofBits .f32 0xFF800000#32 = ⊥ := by simp [Ideal.ofBits, Ideal.ieee]
theorem bits_zero : Ideal.ofBits .f32 0x00000000#32 = 0 := by simp [Ideal.ofBits, Ideal.ieee]

/-- The state at row `r` after `k` groups of 128 keys, whose scores are `S` and values `W`, against the maximum `M`. -/
structure Holds (s : St Ideal) (S : ℕ → EReal) (W : ℕ → Fin 128 → EReal) (r : Fin 1024) (k : ℕ) (M : EReal) : Prop where
  m : ∀ c, s.m (ix2 r c) = M
  base : (k = 0 ∧ M = ⊥) ∨ IsReal M
  l : ∀ c : Fin 128, s.l (ix2 r c) = ∑ i ∈ Finset.range k, weight (S (128 * i + c)) M
  acc : ∀ d, s.acc (ix2 r d) = ∑ j ∈ Finset.range (128 * k), weight (S j) M * W j d

/-- A maximum so far and a row of real scores have a real maximum. -/
theorem max_real {k : ℕ} {M : EReal} (hM : (k = 0 ∧ M = ⊥) ∨ IsReal M) {x : EReal} (hx : IsReal x) : IsReal (max M x) := by
  rcases hM with ⟨-, rfl⟩ | hM
  · rwa [max_eq_right bot_le]
  · exact hM.max hx

theorem maximumf_apply (a b : Rows Ideal) (i : S1024x128.Idx) : maximumf a b i = max (a i) (b i) := rfl

variable {s : St Ideal} {S : ℕ → EReal} {W : ℕ → Fin 128 → EReal} {r : Fin 1024} {k : ℕ} {M : EReal}

/-- A row's new maximum, the same in every lane and real. -/
theorem rowMax_real (hm : ∀ c, s.m (ix2 r c) = M) (hM : (k = 0 ∧ M = ⊥) ∨ IsReal M) (x : Rows Ideal) (hx : ∀ c, IsReal (x (ix2 r c))) :
    ∃ M', IsReal M' ∧ ∀ c, rowMax x s.m (ix2 r c) = M' := by
  refine ⟨max M (Finset.univ.fold max ⊥ fun k : Fin 128 => x (ix2 r k)), max_real hM (IsReal.fold_max_univ fun c => hx c), fun c => ?_⟩
  rw [rowMax_apply, hm, bits_neg_inf]

/-- One block taken in. -/
theorem Holds.next (h : Holds s S W r k M) (B : FVec Ideal S1024x512 .f32) (v : Vec Ideal S512x128 .bf16)
    (hS : ∀ j, j < 128 * (k + 4) → IsReal (S j)) (hB : ∀ j : Fin 512, B (ix2 r j) = S (128 * k + j))
    (hv : ∀ (j : Fin 512) d, v (ix2 j d) = W (128 * k + j) d) : ∃ M', Holds (s.next B v) S W r (k + 4) M' := by
  have ha : ∀ c : Fin 128, g0 B (ix2 r c) = S (128 * k + c.val) := fun c => (g0_apply B r c).trans (hB _)
  have hb : ∀ c : Fin 128, g1 B (ix2 r c) = S (128 * (k + 1) + c.val) := fun c =>
    ((g1_apply B r c).trans (hB _)).trans (congrArg S (by show 128 * k + (128 + c.val) = _; ring))
  have hc : ∀ c : Fin 128, g2 B (ix2 r c) = S (128 * (k + 1 + 1) + c.val) := fun c =>
    ((g2_apply B r c).trans (hB _)).trans (congrArg S (by show 128 * k + (256 + c.val) = _; ring))
  have hd : ∀ c : Fin 128, g3 B (ix2 r c) = S (128 * (k + 1 + 1 + 1) + c.val) := fun c =>
    ((g3_apply B r c).trans (hB _)).trans (congrArg S (by show 128 * k + (384 + c.val) = _; ring))
  have hr : ∀ c : Fin 128, IsReal (maximumf (maximumf (maximumf (g0 B) (g1 B)) (g2 B)) (g3 B) (ix2 r c)) := fun c => by
    rw [maximumf_apply, maximumf_apply, maximumf_apply, ha, hb, hc, hd]
    exact (((hS _ (by omega)).max (hS _ (by omega))).max (hS _ (by omega))).max (hS _ (by omega))
  obtain ⟨M', hM', hmn⟩ := rowMax_real h.m h.base _ hr
  have hmn : ∀ c, newM B s.m (ix2 r c) = M' := hmn
  refine ⟨M', hmn, .inr hM', fun c => ?_, fun d => ?_⟩
  · have e := sum4_apply (g0 B) (g1 B) (g2 B) (g3 B) s.m (newM B s.m) s.l (ix2 r c)
    rw [h.m, hmn, h.l, ha, hb, hc, hd, rescale_one (Finset.range k) (fun i => S (128 * i + c))
      (fun i hi => hS _ (by have := Finset.mem_range.mp hi; have := c.isLt; omega)) (h.base.imp_left fun e => ⟨by simp [e.1], e.2⟩) hM'] at e
    refine e.trans ?_
    rw [show k + 4 = k + 1 + 1 + 1 + 1 from rfl, Finset.sum_range_succ, Finset.sum_range_succ, Finset.sum_range_succ, Finset.sum_range_succ]
    simp only [← add_assoc (_ : EReal)]
  · have e := acc4_apply (weights B (newM B s.m)) v s.m (newM B s.m) s.acc r d
    rw [h.m, hmn, h.acc, rescale (Finset.range (128 * k)) S
      (fun i hi => hS _ (by have := Finset.mem_range.mp hi; omega)) (fun j => W j d) (h.base.imp_left fun e => ⟨by simp [e.1], e.2⟩) hM'] at e
    refine e.trans ?_
    rw [show 128 * (k + 4) = 128 * k + 512 by ring, Finset.sum_range_add]
    refine congrArg₂ (· + ·) rfl (Eq.trans (Finset.sum_congr rfl fun j _ => ?_) (Finset.sum_range fun x => weight (S (128 * k + x)) M' * W (128 * k + x) d).symm)
    rw [weights_apply, hv]
    refine congrArg (· * _) ?_
    exact congrArg₂ weight (hB j) (hmn _)

theorem weights2_apply (C : FVec Ideal S1024x256 .f32) (mn : Rows Ideal) (j : Fin 256) :
    weights2 (c0 C) (c1 C) mn (ix2 r j) = weight (C (ix2 r j)) (mn (ix2 r ⟨j.val % 128, Nat.mod_lt _ (by norm_num)⟩)) := by
  unfold weights2
  refine (View.ld_unit_apply_of (Val := Elt Ideal) (S := S1024x512) (e := .bf16) _ ![0, 0] S1024x256.size inb_S1024x512_S1024x256_0_0 (ix2 r j)
    (ix2 r ⟨j.val, by omega⟩ : S1024x512.Idx) (Fin.forall_fin_two.mpr ⟨by simp, by simp⟩)).trans ?_
  have hj : j.val < 256 := j.isLt
  refine View.canon_eq_of_allAt (Val := Elt Ideal) (e := .bf16) _ _ _ ?_ ?_
  · rcases Nat.lt_or_ge j.val 128 with h | h
    · refine ⟨_, List.mem_cons_of_mem _ List.mem_cons_self, ?_⟩
      exact (Rect.mem_set_unit (inb := inb_S1024x512_S1024x128_0_0)).mpr
        (Fin.forall_fin_two.mpr ⟨⟨Nat.zero_le _, by simp⟩, ⟨Nat.zero_le _, by simpa using h⟩⟩)
    · refine ⟨_, List.mem_cons_self, ?_⟩
      exact (Rect.mem_set_unit (inb := inb_S1024x512_S1024x128_0_128)).mpr
        (Fin.forall_fin_two.mpr ⟨⟨Nat.zero_le _, by simp⟩, ⟨h, hj⟩⟩)
  · have key : ∀ (o : ℕ) (ho : o % 128 = 0) (h : ∀ a, (![0, o] : Fin 2 → Nat) a + S1024x128.size a ≤ S1024x512.size a)
        (h' : ∀ a, (![0, o] : Fin 2 → Nat) a + S1024x128.size a ≤ S1024x256.size a) (x : S1024x128.Idx)
        (_ : (Rect.unit (s := S1024x512) ![0, o] S1024x128.size h).emb x = (ix2 r ⟨j.val, by omega⟩ : S1024x512.Idx)),
        wtCast (View.ld (Val := Elt Ideal) (e' := .f32) C (Rect.unit (s := S1024x256) ![0, o] S1024x128.size h')) mn x
          = weight (C (ix2 r j)) (mn (ix2 r ⟨j.val % 128, Nat.mod_lt _ (by norm_num)⟩)) := by
      intro o ho h h' x hx
      have e0 : r.val = 0 + (x 0).val :=
        (congrArg (fun y : S1024x512.Idx => (y 0).val) hx).symm.trans (Rect.idx_unit_val (s := S1024x512) ![0, o] S1024x128.size h x 0)
      have e1 : j.val = o + (x 1).val :=
        (congrArg (fun y : S1024x512.Idx => (y 1).val) hx).symm.trans (Rect.idx_unit_val (s := S1024x512) ![0, o] S1024x128.size h x 1)
      have h1 : (x 1).val < 128 := (x 1).isLt
      rw [wtCast_apply, View.ld_unit_apply_of (Val := Elt Ideal) (e := .f32) C ![0, o] S1024x128.size h' x (ix2 r j) (Fin.forall_fin_two.mpr ⟨e0, e1⟩)]
      congr 1
      refine congrArg mn (funext fun a => Fin.ext ?_)
      revert a
      refine Fin.forall_fin_two.mpr ⟨?_, ?_⟩
      · show (x 0).val = r.val
        omega
      · show (x 1).val = j.val % 128
        omega
    intro p hp
    simp only [List.mem_cons, List.not_mem_nil, or_false] at hp
    rcases hp with rfl | rfl
    · exact fun x hx => key 128 (by norm_num) inb_S1024x512_S1024x128_0_128 inb_ctx1 x hx
    · exact fun x hx => key 0 (by norm_num) inb_S1024x512_S1024x128_0_0 inb_ctx0 x hx

/-- The context's block taken in. -/
theorem Holds.last (h : Holds s S W r k M) (C : FVec Ideal S1024x256 .f32) (v : Vec Ideal S256x128 .bf16)
    (hS : ∀ j, j < 128 * (k + 2) → IsReal (S j)) (hB : ∀ j : Fin 256, C (ix2 r j) = S (128 * k + j))
    (hv : ∀ (j : Fin 256) d, v (ix2 j d) = W (128 * k + j) d) : ∃ M', Holds (s.last C v) S W r (k + 2) M' := by
  have ha : ∀ c : Fin 128, c0 C (ix2 r c) = S (128 * k + c.val) := fun c => (c0_apply C r c).trans (hB _)
  have hb : ∀ c : Fin 128, c1 C (ix2 r c) = S (128 * (k + 1) + c.val) := fun c =>
    ((c1_apply C r c).trans (hB _)).trans (congrArg S (by show 128 * k + (128 + c.val) = _; ring))
  have hr : ∀ c : Fin 128, IsReal (maximumf (c0 C) (c1 C) (ix2 r c)) := fun c => by
    rw [maximumf_apply, ha, hb]
    exact (hS _ (by omega)).max (hS _ (by omega))
  obtain ⟨M', hM', hmn⟩ := rowMax_real h.m h.base _ hr
  have hmn : ∀ c, newM2 (c0 C) (c1 C) s.m (ix2 r c) = M' := hmn
  refine ⟨M', hmn, .inr hM', fun c => ?_, fun d => ?_⟩
  · have e := sum2_apply (c0 C) (c1 C) s.m (newM2 (c0 C) (c1 C) s.m) s.l (ix2 r c)
    rw [h.m, hmn, h.l, ha, hb, rescale_one (Finset.range k) (fun i => S (128 * i + c))
      (fun i hi => hS _ (by have := Finset.mem_range.mp hi; have := c.isLt; omega)) (h.base.imp_left fun e => ⟨by simp [e.1], e.2⟩) hM'] at e
    refine e.trans ?_
    rw [show k + 2 = k + 1 + 1 from rfl, Finset.sum_range_succ, Finset.sum_range_succ]
    simp only [← add_assoc (_ : EReal)]
  · have e := acc2_apply (weights2 (c0 C) (c1 C) (newM2 (c0 C) (c1 C) s.m)) v s.m (newM2 (c0 C) (c1 C) s.m) s.acc r d
    rw [h.m, hmn, h.acc, rescale (Finset.range (128 * k)) S
      (fun i hi => hS _ (by have := Finset.mem_range.mp hi; omega)) (fun j => W j d) (h.base.imp_left fun e => ⟨by simp [e.1], e.2⟩) hM'] at e
    refine e.trans ?_
    rw [show 128 * (k + 2) = 128 * k + 256 by ring, Finset.sum_range_add]
    refine congrArg₂ (· + ·) rfl (Eq.trans (Finset.sum_congr rfl fun j _ => ?_) (Finset.sum_range fun x => weight (S (128 * k + x)) M' * W (128 * k + x) d).symm)
    rw [weights2_apply, hv]
    refine congrArg (· * _) ?_
    exact congrArg₂ weight (hB j) (hmn _)

/-- The state after `n` blocks. -/
theorem state_holds (q : Vec Ideal S1024x128 .bf16) (K V : Vec Ideal S16384x128 .bf16) (S : ℕ → EReal) (W : ℕ → Fin 128 → EReal) (r : Fin 1024)
    (hS : ∀ j, j < 16384 → IsReal (S j)) (hK : ∀ j : Fin 16384, ∑ d : Fin 128, q (ix2 r d) * K (ix2 j d) = S j)
    (hV : ∀ (j : Fin 16384) d, V (ix2 j d) = W j d) : ∀ n, n ≤ 32 → ∃ M, Holds (state q K V n) S W r (4 * n) M
  | 0, _ => ⟨⊥, fun c => bits_neg_inf, .inl ⟨rfl, rfl⟩, fun c => bits_zero, fun d => bits_zero⟩
  | n + 1, hn => by
    obtain ⟨M, h⟩ := state_holds q K V S W r hS hK hV n (by omega)
    refine h.next (scores q (part K n)) (part V n) (fun j hj => hS j (by omega)) (fun j => ?_) fun j d => ?_
    · rw [scores_apply, show 128 * (4 * n) + j.val = 512 * n + j.val by ring]
      rw [← hK ⟨512 * n + j.val, by omega⟩]
      exact Finset.sum_congr rfl fun d _ => by rw [part_apply K n (by omega)]
    · rw [part_apply V n (by omega), hV, show 128 * (4 * n) + j.val = 512 * n + j.val by ring]

/-- The kernel's result at row `r` of a head: the mean of the values by the weights of all the scores. -/
theorem mean_holds (q : Vec Ideal S1024x128 .bf16) (K V : Vec Ideal S16384x128 .bf16) (Kc Vc : Vec Ideal S256x128 .bf16) (S : ℕ → EReal)
    (W : ℕ → Fin 128 → EReal) (r : Fin 1024)
    (hS : ∀ j, j < 16640 → IsReal (S j)) (hK : ∀ j : Fin 16384, ∑ d : Fin 128, q (ix2 r d) * K (ix2 j d) = S j)
    (hV : ∀ (j : Fin 16384) d, V (ix2 j d) = W j d)
    (hKc : ∀ j : Fin 256, ∑ d : Fin 128, q (ix2 r d) * Kc (ix2 j d) = S (16384 + j)) (hVc : ∀ (j : Fin 256) d, Vc (ix2 j d) = W (16384 + j) d) :
    ∃ M, IsReal M ∧ ∀ d, quot ((state q K V 32).last (scoresCtx q Kc) Vc).l ((state q K V 32).last (scoresCtx q Kc) Vc).acc (ix2 r d)
      = Ideal.div (∑ j ∈ Finset.range 16640, weight (S j) M * W j d) (∑ j ∈ Finset.range 16640, weight (S j) M) := by
  obtain ⟨M, h⟩ := state_holds q K V S W r (fun j hj => hS j (by omega)) hK hV 32 le_rfl
  obtain ⟨M', h'⟩ := h.last (scoresCtx q Kc) Vc hS (fun j => by rw [scoresCtx_apply]; exact hKc j) hVc
  refine ⟨M', h'.base.resolve_left fun e => absurd e.1 (by norm_num), fun d => ?_⟩
  rw [quot_apply, h'.acc, Finset.sum_congr rfl fun c _ => h'.l c, sum_lanes (fun j => weight (S j) M')]

end Cert.Attn

end
-- ==== Proof.Run.lean ====
/-
  The run of the attention call over its whole grid, at any float semantics: at every point the body (`Body.lean`) finds its
  windows' blocks and leaves `result` of them in the output's block. `run_main` is the run of the program from any memory;
  both programs' frames are read off it.
-/
module

public import proofs.«01_k».proof.Proof.Body
public import proofs.«01_k».proof.Proof.Gen.KernelIdeal.Frame

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer owned is the buffer held. -/
theorem owns_hold (c : Dev nD) {S : Shape} {e : EltTy} (M : Memref sig .tc .vmem S e) (hM : M.IsWhole) (X : S.Idx → Elt F e) :
    (owns (c : Thread nD τ) M fullShare X : sProp 𝕄) = hold c M X := by
  unfold owns; rw [hM.set_eq_univ]

/-- What the windows hold at a point. -/
def ins (c : Dev nD) (t : Fin cfg0.N) : Ins F where
  X := iblk m c 0 t
  Kc := iblk m c 1 t
  Vc := iblk m c 2 t
  K := iblk m c 3 t
  V := iblk m c 4 t

/-- The run's data on core `c`: the arrays as the call finds them; the input windows left as fetched, the output's at
    `result`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => result (ins m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d

/-- The buffers of point `t`. -/
def bufs (t : Fin cfg0.N) : Bufs where
  q := st0_0 t
  kc := st0_1 t
  vc := st0_2 t
  k := st0_3 t
  v := st0_4 t
  o := st0_5 t
  qs := Memref.whole cc0_scratch0
  m := Memref.whole cc0_scratch5
  l := Memref.whole cc0_scratch6
  acc := Memref.whole cc0_scratch7

/-- The body at every point does what `dats` says of it. -/
theorem body_obligation (c : Dev nD) : BodyObligation (dats m 0 c) (defs₀ (F := F)) Variants.none () Set.univ := fun t => by
  rw [bigSep_W0, bigSep_W0]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA
  rw [scopedRest0_eq]
  iintro ⟨⟨⟨H0, H1, H2, H3, H4, H5, H6, H7⟩, HR⟩, HO, ⟨%d0, W0⟩, ⟨%d1, W1⟩, ⟨%d2, W2⟩, ⟨%d3, W3⟩, ⟨%d4, W4⟩, ⟨%d5, W5⟩⟩
  rw [before_0, before_1, before_2, before_3, before_4]
  iapply (wp_wand_r frame (wpE (defs₀ (F := F)) Variants.none c none))
  isplitl [H0 H1 H2 H3 H4 H5 H6 H7 W0 W1 W2 W3 W4 W5]
  · iapply (attn_run c (grid0.coords t) (bufs t) (ins m c t) (Memref.whole cc0_scratch1) (Memref.whole cc0_scratch2)
      (Memref.whole cc0_scratch3) (Memref.whole cc0_scratch4) (hstage0_0 ((cfg0.slots t 0).cast nbuf0_0))
      (hstage0_1 ((cfg0.slots t 1).cast nbuf0_1)) (hstage0_2 ((cfg0.slots t 2).cast nbuf0_2)) (hstage0_3 ((cfg0.slots t 3).cast nbuf0_3))
      (hstage0_4 ((cfg0.slots t 4).cast nbuf0_4)) (hstage0_5 ((cfg0.slots t 5).cast nbuf0_5)) (Memref.isWhole_whole _)
      (Memref.isWhole_whole _) (Memref.isWhole_whole _) (Memref.isWhole_whole _) (Memref.isWhole_whole _) (Memref.isWhole_whole _)
      (Memref.isWhole_whole _) (Memref.isWhole_whole _))
    unfold Wins Scr
    isplitl [W0 W1 W2 W3 W4]
    · isplitl [W0]; · iapply (Entails.of_eq (owns_hold c (st0_0 t) (stage_whole0 0 (cfg0.slots t 0)) (ins m c t).X)); iexact W0
      isplitl [W1]; · iapply (Entails.of_eq (owns_hold c (st0_1 t) (stage_whole0 1 (cfg0.slots t 1)) (ins m c t).Kc)); iexact W1
      isplitl [W2]; · iapply (Entails.of_eq (owns_hold c (st0_2 t) (stage_whole0 2 (cfg0.slots t 2)) (ins m c t).Vc)); iexact W2
      isplitl [W3]; · iapply (Entails.of_eq (owns_hold c (st0_3 t) (stage_whole0 3 (cfg0.slots t 3)) (ins m c t).K)); iexact W3
      iapply (Entails.of_eq (owns_hold c (st0_4 t) (stage_whole0 4 (cfg0.slots t 4)) (ins m c t).V)); iexact W4
    isplitl [W5]
    · iapply (hold_some c (st0_5 t) ((dats m 0 c).before 5 t d5))
      iapply (Entails.of_eq (owns_hold c (st0_5 t) (stage_whole0 5 (cfg0.slots t 5)) ((dats m 0 c).before 5 t d5))); iexact W5
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro %z H
  unfold Wins Scr
  icases H with ⟨⟨W0, W1, W2, W3, W4⟩, W5, H0, H1, H2, H3, H4, H5, H6, H7⟩
  isplitl [H0 H1 H2 H3 H4 H5 H6 H7 HR]
  · isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexact HR
  isplitl [HO]; · iexact HO
  isplitl [W0]; · iapply (Entails.of_eq (owns_hold c (st0_0 t) (stage_whole0 0 (cfg0.slots t 0)) (ins m c t).X).symm); iexact W0
  isplitl [W1]; · iapply (Entails.of_eq (owns_hold c (st0_1 t) (stage_whole0 1 (cfg0.slots t 1)) (ins m c t).Kc).symm); iexact W1
  isplitl [W2]; · iapply (Entails.of_eq (owns_hold c (st0_2 t) (stage_whole0 2 (cfg0.slots t 2)) (ins m c t).Vc).symm); iexact W2
  isplitl [W3]; · iapply (Entails.of_eq (owns_hold c (st0_3 t) (stage_whole0 3 (cfg0.slots t 3)) (ins m c t).K).symm); iexact W3
  isplitl [W4]; · iapply (Entails.of_eq (owns_hold c (st0_4 t) (stage_whole0 4 (cfg0.slots t 4)) (ins m c t).V).symm); iexact W4
  iapply (Entails.of_eq (owns_hold c (st0_5 t) (stage_whole0 5 (cfg0.slots t 5)) (result (ins m c t))).symm); iexact W5

/-- From any memory the program runs to its end, nothing faulting: every array is as `dats` says, and the counters at zero. -/
theorem run_main : θ_run defs (onTc (τ := τ) (main (F := F))) (s₀ m ρ)
    (fun r => Pipeline.FramePost cfgs (dats m) 0 (V m) r ∧ r.2.sem = fun _ => 0) :=
  Pipeline.θ_run_frame_shared cfgs (dats m) 0 launch₀0 defs₀ Variants.none m ρ main
    (fun c => (body_obligation m c).loose) (fun _ _ _ => rfl) (fun _ _ => rfl) (V m) (hmain m Variants.none) (A_eq m)
    (fun _ _ => rfl) _ (fun _ h => h)

end Cert.Attn

end
-- ==== Proof.Fetch.lean ====
/-
  What the attention call reads and writes of its arrays: the arrays the host operations before it leave, and each window's
  block of them at a grid point.
-/
module

public import proofs.«01_k».proof.Proof.Run
public import Idealize.ShloMosaic.Lib.Pipeline.ValueKit
public import Idealize.ShloMosaic.Lib.Pointwise
public import Idealize.ShloMosaic.Lib.StableHlo.RunRead

@[expose] public section

noncomputable section

namespace Cert.Attn

open Cert.KernelIdeal Cert.KernelIdeal.Gen
open Idealize.ShloMosaic Idealize.ShloMosaic.TcCoe Idealize.ShloMosaic.StableHlo

/-- The queries' factor. -/
def qScale : FVec Ideal S_ .f32 :=
  Host.divf (constant S_ .f32 0x3F800000#32) (mulf (Host.sqrt (constant S_ .f32 0x43000000#32)) (Host.log (constant S_ .f32 0x40000000#32)))

/-- The rows' array with the queries' columns scaled, the others as they are; -/
def mixed (z : FVec Ideal S16384x6144 .f32) : FVec Ideal S16384x6144 .f32 :=
  concatenate S16384x6144 1
    [⟨S16384x1024, mulf (extractStridedSlice S16384x1024 ![0, 0] z slices_S16384x6144_S16384x1024_0_0)
        (broadcastInDim S16384x1024 ![] bcast_S_S16384x1024 qScale)⟩,
      ⟨S16384x5120, extractStridedSlice S16384x5120 ![0, 1024] z slices_S16384x6144_S16384x5120_0_1024⟩]
    concatenates_S16384x1024_S16384x5120_S16384x6144_d1
/-- as the call finds it. -/
def scaled (z : FVec Ideal S16384x6144 .f32) : FVec Ideal S16384x6144 .bf16 := truncf .bf16 (mixed z) bitsLt_bf16_f32
/-- The context's array as the call finds it. -/
def context (z : FVec Ideal S256x6144 .f32) : FVec Ideal S256x6144 .bf16 := truncf .bf16 z bitsLt_bf16_f32

theorem context_apply (z : FVec Ideal S256x6144 .f32) (i : S256x6144.Idx) : context z i = z i := rfl

theorem qScale_apply (i : S_.Idx) : qScale i
    = Ideal.div 1 (Ideal.sqrt (Ideal.ofBits .f32 0x43000000#32) * Ideal.log (Ideal.ofBits .f32 0x40000000#32)) := by
  pointwise [qScale]

theorem first_apply (z : FVec Ideal S16384x6144 .f32) (j : Fin 16384) (k : Fin 1024) :
    mulf (extractStridedSlice S16384x1024 ![0, 0] z slices_S16384x6144_S16384x1024_0_0)
      (broadcastInDim S16384x1024 ![] bcast_S_S16384x1024 qScale) (ix2 j k) = z (ix2 j ⟨k.val, by omega⟩) * qScale ix0 := by
  pointwise

theorem rest_apply (z : FVec Ideal S16384x6144 .f32) (j : Fin 16384) (k : Fin 5120) :
    extractStridedSlice S16384x5120 ![0, 1024] z slices_S16384x6144_S16384x5120_0_1024 (ix2 j k) = z (ix2 j ⟨1024 + k.val, by omega⟩) := by
  pointwise

/-- The scaled array at an element. -/
theorem scaled_apply (z : FVec Ideal S16384x6144 .f32) (j : Fin 16384) (o : Fin 6144) :
    scaled z (ix2 j o) = if o.val < 1024 then z (ix2 j o) * qScale ix0 else z (ix2 j o) := by
  refine Eq.trans (b := mixed z (ix2 j o)) rfl ?_
  unfold mixed
  rw [concatenate_pair_apply]
  by_cases ho : o.val < 1024
  · rw [if_pos ho]
    refine (dif_pos (c := ((ix2 j o : S16384x6144.Idx) 1).val < _) ho).trans (Eq.trans (congrArg _ ?_) (first_apply z j ⟨o.val, ho⟩))
    funext a
    match a with
    | ⟨0, _⟩ => rfl
    | ⟨1, _⟩ => rfl
  · rw [if_neg ho]
    refine (dif_neg (c := ((ix2 j o : S16384x6144.Idx) 1).val < _) ho).trans
      (Eq.trans (congrArg _ ?_) ((rest_apply z j ⟨o.val - 1024, by omega⟩).trans (congrArg z (congrArg (ix2 j) (Fin.ext ?_)))))
    · funext a
      match a with
      | ⟨0, _⟩ => rfl
      | ⟨1, _⟩ => rfl
    · show 1024 + (o.val - 1024) = o.val
      omega

variable (m : (ℓ : Loc nD τ sig) → Buf (Elt Ideal) ℓ)

theorem V_rows (c : Dev nD) : V m c main_v9 = scaled (m ((c : Thread nD τ).loc main_arg0)) := by
  show StableHlo.after (hostOps0 (F := Ideal)) (fun b => m (c, b)) (Proc.devRef .tc main_v9) = _
  after_reads_simp
  rfl

theorem V_ctx (c : Dev nD) : V m c main_v10 = context (m ((c : Thread nD τ).loc main_arg1)) := by
  show StableHlo.after (hostOps0 (F := Ideal)) (fun b => m (c, b)) (Proc.devRef .tc main_v10) = _
  after_reads_simp
  rfl

/-! ## The windows -/

theorem at0 : ∀ t : Fin grid0.N, win0_0.index t 0 = t.val % 64 ∧ win0_0.index t 1 = t.val / 64 := by decide +kernel
theorem at1 : ∀ t : Fin grid0.N, win0_1.index t 0 = 0 ∧ win0_1.index t 1 = 8 + t.val / 64 := by decide +kernel
theorem at2 : ∀ t : Fin grid0.N, win0_2.index t 0 = 0 ∧ win0_2.index t 1 = 10 + t.val / 64 := by decide +kernel
theorem at3 : ∀ t : Fin grid0.N, win0_3.index t 0 = 0 ∧ win0_3.index t 1 = 8 + t.val / 64 := by decide +kernel
theorem at4 : ∀ t : Fin grid0.N, win0_4.index t 0 = 0 ∧ win0_4.index t 1 = 10 + t.val / 64 := by decide +kernel
theorem at5 : ∀ t : Fin grid0.N, win0_5.index t 0 = t.val % 64 ∧ win0_5.index t 1 = t.val / 64 := by decide +kernel

theorem lt_points (t : Fin cfg0.N) : t.val < 128 := lt_of_lt_of_eq t.isLt N_0

/-- The queries' block: 256 rows of a kv head's 512 columns. -/
theorem block0 (c : Dev nD) (t : Fin cfg0.N) (r : Fin 256) (k : Fin 512) :
    (ins m c t).X (ix2 r k) = V m c main_v9 (ix2 ⟨256 * (t.val % 64) + r.val, by omega⟩
      ⟨512 * (t.val / 64) + k.val, by have := lt_points t; omega⟩ : S16384x6144.Idx) := by
  refine congrArg (V m c main_v9) (funext fun a => Fin.ext ?_)
  match a with
  | ⟨0, _⟩ =>
    show win0_0.index t 0 * 256 + 1 * r.val = 256 * (t.val % 64) + r.val
    rw [(at0 t).1]; ring
  | ⟨1, _⟩ =>
    show win0_0.index t 1 * 512 + 1 * k.val = 512 * (t.val / 64) + k.val
    rw [(at0 t).2]; ring

/-- The context's keys. -/
theorem block1 (c : Dev nD) (t : Fin cfg0.N) (j : Fin 256) (k : Fin 128) :
    (ins m c t).Kc (ix2 j k) = V m c main_v10 (ix2 j ⟨1024 + (t.val / 64 * 128 + k.val), by have := lt_points t; omega⟩ : S256x6144.Idx) := by
  refine congrArg (V m c main_v10) (funext fun a => Fin.ext ?_)
  match a with
  | ⟨0, _⟩ =>
    show win0_1.index t 0 * 256 + 1 * j.val = j.val
    rw [(at1 t).1]; ring
  | ⟨1, _⟩ =>
    show win0_1.index t 1 * 128 + 1 * k.val = 1024 + (t.val / 64 * 128 + k.val)
    rw [(at1 t).2]; ring

/-- The context's values. -/
theorem block2 (c : Dev nD) (t : Fin cfg0.N) (j : Fin 256) (k : Fin 128) :
    (ins m c t).Vc (ix2 j k) = V m c main_v10 (ix2 j ⟨1280 + (t.val / 64 * 128 + k.val), by have := lt_points t; omega⟩ : S256x6144.Idx) := by
  refine congrArg (V m c main_v10) (funext fun a => Fin.ext ?_)
  match a with
  | ⟨0, _⟩ =>
    show win0_2.index t 0 * 256 + 1 * j.val = j.val
    rw [(at2 t).1]; ring
  | ⟨1, _⟩ =>
    show win0_2.index t 1 * 128 + 1 * k.val = 1280 + (t.val / 64 * 128 + k.val)
    rw [(at2 t).2]; ring

/-- The rows' keys. -/
theorem block3 (c : Dev nD) (t : Fin cfg0.N) (j : Fin 16384) (k : Fin 128) :
    (ins m c t).K (ix2 j k) = V m c main_v9 (ix2 j ⟨1024 + (t.val / 64 * 128 + k.val), by have := lt_points t; omega⟩ : S16384x6144.Idx) := by
  refine congrArg (V m c main_v9) (funext fun a => Fin.ext ?_)
  match a with
  | ⟨0, _⟩ =>
    show win0_3.index t 0 * 16384 + 1 * j.val = j.val
    rw [(at3 t).1]; ring
  | ⟨1, _⟩ =>
    show win0_3.index t 1 * 128 + 1 * k.val = 1024 + (t.val / 64 * 128 + k.val)
    rw [(at3 t).2]; ring

/-- The rows' values. -/
theorem block4 (c : Dev nD) (t : Fin cfg0.N) (j : Fin 16384) (k : Fin 128) :
    (ins m c t).V (ix2 j k) = V m c main_v9 (ix2 j ⟨1280 + (t.val / 64 * 128 + k.val), by have := lt_points t; omega⟩ : S16384x6144.Idx) := by
  refine congrArg (V m c main_v9) (funext fun a => Fin.ext ?_)
  match a with
  | ⟨0, _⟩ =>
    show win0_4.index t 0 * 16384 + 1 * j.val = j.val
    rw [(at4 t).1]; ring
  | ⟨1, _⟩ =>
    show win0_4.index t 1 * 128 + 1 * k.val = 1280 + (t.val / 64 * 128 + k.val)
    rw [(at4 t).2]; ring

/-- Where the result's block lies in its array. -/
theorem mem_block5 (t : Fin cfg0.N) (i : S16384x1024.Idx) : i ∈ ((cfg0.win 5).blk t).view.set ↔
    (256 * (t.val % 64) ≤ (i 0).val ∧ (i 0).val < 256 * (t.val % 64) + 256) ∧ 512 * (t.val / 64) ≤ (i 1).val ∧ (i 1).val < 512 * (t.val / 64) + 512 := by
  show i ∈ ((View.whole main_v11).slice (win0_5.rect t)).set ↔ _
  rw [View.set_slice_whole, Rect.mem_set_unit]
  refine Fin.forall_fin_two.trans (and_congr ?_ ?_)
  · show win0_5.index t 0 * 256 ≤ (i 0).val ∧ (i 0).val < win0_5.index t 0 * 256 + 256 ↔ _
    rw [(at5 t).1]; constructor <;> intro h <;> omega
  · show win0_5.index t 1 * 512 ≤ (i 1).val ∧ (i 1).val < win0_5.index t 1 * 512 + 512 ↔ _
    rw [(at5 t).2]; constructor <;> intro h <;> omega

/-- The blocks of all points are the whole array. -/
theorem cover5 (i : S16384x1024.Idx) : ∃ t : Fin cfg0.N, (cfg0.win 5).flush t = true ∧ i ∈ ((cfg0.win 5).blk t).view.set := by
  have h0 : (i 0).val < 16384 := (i 0).isLt
  have h1 : (i 1).val < 1024 := (i 1).isLt
  refine ⟨⟨64 * ((i 1).val / 512) + (i 0).val / 256, lt_of_lt_of_eq (by omega) N_0.symm⟩, flush0_5 _, (mem_block5 _ i).mpr ?_⟩
  dsimp only
  omega

/-- The output array, if every point's result is its block of one array `G`. -/
theorem out_eq (c : Dev nD) (G : Vec Ideal S16384x1024 .bf16)
    (h : ∀ (t : Fin cfg0.N) (r : Fin 256) (k : Fin 512), result (ins m c t) (ix2 r k) = G (ix2 ⟨256 * (t.val % 64) + r.val, by omega⟩
      ⟨512 * (t.val / 64) + k.val, by have := lt_points t; omega⟩)) : (dats m 0 c).arrAt 5 cfg0.N = G := by
  refine (dats m 0 c).arrAt_eq_of_cover 5 G (fun t _ => ?_) cover5
  funext y
  refine Eq.trans (b := result (ins m c t) y) rfl ((congrArg (result (ins m c t)) (eq_ix2 y)).trans ((h t (y 0) (y 1)).trans (congrArg G (funext fun a => Fin.ext ?_))))
  match a with
  | ⟨0, _⟩ =>
    show 256 * (t.val % 64) + (y 0).val = win0_5.index t 0 * 256 + 1 * (y 0).val
    rw [(at5 t).1]; ring
  | ⟨1, _⟩ =>
    show 512 * (t.val / 64) + (y 1).val = win0_5.index t 1 * 512 + 1 * (y 1).val
    rw [(at5 t).2]; ring

end Cert.Attn

end
-- ==== Proof.Reference.lean ====
/-
  The reference's run: a straight line of host operations, which leaves in its result the value `refOut` of the two arguments,
  the attention written as one softmax over all the keys.
-/
module

public import proofs.«01_k».proof.Defs
public import proofs.«01_k».proof.Proof.Gen.ReferenceIdeal
public import proofs.«01_k».proof.Proof.Gen.Pre_finite_qk
public import Idealize.ShloMosaic.Lib.StableHlo.RunHlo
public import Idealize.ShloMosaic.Lib.StableHlo.RunRead
public import Idealize.ShloMosaic.Lib.Quiescent

@[expose] public section

noncomputable section

namespace Cert.Ref

open Cert.ReferenceIdeal Cert.ReferenceIdeal.Gen
open Idealize.ShloMosaic Idealize.ShloMosaic.TcCoe Idealize.ShloMosaic.StableHlo Idealize.SL.Sem

/-- A float array over the extended reals. -/
abbrev Arr (S : Shape) (e : FTy := .f32) := FVec Ideal S e

/-- The queries, by kv head and by query head of it. -/
def queries (z : Arr S16384x6144) : Arr S16384x2x4x128 :=
  shapeCast S16384x2x4x128 (shapeCast S16384x8x128 (extractStridedSlice S16384x1024 ![0, 0] z slices_S16384x6144_S16384x1024_0_0)
    shapeCasts_S16384x1024_S16384x8x128) shapeCasts_S16384x8x128_S16384x2x4x128

/-- The keys: the rows' own, then the context's. -/
def keys (z : Arr S16384x6144) (zc : Arr S256x6144) : Arr S16640x2x128 :=
  concatenate S16640x2x128 0
    [⟨S16384x2x128, shapeCast S16384x2x128 (extractStridedSlice S16384x256 ![0, 1024] z slices_S16384x6144_S16384x256_0_1024)
        shapeCasts_S16384x256_S16384x2x128⟩,
      ⟨S256x2x128, shapeCast S256x2x128 (extractStridedSlice S256x256 ![0, 1024] zc slices_S256x6144_S256x256_0_1024)
        shapeCasts_S256x256_S256x2x128⟩] concatenates_S16384x2x128_S256x2x128_S16640x2x128_d0

/-- The values, in the keys' order. -/
def values (z : Arr S16384x6144) (zc : Arr S256x6144) : Arr S16640x2x128 :=
  concatenate S16640x2x128 0
    [⟨S16384x2x128, shapeCast S16384x2x128 (extractStridedSlice S16384x256 ![0, 1280] z slices_S16384x6144_S16384x256_0_1280)
        shapeCasts_S16384x256_S16384x2x128⟩,
      ⟨S256x2x128, shapeCast S256x2x128 (extractStridedSlice S256x256 ![0, 1280] zc slices_S256x6144_S256x256_0_1280)
        shapeCasts_S256x256_S256x2x128⟩] concatenates_S16384x2x128_S256x2x128_S16640x2x128_d0

/-- The scores' factor, one over the root of 128. -/
def scale : Arr S_ := Host.divf (constant S_ .f32 0x3F800000#32) (Host.sqrt (constant S_ .f32 0x43000000#32))

/-- The scaled scores. -/
def scores (q : Arr S16384x2x4x128) (k : Arr S16640x2x128) : Arr S2x4x16384x16640 :=
  mulf (transpose S2x4x16384x16640 [0, 3, 2, 1]
      (Host.dotGeneral dot_S16640x2x128_S16384x2x4x128_S2x16640x16384x4_2_3_0_02_1_1 none k q)
      transposes_S2x16640x16384x4_S2x4x16384x16640_0_3_2_1)
    (broadcastInDim S2x4x16384x16640 ![] bcast_S_S2x4x16384x16640 scale)

/-- Each row of scores' greatest. -/
def greatest (s : Arr S2x4x16384x16640) : Arr S2x4x16384 :=
  maximumf (broadcastInDim S2x4x16384 ![] bcast_S_S2x4x16384 (constant S_ .f32 0xFF800000#32))
    (Host.reduce FloatOps.maximumf s (constant S_ .f32 0xFF800000#32) reducesTo_S2x4x16384x16640_S2x4x16384_d3 h_S_)

/-- A row's number laid along its keys. -/
def along (x : Arr S2x4x16384) : Arr S2x4x16384x16640 :=
  broadcastInDim S2x4x16384x16640 ![0, 1, 2, 3] bcast_S2x4x16384x1_S2x4x16384x16640_0_1_2_3
    (broadcastInDim S2x4x16384x1 ![0, 1, 2] bcast_S2x4x16384_S2x4x16384x1_0_1_2 x)

/-- The exponentials of the scores less their row's greatest. -/
def exps (s : Arr S2x4x16384x16640) : Arr S2x4x16384x16640 := Host.exp (subf s (along (greatest s)))

/-- The softmax of the scores along the keys. -/
def softmax (s : Arr S2x4x16384x16640) : Arr S2x4x16384x16640 :=
  Host.divf (exps s) (along (Host.reduceAdd (exps s) (constant S_ .f32 0x00000000#32) reducesTo_S2x4x16384x16640_S2x4x16384_d3 h_S_))

/-- The weights' sum of the values. -/
def weighted (p : Arr S2x4x16384x16640) (v : Arr S16640x2x128) : Arr S16384x1024 :=
  shapeCast S16384x1024 (transpose S16384x2x4x128 [3, 0, 2, 1]
    (Host.dotGeneral dot_S16640x2x128_S2x4x16384x16640_S2x128x4x16384_0_3_2_12_1_0 none v p)
    transposes_S2x128x4x16384_S16384x2x4x128_3_0_2_1) shapeCasts_S16384x2x4x128_S16384x1024

/-- What the reference computes of its arguments. -/
def refOut (z : Arr S16384x6144) (zc : Arr S256x6144) : Arr S16384x1024 .bf16 :=
  truncf .bf16 (weighted (softmax (scores (queries z) (keys z zc))) (values z zc)) bitsLt_bf16_f32

variable (m : (ℓ : Loc nD τ sig) → Buf (Elt Ideal) ℓ) (ρ : Dev nD → PrngReg)

/-- The reference ends with `refOut` of its arguments in its result, its arguments as they were, and no semaphore raised. -/
theorem ref_run : θ_run (defs (F := Ideal)) (onTc (τ := τ) (main (F := Ideal))) ⟨m, fun _ => 0, ρ⟩ (fun r => (∀ c : Dev nD,
      r.2.mem ((c.tc : Thread nD τ).loc main_v33) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine θ_run_mono (run_hlo _ _ (by hlo_seq) (by decide) (by decide) (by simp)
    (by intro _ h; (repeat (cases h with | head => rfl | tail _ h => ?_)); exact nomatch h) m ρ) ?_
  refine fun r h => ⟨fun c => ⟨(h c main_v33).trans ?_, (h c main_arg0).trans ?_, (h c main_arg1).trans ?_⟩,
    sem_eq_zero_of_no_sems (by decide) r.2⟩
  · after_reads_simp
    rfl
  · after_reads_simp
  · after_reads_simp

/-- The reference's frame. -/
theorem frame_ref : Cert.quiescent_ReferenceIdeal := fun m ρ _ =>
  (θ_run (defs (F := Ideal)) _ _).mono (fun _ h => ⟨fun c => (h.1 c).2, h.2⟩) (ref_run m ρ)

/-- The reference's frame under the precondition. -/
theorem frame_ref_pre : Cert.quiescent_ReferenceIdeal_pre_finite_qk := fun m ρ _ =>
  (θ_run (defs (F := Ideal)) _ _).mono (fun _ h => ⟨fun c => (h.1 c).2, h.2⟩) (ref_run m ρ)

end Cert.Ref

end
-- ==== Proof.RefValue.lean ====
/-
  The reference's value read at an element: the sum over the keys of each value by its softmax weight.
-/
module

public import proofs.«01_k».proof.Proof.Reference
public import proofs.«01_k».proof.Proof.Softmax
public import Idealize.ShloMosaic.Lib.Pointwise

@[expose] public section

noncomputable section

namespace Cert.Ref

open Cert.ReferenceIdeal Cert.ReferenceIdeal.Gen
open Idealize.ShloMosaic
open Cert.Attn (IsReal)

/-- The queries are the first 1024 columns. -/
theorem queries_apply (z : Arr S16384x6144) (r : Fin 16384) (h : Fin 2) (g : Fin 4) (k : Fin 128) :
    queries z (ix4 r h g k) = z (ix2 r ⟨h.val * 512 + g.val * 128 + k.val, by omega⟩) := by
  pointwise [queries]

theorem scale_apply (i : S_.Idx) : scale i = Ideal.div 1 (Ideal.sqrt (Ideal.ofBits .f32 0x43000000#32)) := by
  pointwise [scale]

/-- A score is the scaled product of a key and a query. -/
theorem scores_apply (q : Arr S16384x2x4x128) (k : Arr S16640x2x128) (h : Fin 2) (g : Fin 4) (r : Fin 16384) (j : Fin 16640) :
    scores q k (ix4 h g r j) = (∑ d : Fin 128, k (ix3 j h d) * q (ix4 r h g d)) * scale ix0 := by
  pointwise [scores]

/-- The reduction of a row of reals by their maximum is a real, the row not being empty. -/
theorem reduce_max_real {a b c n : ℕ} {t u : Shape} (hn : 0 < n) (x : (⟨4, ![a, b, c, n]⟩ : Shape).Idx → EReal) (init : u.Idx → EReal)
    (h : (⟨4, ![a, b, c, n]⟩ : Shape).ReducesTo [3] t) (hu : 0 < u.numel) (h0 : ∀ i, init i = ⊥)
    (hx : ∀ i, IsReal (x i)) (j : t.Idx) : IsReal (Host.reduce max x init h hu j) := by
  obtain ⟨n, rfl⟩ : ∃ k, n = k + 1 := ⟨n - 1, by omega⟩
  rw [Host.reduce_eq_fold, h.fold_fiber_r4_a3, h0]
  exact IsReal.fold_max_univ fun k => hx _

theorem maximumf_real {S : Shape} (x y : FVec Ideal S .f32) (i : S.Idx) (hx : x i = ⊥) (hy : IsReal (y i)) :
    IsReal (maximumf x y i) := by
  obtain ⟨r, hr⟩ := hy
  refine ⟨r, ?_⟩
  rw [← hr]
  show max (x i) (y i) = y i
  rw [hx, max_eq_right bot_le]

theorem neg_inf : Ideal.ofBits .f32 0xFF800000#32 = ⊥ := by simp [Ideal.ofBits, Ideal.ieee]

theorem max_op : (FloatOps.maximumf : Ideal .f32 → Ideal .f32 → Ideal .f32) = (max : EReal → EReal → EReal) := rfl

/-- Where the scores are real so is the greatest of a row. -/
theorem greatest_real (s : Arr S2x4x16384x16640) (hs : ∀ i, IsReal (s i)) (i : S2x4x16384.Idx) : IsReal (greatest s i) := by
  unfold greatest
  refine maximumf_real _ _ i neg_inf ?_
  rw [max_op]
  exact reduce_max_real (by norm_num) s (constant (F := Ideal) S_ .f32 0xFF800000#32) reducesTo_S2x4x16384x16640_S2x4x16384_d3 h_S_
    (fun _ => neg_inf) hs i

theorem exps_apply (s : Arr S2x4x16384x16640) (h : Fin 2) (g : Fin 4) (r : Fin 16384) (j : Fin 16640) :
    exps s (ix4 h g r j) = Ideal.exp (s (ix4 h g r j) - greatest s (ix3 h g r)) := by
  pointwise [exps, along]

theorem softmax_apply (s : Arr S2x4x16384x16640) (h : Fin 2) (g : Fin 4) (r : Fin 16384) (j : Fin 16640) :
    softmax s (ix4 h g r j) = Ideal.div (exps s (ix4 h g r j)) (∑ i : Fin 16640, exps s (ix4 h g r i)) := by
  pointwise [softmax, along]

theorem weighted_apply (p : Arr S2x4x16384x16640) (v : Arr S16640x2x128) (r : Fin 16384) (h : Fin 2) (g : Fin 4) (d : Fin 128) :
    weighted p v (ix2 r ⟨512 * h.val + 128 * g.val + d.val, by omega⟩) = ∑ j : Fin 16640, v (ix3 j h d) * p (ix4 h g r j) := by
  pointwise [weighted]

theorem own_apply (z : Arr S16384x6144) (o : ℕ) (ho : S16384x6144.Slices ![0, o] S16384x256) (ho' : o + 256 ≤ 6144)
    (j : Fin 16384) (h : Fin 2) (k : Fin 128) :
    shapeCast S16384x2x128 (extractStridedSlice S16384x256 ![0, o] z ho) shapeCasts_S16384x256_S16384x2x128 (ix3 j h k)
      = z (ix2 j ⟨o + (h.val * 128 + k.val), by omega⟩) := by
  pointwise

theorem ctx_apply (z : Arr S256x6144) (o : ℕ) (ho : S256x6144.Slices ![0, o] S256x256) (ho' : o + 256 ≤ 6144)
    (j : Fin 256) (h : Fin 2) (k : Fin 128) :
    shapeCast S256x2x128 (extractStridedSlice S256x256 ![0, o] z ho) shapeCasts_S256x256_S256x2x128 (ix3 j h k)
      = z (ix2 j ⟨o + (h.val * 128 + k.val), by omega⟩) := by
  pointwise

/-- The rows' own keys or values, then the context's. -/
theorem concat_apply (x : Arr S16384x2x128) (y : Arr S256x2x128)
    (hc : Shape.Concatenates [S16384x2x128, S256x2x128] S16640x2x128 0) (j : Fin 16640) (h : Fin 2) (k : Fin 128) :
    concatenate S16640x2x128 0 [⟨S16384x2x128, x⟩, ⟨S256x2x128, y⟩] hc (ix3 j h k)
      = if hj : j.val < 16384 then x (ix3 ⟨j.val, hj⟩ h k) else y (ix3 ⟨j.val - 16384, by omega⟩ h k) := by
  rw [concatenate_pair_apply]
  by_cases hj : j.val < 16384
  · rw [dif_pos hj]
    refine (dif_pos (c := ((ix3 j h k : S16640x2x128.Idx) 0).val < _) hj).trans (congrArg x (funext fun a => Fin.ext ?_))
    match a with
    | ⟨0, _⟩ => rfl
    | ⟨1, _⟩ => rfl
    | ⟨2, _⟩ => rfl
  · rw [dif_neg hj]
    refine (dif_neg (c := ((ix3 j h k : S16640x2x128.Idx) 0).val < _) hj).trans (congrArg y (funext fun a => Fin.ext ?_))
    match a with
    | ⟨0, _⟩ => rfl
    | ⟨1, _⟩ => rfl
    | ⟨2, _⟩ => rfl

/-- Key or value `j` (columns from `o`): of the rows, or of the context after them. -/
def pick (z : Arr S16384x6144) (zc : Arr S256x6144) (j : ℕ) (o : Fin 6144) : EReal :=
  if hj : j < 16384 then z (ix2 ⟨j, hj⟩ o) else if hc : j - 16384 < 256 then zc (ix2 ⟨j - 16384, hc⟩ o) else 0

theorem pick_eq (z : Arr S16384x6144) (zc : Arr S256x6144) (j : Fin 16640) (o : Fin 6144) :
    pick z zc j o = if hj : j.val < 16384 then z (ix2 ⟨j.val, hj⟩ o) else zc (ix2 ⟨j.val - 16384, by omega⟩ o) := by
  unfold pick
  by_cases hj : j.val < 16384
  · rw [dif_pos hj, dif_pos hj]
  · rw [dif_neg hj, dif_neg hj, dif_pos (by omega)]

theorem keys_apply (z : Arr S16384x6144) (zc : Arr S256x6144) (j : Fin 16640) (h : Fin 2) (k : Fin 128) :
    keys z zc (ix3 j h k) = pick z zc j ⟨1024 + (h.val * 128 + k.val), by omega⟩ := by
  rw [pick_eq]
  unfold keys
  rw [concat_apply]
  simp only [own_apply z 1024 _ (by norm_num), ctx_apply zc 1024 _ (by norm_num)]

theorem values_apply (z : Arr S16384x6144) (zc : Arr S256x6144) (j : Fin 16640) (h : Fin 2) (k : Fin 128) :
    values z zc (ix3 j h k) = pick z zc j ⟨1280 + (h.val * 128 + k.val), by omega⟩ := by
  rw [pick_eq]
  unfold values
  rw [concat_apply]
  simp only [own_apply z 1280 _ (by norm_num), ctx_apply zc 1280 _ (by norm_num)]

/-- The reference at row `r`, kv head `h`, its query head `g` and channel `d`: the values' mean by the softmax of the scores. -/
theorem refOut_apply (z : Arr S16384x6144) (zc : Arr S256x6144) (r : Fin 16384) (h : Fin 2) (g : Fin 4) (d : Fin 128) :
    refOut z zc (ix2 r ⟨512 * h.val + 128 * g.val + d.val, by omega⟩)
      = ∑ j : Fin 16640, pick z zc j ⟨1280 + (h.val * 128 + d.val), by omega⟩ *
          Ideal.div (Ideal.exp (scores (queries z) (keys z zc) (ix4 h g r j) - greatest (scores (queries z) (keys z zc)) (ix3 h g r)))
            (∑ i : Fin 16640, Ideal.exp (scores (queries z) (keys z zc) (ix4 h g r i) - greatest (scores (queries z) (keys z zc)) (ix3 h g r))) := by
  show weighted _ _ _ = _
  rw [weighted_apply]
  refine Finset.sum_congr rfl fun j _ => ?_
  rw [values_apply, softmax_apply]
  simp only [exps_apply]

end Cert.Ref

end
-- ==== Proof.Frames.lean ====
/-
  The frames of the call. The call at its own floats and its idealization have the same text, so both frames are read
  off the one run of `Run.lean`.
-/
module

public import proofs.«01_k».proof.Defs
public import proofs.«01_k».proof.Proof.Run
public import proofs.«01_k».proof.Proof.Gen.Kernel
public import proofs.«01_k».proof.Proof.Gen.Pre_finite_qk

@[expose] public section

noncomputable section

namespace Cert.Attn

open Idealize.ShloMosaic Idealize.ShloMosaic.TcCoe Idealize.SL.Sem

section
open Cert.KernelIdeal Cert.KernelIdeal.Gen
variable {F : FTy → Type} [FloatOps F]

/-- The call leaves its two arguments as they were and every semaphore at zero, at any floats. -/
theorem args_kept (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩)
    (run_main m ρ)

end

/-- The two programs' bodies are one table: at the only label both run the same function. -/
theorem bodies_eq : Kernel.defs₀ (F := Bits) = KernelIdeal.defs₀ (F := Bits) := by
  refine congrArg Defs.onTc (funext fun ℓ => ?_)
  match ℓ with
  | ⟨0, _⟩ => exact funext fun ⟨_, _⟩ => rfl

/-- So the tables with their pipelines are one. -/
theorem tables_eq : Kernel.defs (F := Bits) = KernelIdeal.defs (F := Bits) :=
  congrArg (Pipeline.defs KernelIdeal.pcfgs) bodies_eq

/-- The frame of the call at its own floats. -/
theorem frame_kernel : Cert.quiescent_Kernel := fun m ρ _ => by
  rw [tables_eq]
  exact args_kept (F := Bits) m ρ

/-- The frame of the idealized call. -/
theorem frame_ideal : Cert.quiescent_KernelIdeal := fun m ρ _ => args_kept m ρ

/-- The frame of the idealized call under the precondition. -/
theorem frame_ideal_pre : Cert.quiescent_KernelIdeal_pre_finite_qk := fun m ρ _ => args_kept m ρ

end Cert.Attn

end
-- ==== Proof.Same.lean ====
/-
  The attention call and the reference compute one function of the rows and the context, wherever the queries and keys are
  finite: both are the mean of the values by the softmax of the scores.
-/
module

public import proofs.«01_k».proof.Proof.Mean
public import proofs.«01_k».proof.Proof.Fetch
public import proofs.«01_k».proof.Proof.RefValue
public import proofs.«01_k».proof.Proof.Frames
public import Idealize.ShloMosaic.Lib.ReduceAll

@[expose] public section

noncomputable section

namespace Cert.Attn

open Idealize.ShloMosaic Idealize.ShloMosaic.TcCoe Idealize.SL.Sem
open Cert.Ref (Arr pick)

/-! ## The numbers -/

theorem bits_128 : Ideal.ofBits .f32 0x43000000#32 = ((128 : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num
theorem bits_inf : Ideal.ofBits .f32 0x7F800000#32 = ⊤ := by simp [Ideal.ofBits, Ideal.ieee]

theorem sqrt_pos : (0 : ℝ) < Real.sqrt 128 := Real.sqrt_pos.mpr (by norm_num)
theorem log_pos : (0 : ℝ) < Real.log 2 := Real.log_pos (by norm_num)

/-- The queries' factor is a real: one over the product of the root of 128 and the logarithm of 2. -/
theorem qScale_eq : qScale ix0 = ((1 / (Real.sqrt 128 * Real.log 2) : ℝ) : EReal) := by
  rw [qScale_apply, bits_128, bits_2, Ideal.sqrt_coe, Ideal.log_coe, if_neg (by norm_num), if_neg (by norm_num), ← EReal.coe_mul,
    Ideal.div_coe (mul_pos sqrt_pos log_pos).ne', one_mul]

/-- The reference's factor: one over the root of 128. -/
theorem scale_eq : Cert.Ref.scale ix0 = ((1 / Real.sqrt 128 : ℝ) : EReal) := by
  rw [Cert.Ref.scale_apply, bits_128, Ideal.sqrt_coe, if_neg (by norm_num), Ideal.div_coe sqrt_pos.ne', one_mul]

/-! ## The precondition -/

/-- A number whose absolute value is below infinity is a real. -/
theorem real_of_abs_lt {S : Shape} (x y : FVec Ideal S .f32) (i : S.Idx) (hy : y i = ⊤) (h : cmpf .olt (Host.absf x) y i = 1#1) :
    IsReal (x i) := by
  have h' : max (x i) (-(x i)) < y i := by
    by_contra hn
    have e : cmpf .olt (Host.absf x) y i = BitVec.ofBool (decide (max (x i) (-(x i)) < y i)) := rfl
    rw [decide_eq_false hn] at e
    rw [e] at h
    exact absurd h (by decide)
  rw [hy] at h'
  refine isReal_of_ne (fun e => ?_) (fun e => ?_)
  · rw [e] at h'; simp at h'
  · rw [e] at h'; simp at h'

section
open Cert.Pre_finite_qk Cert.Pre_finite_qk.Gen

/-- The queries and keys of the rows, and the keys of the context, are reals. -/
structure Finite (z : Arr S16384x6144) (zc : Arr S256x6144) : Prop where
  rows : ∀ j (o : Fin 6144), o.val < 1280 → IsReal (z (ix2 j o))
  ctx : ∀ j (o : Fin 6144), 1024 ≤ o.val → o.val < 1280 → IsReal (zc (ix2 j o))

instance : Subsingleton S_.Idx := ⟨fun a b => funext fun i => i.elim0⟩

theorem finite_of_pre (z : Arr S16384x6144) (zc : Arr S256x6144) (h : Cert.Pre_finite_qk.fn (F := Ideal) z zc = fun _ => 1#1) : Finite z zc := by
  have h := congrFun h ix0
  have hab := IntOp.andi_eq_one.mp h
  refine ⟨fun j o ho => ?_, fun j o ho ho' => ?_⟩
  · have e := Host.reduce_andi_all _ _ _ _ _ hab.1 (ix2 j ⟨o.val, ho⟩ : S16384x1280.Idx)
    have r := real_of_abs_lt _ _ _ bits_inf e
    have q : extractStridedSlice S16384x1280 ![0, 0] z slices_S16384x6144_S16384x1280_0_0 (ix2 j ⟨o.val, ho⟩) = z (ix2 j o) := by
      pointwise
    exact (congrArg IsReal q).mp r
  · have e := Host.reduce_andi_all _ _ _ _ _ hab.2 (ix2 j ⟨o.val - 1024, by omega⟩ : S256x256.Idx)
    have r := real_of_abs_lt _ _ _ bits_inf e
    have q : extractStridedSlice S256x256 ![0, 1024] zc slices_S256x6144_S256x256_0_1024 (ix2 j ⟨o.val - 1024, by omega⟩)
        = zc (ix2 j ⟨1024 + (o.val - 1024), by omega⟩) := by
      pointwise
    have r := (congrArg IsReal q).mp r
    exact (congrArg (fun k => IsReal (zc (ix2 j k))) (Fin.ext (by show 1024 + (o.val - 1024) = o.val; omega))).mp r

end

section
open Cert.KernelIdeal Cert.KernelIdeal.Gen

variable {z : Arr S16384x6144} {zc : Arr S256x6144}

theorem pick_real (hf : Finite z zc) (j : ℕ) (o : Fin 6144) (h : 1024 ≤ o.val) (h' : o.val < 1280) : IsReal (pick z zc j o) := by
  unfold pick
  split
  · exact hf.rows _ _ h'
  · split
    · exact hf.ctx _ _ h h'
    · exact ⟨0, rfl⟩

theorem pick_row (j : Fin 16384) (o : Fin 6144) : pick z zc j o = z (ix2 j o) := dif_pos j.isLt
theorem pick_ctx (j : Fin 256) (o : Fin 6144) : pick z zc (16384 + j.val) o = zc (ix2 j o) := by
  unfold pick
  rw [dif_neg (by omega), dif_pos (by omega)]
  exact congrArg zc (congrArg (fun i => ix2 i o) (Fin.ext (by show 16384 + j.val - 16384 = j.val; omega)))

theorem ref_score_real (hf : Finite z zc) (h : Fin 2) (g : Fin 4) (r : Fin 16384) (j : Fin 16640) :
    IsReal (Cert.Ref.scores (Cert.Ref.queries z) (Cert.Ref.keys z zc) (ix4 h g r j)) := by
  rw [Cert.Ref.scores_apply, scale_eq]
  refine (IsReal.sum _ fun e _ => ?_).mul (IsReal.coe _)
  rw [Cert.Ref.keys_apply, Cert.Ref.queries_apply]
  refine (pick_real hf _ _ ?_ ?_).mul (hf.rows _ _ ?_)
  all_goals dsimp only
  all_goals omega

/-- The reference's scores are reals. -/
theorem ref_scores_real (hf : Finite z zc) (i : Cert.ReferenceIdeal.S2x4x16384x16640.Idx) :
    IsReal (Cert.Ref.scores (Cert.Ref.queries z) (Cert.Ref.keys z zc) i) :=
  (congrArg (fun i => IsReal (Cert.Ref.scores (Cert.Ref.queries z) (Cert.Ref.keys z zc) i)) (eq_ix4 i)).mpr
    (ref_score_real hf (i 0) (i 1) (i 2) (i 3))

/-- At row `R`, kv head `h`, query head `g` and channel `d`: the mean of the values by the powers of two of the scores with the
    factor of the queries, at any base, is the reference. -/
theorem mean_ref (hf : Finite z zc) (R : Fin 16384) (h : Fin 2) (g : Fin 4) (d : Fin 128) (M : EReal) (hM : IsReal M) (S : ℕ → EReal)
    (hS : ∀ j, S j = ∑ e : Fin 128, (z (ix2 R ⟨h.val * 512 + g.val * 128 + e.val, by omega⟩) * qScale ix0)
      * pick z zc j ⟨1024 + (h.val * 128 + e.val), by omega⟩) :
    Ideal.div (∑ j ∈ Finset.range 16640, weight (S j) M * pick z zc j ⟨1280 + (h.val * 128 + d.val), by omega⟩)
        (∑ j ∈ Finset.range 16640, weight (S j) M)
      = Cert.Ref.refOut z zc (ix2 R ⟨512 * h.val + 128 * g.val + d.val, by omega⟩) := by
  obtain ⟨a, rfl⟩ := hM
  obtain ⟨b, hb⟩ := Cert.Ref.greatest_real _ (ref_scores_real hf) (ix3 h g R)
  have hq : ∀ e : Fin 128, ∃ x : ℝ, z (ix2 R ⟨h.val * 512 + g.val * 128 + e.val, by omega⟩) = x := fun e => hf.rows _ _ (by dsimp only; omega)
  have hk : ∀ (j : ℕ) (e : Fin 128), ∃ x : ℝ, pick z zc j ⟨1024 + (h.val * 128 + e.val), by omega⟩ = x :=
    fun j e => pick_real hf _ _ (by dsimp only; omega) (by dsimp only; omega)
  choose x hx using hq
  choose y hy using hk
  have hs : ∀ j, S j = ((∑ e : Fin 128, x e * (1 / (Real.sqrt 128 * Real.log 2)) * y j e : ℝ) : EReal) := fun j => by
    rw [hS, coe_sum]
    exact Finset.sum_congr rfl fun e _ => by rw [hx, hy, qScale_eq, ← EReal.coe_mul, ← EReal.coe_mul]
  have ht : ∀ j : Fin 16640, Cert.Ref.scores (Cert.Ref.queries z) (Cert.Ref.keys z zc) (ix4 h g R j)
      = (((∑ e : Fin 128, y j e * x e) * (1 / Real.sqrt 128) : ℝ) : EReal) := fun j => by
    rw [Cert.Ref.scores_apply, scale_eq, EReal.coe_mul, coe_sum]
    refine congrArg (· * _) (Finset.sum_congr rfl fun e _ => ?_)
    rw [Cert.Ref.keys_apply, Cert.Ref.queries_apply, hx, hy, EReal.coe_mul]
  rw [Cert.Ref.refOut_apply, hb]
  simp only [hs, ht]
  rw [mean_eq (Finset.range 16640) ⟨0, by simp⟩ _ (fun j => (∑ e : Fin 128, y j e * x e) * (1 / Real.sqrt 128)) _ (fun j _ => ?_) a b,
    Finset.sum_range]
  · refine Finset.sum_congr rfl fun j _ => ?_
    rw [Finset.sum_range]
  · rw [Finset.sum_mul, Finset.mul_sum]
    refine Finset.sum_congr rfl fun e _ => ?_
    have h1 := sqrt_pos.ne'
    have h2 := log_pos.ne'
    field_simp

variable (m : (ℓ : Loc nD τ sig) → Buf (Elt Ideal) ℓ)

/-- What a point's body leaves is its block of the reference. -/
theorem result_eq (c : Dev nD) (hz : m ((c : Thread nD τ).loc main_arg0) = z) (hc : m ((c : Thread nD τ).loc main_arg1) = zc)
    (hf : Finite z zc) (t : Fin cfg0.N) (r : Fin 256) (k : Fin 512) :
    result (ins m c t) (ix2 r k) = Cert.Ref.refOut z zc (ix2 ⟨256 * (t.val % 64) + r.val, by omega⟩
      ⟨512 * (t.val / 64) + k.val, by have := lt_points t; omega⟩) := by
  have ht := lt_points t
  obtain ⟨h, hh⟩ : ∃ h : Fin 2, h.val = t.val / 64 := ⟨⟨t.val / 64, by omega⟩, rfl⟩
  obtain ⟨g, hg⟩ : ∃ g : Fin 4, g.val = k.val / 128 := ⟨⟨k.val / 128, by omega⟩, rfl⟩
  obtain ⟨d, hd⟩ : ∃ d : Fin 128, d.val = k.val % 128 := ⟨⟨k.val % 128, by omega⟩, rfl⟩
  obtain ⟨R, hR⟩ : ∃ R : Fin 16384, R.val = 256 * (t.val % 64) + r.val := ⟨⟨256 * (t.val % 64) + r.val, by omega⟩, rfl⟩
  obtain ⟨ρ, hρ⟩ : ∃ ρ : Fin 1024, ρ.val = 256 * (k.val / 128) + r.val := ⟨⟨256 * (k.val / 128) + r.val, by omega⟩, rfl⟩
  have hq : ∀ e : Fin 128, queries (ins m c t).X (ix2 ρ e) = z (ix2 R ⟨h.val * 512 + g.val * 128 + e.val, by omega⟩) * qScale ix0 := fun e => by
    rw [queries_apply, block0, V_rows, hz, scaled_apply, if_pos (by show 512 * (t.val / 64) + (128 * (ρ.val / 256) + e.val) < 1024; omega)]
    refine congrArg (fun i => z i * qScale ix0) (funext fun a => Fin.ext ?_)
    match a with
    | ⟨0, _⟩ => show 256 * (t.val % 64) + ρ.val % 256 = R.val; omega
    | ⟨1, _⟩ => show 512 * (t.val / 64) + (128 * (ρ.val / 256) + e.val) = h.val * 512 + g.val * 128 + e.val; omega
  have hrow : ∀ (b : ℕ) (hb : 1024 ≤ b) (hb' : b ≤ 1280) (j : Fin 16384) (e : Fin 128) p,
      scaled z (ix2 j ⟨b + (t.val / 64 * 128 + e.val), p⟩) = pick z zc j ⟨b + (h.val * 128 + e.val), by omega⟩ := fun b hb hb' j e p => by
    rw [scaled_apply, if_neg (by show ¬ b + (t.val / 64 * 128 + e.val) < 1024; omega), pick_row]
    simp only [hh]
  have hctx : ∀ (b : ℕ) (hb' : b ≤ 1280) (j : Fin 256) (e : Fin 128) p,
      context zc (ix2 j ⟨b + (t.val / 64 * 128 + e.val), p⟩) = pick z zc (16384 + j.val) ⟨b + (h.val * 128 + e.val), by omega⟩ := fun b hb' j e p => by
    rw [context_apply, pick_ctx]
    simp only [hh]
  let S : ℕ → EReal := fun j => ∑ e : Fin 128, (z (ix2 R ⟨h.val * 512 + g.val * 128 + e.val, by omega⟩) * qScale ix0)
      * pick z zc j ⟨1024 + (h.val * 128 + e.val), by omega⟩
  obtain ⟨M, hM, hquot⟩ := mean_holds (queries (ins m c t).X) (ins m c t).K (ins m c t).V (ins m c t).Kc (ins m c t).Vc S
    (fun j d => pick z zc j ⟨1280 + (h.val * 128 + d.val), by omega⟩) ρ
    (fun j _ => IsReal.sum _ fun e _ => ((hf.rows _ _ (by dsimp only; omega)).mul (qScale_eq ▸ IsReal.coe _)).mul
      (pick_real hf _ _ (by dsimp only; omega) (by dsimp only; omega)))
    (fun j => Finset.sum_congr rfl fun e _ => by rw [hq, block3, V_rows, hz, hrow 1024 (by omega) (by omega)])
    (fun j e => by rw [block4, V_rows, hz, hrow 1280 (by omega) (by omega)])
    (fun j => Finset.sum_congr rfl fun e _ => by rw [hq, block1, V_ctx, hc, hctx 1024 (by omega)])
    (fun j e => by rw [block2, V_ctx, hc, hctx 1280 (by omega)])
  have hres : result (ins m c t) (ix2 r k) = quot ((state (queries (ins m c t).X) (ins m c t).K (ins m c t).V 32).last
      (scoresCtx (queries (ins m c t).X) (ins m c t).Kc) (ins m c t).Vc).l ((state (queries (ins m c t).X) (ins m c t).K (ins m c t).V 32).last
      (scoresCtx (queries (ins m c t).X) (ins m c t).Kc) (ins m c t).Vc).acc (ix2 ρ d) := by
    unfold result
    rw [heads_apply]
    refine congrArg _ (funext fun a => Fin.ext ?_)
    match a with
    | ⟨0, _⟩ => exact hρ.symm
    | ⟨1, _⟩ => exact hd.symm
  rw [hres, hquot, mean_ref hf R h g d M hM S fun j => rfl]
  refine congrArg (Cert.Ref.refOut z zc) (funext fun a => Fin.ext ?_)
  match a with
  | ⟨0, _⟩ => exact hR
  | ⟨1, _⟩ => show 512 * h.val + 128 * g.val + d.val = 512 * (t.val / 64) + k.val; omega

/-- The call's result is the reference of its arguments. -/
theorem kernel_run (ρ : Dev nD → PrngReg) (hf : ∀ c : Dev nD, Finite (m ((c : Thread nD τ).loc main_arg0)) (m ((c : Thread nD τ).loc main_arg1))) :
    θ_run defs (onTc (τ := τ) (main (F := Ideal))) ⟨m, fun _ => 0, ρ⟩ (fun r => ∀ c : Dev nD,
      r.2.mem ((c : Thread nD τ).loc main_v11) = Cert.Ref.refOut (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c =>
    ⟨((h.1 c).1 5).trans (out_eq m c _ fun t r k => result_eq m c rfl rfl (hf c) t r k),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩)
    (run_main m ρ)

end

/-- From equal arguments with finite queries and keys the call and the reference end with equal results. -/
theorem algebraic : Cert.algebraic_KernelIdeal_ReferenceIdeal_pre_finite_qk := fun m g m' g' hpre heq =>
  ⟨fun c => Cert.Ref.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    kernel_run m g fun c => finite_of_pre _ _ (hpre c),
    (θ_run _ _ _).mono (fun r h c => ⟨((h.1 c).1).trans (congrArg₂ Cert.Ref.refOut (heq c).1 (heq c).2), (h.1 c).2⟩) (Cert.Ref.ref_run m' g')⟩

end Cert.Attn

end
-- ==== Proof.FfnRow.lean ====
/-
  The mathematics of one row of the feed-forward part, over the extended reals: the norm of a row, the gated hidden numbers,
  the sum that brings them back to the row's width, and the norm of the residual. The kernel takes the hidden numbers in two
  halves, which changes nothing.
-/
module

public import Idealize.ShloMosaic.PureOps.Ideal

@[expose] public section

noncomputable section

namespace Cert.Ffn

open Idealize.ShloMosaic

/-- A row's mean. -/
def mean (f : Fin 1024 → EReal) : EReal := Ideal.div (∑ k, f k) (Ideal.ofBits .f32 0x44800000#32)

/-- A row less its mean. -/
def centred (f : Fin 1024 → EReal) (k : Fin 1024) : EReal := f k - mean f

/-- The norm of a row: what is left of it without its mean, over the root of its variance. -/
def norm (f : Fin 1024 → EReal) (k : Fin 1024) : EReal :=
  centred f k * Ideal.rsqrt (mean (fun k => centred f k * centred f k) + Ideal.ofBits .f32 0x358637BD#32)

/-- A row's norm, scaled and shifted. -/
def modulated (f shift scale : Fin 1024 → EReal) (k : Fin 1024) : EReal := norm f k * (1 + scale k) + shift k

/-- A gate times the logistic function of it, times the number it gates. -/
def swiglu (g u : EReal) : EReal := g * Ideal.div 1 (1 + Ideal.exp (-g)) * u

/-- The row's product with column `j` of the first weights. -/
def up (h : Fin 1024 → EReal) (w : Fin 1024 → Fin 5632 → EReal) (j : Fin 5632) : EReal := ∑ k, h k * w k j

/-- Hidden number `j`: product `j` is the gate, product `2816 + j` what it gates. -/
def hidden (h : Fin 1024 → EReal) (w : Fin 1024 → Fin 5632 → EReal) (j : Fin 2816) : EReal :=
  swiglu (up h w ⟨j.val, by omega⟩) (up h w ⟨2816 + j.val, by omega⟩)

/-- The row with the gated feed-forward part of its modulated norm added. -/
def residual (f shift scale gate : Fin 1024 → EReal) (w : Fin 1024 → Fin 5632 → EReal) (v : Fin 2816 → Fin 1024 → EReal)
    (k : Fin 1024) : EReal :=
  Ideal.ofBits .f32 0x3FB504F3#32 * f k + gate k * ∑ j, hidden (modulated f shift scale) w j * v j k

/-- The whole row: the norm of the residual, scaled and shifted. -/
def row (f shift scale gate : Fin 1024 → EReal) (w : Fin 1024 → Fin 5632 → EReal) (v : Fin 2816 → Fin 1024 → EReal)
    (g b : Fin 1024 → EReal) (k : Fin 1024) : EReal :=
  norm (residual f shift scale gate w v) k * g k + b k

/-- A sum over the hidden numbers is the sum over their two halves. -/
theorem sum_halves (f : Fin 2816 → EReal) :
    ∑ j, f j = ∑ j : Fin 1408, f ⟨j.val, by omega⟩ + ∑ j : Fin 1408, f ⟨1408 + j.val, by omega⟩ :=
  Fin.sum_univ_add (a := 1408) (b := 1408) (show Fin (1408 + 1408) → EReal from f)

/-- Rows with equal numbers have equal norms. -/
theorem norm_congr {f g : Fin 1024 → EReal} (h : ∀ k, f k = g k) (k : Fin 1024) : norm f k = norm g k := by
  rw [funext h]

/-- Equal rows and weights make equal rows. -/
theorem row_congr {f f' s s' c c' a a' : Fin 1024 → EReal} {w w' : Fin 1024 → Fin 5632 → EReal} {v v' : Fin 2816 → Fin 1024 → EReal}
    {g g' b b' : Fin 1024 → EReal} (hf : ∀ k, f k = f' k) (hs : ∀ k, s k = s' k) (hc : ∀ k, c k = c' k) (ha : ∀ k, a k = a' k)
    (hw : ∀ k j, w k j = w' k j) (hv : ∀ j k, v j k = v' j k) (hg : ∀ k, g k = g' k) (hb : ∀ k, b k = b' k) (k : Fin 1024) :
    row f s c a w v g b k = row f' s' c' a' w' v' g' b' k := by
  rw [funext hf, funext hs, funext hc, funext ha, funext fun k => funext (hw k), funext fun j => funext (hv j), funext hg, funext hb]

end Cert.Ffn

end
-- ==== Proof.FfnKernel.lean ====
/-
  The feed-forward call's body over the extended reals: each half of a block of 512 rows is one function of the half and the
  weights, `half`, and read at an element that is `row` of that element's row.
-/
module

public import proofs.«01_k».proof.Proof.FfnRow
public import proofs.«01_k».proof.Proof.Gen.Kernel2Ideal.Value
public import Idealize.ShloMosaic.Lib.Pointwise
public import Idealize.ShloMosaic.Lib.Pipeline.ValueKit
public import Idealize.ShloMosaic.Lib.StableHlo.RunRead

@[expose] public section

noncomputable section

namespace Cert.Ffn

open Cert.Kernel2Ideal Cert.Kernel2Ideal.Gen
open Idealize.ShloMosaic Idealize.ShloMosaic.TcCoe Idealize.ShloMosaic.StableHlo

/-- Half a block of rows. -/
abbrev Half := FVec Ideal S256x1024 .f32
/-- One row for all rows. -/
abbrev One := FVec Ideal S1x1024 .f32

/-- The mean of each row. -/
def means (x : Half) : FVec Ideal S256x1 .f32 :=
  divf (shapeCast S256x1 (multiReduction .add [1] S256 x 0x00000000#32 reduces_S256x1024_S256 (.inl rfl) rfl) shapeCasts_S256_S256x1)
    (broadcast S256x1 (Scalar.ofBits .f32 0x44800000#32))

/-- Each row less its mean. -/
def centres (x : Half) : Half := subf x (broadcastTo S256x1024 (means x) broadcasts_S256x1_S256x1024)

/-- The norm of each row. -/
def norms (x : Half) : Half :=
  mulf (centres x) (broadcastTo S256x1024 (rsqrt (addf (means (mulf (centres x) (centres x)))
    (broadcast S256x1 (Scalar.ofBits .f32 0x358637BD#32)))) broadcasts_S256x1_S256x1024)

/-- The norms, scaled and shifted. -/
def mods (x : Half) (shift scale : One) : FVec Ideal S256x1024 .bf16 :=
  truncf .bf16 (addf (mulf (norms x) (broadcastTo S256x1024 (addf (broadcast S1x1024 (Scalar.ofBits .f32 0x3F800000#32)) scale)
    broadcasts_S1x1024_S256x1024)) (broadcastTo S256x1024 shift broadcasts_S1x1024_S256x1024)) bitsLt_bf16_f32

/-- The products with 1408 columns of the first weights. -/
def ups (h : FVec Ideal S256x1024 .bf16) (w : FVec Ideal S1024x1408 .bf16) : FVec Ideal S256x1408 .f32 :=
  matmul dot_S256x1024_S1024x1408_S256x1408_1_0_0_1_n_n none h (shapeCast S1024x1408 w shapeCasts_S1024x1408_S1024x1408)
    (constant S256x1408 .f32 0x00000000#32)

/-- The constant one. -/
def ones : FVec Ideal S256x1408 .f32 := broadcast S256x1408 (Scalar.ofBits .f32 0x3F800000#32)

/-- The hidden numbers of gates `g` and what they gate, `u`. -/
def hiddens (g u : FVec Ideal S256x1408 .f32) : FVec Ideal S256x1408 .bf16 :=
  truncf .bf16 (mulf (mulf g (divf ones (addf ones (exp (subf (broadcast S256x1408 (Scalar.ofBits .f32 0x00000000#32)) g))))) u) bitsLt_bf16_f32

/-- The products with 1408 rows of the second weights. -/
def downs (a : FVec Ideal S256x1408 .bf16) (v : FVec Ideal S1408x1024 .bf16) : Half :=
  matmul dot_S256x1408_S1408x1024_S256x1024_1_0_0_1_n_n none a (shapeCast S1408x1024 v shapeCasts_S1408x1024_S1408x1024)
    (constant S256x1024 .f32 0x00000000#32)

/-- The residuals from the two halves' products. -/
def residuals (x : Half) (gate : One) (p q : Half) : Half :=
  addf (mulf (broadcast S256x1024 (Scalar.ofBits .f32 0x3FB504F3#32)) x) (mulf (broadcastTo S256x1024 gate broadcasts_S1x1024_S256x1024) (addf p q))

/-- The last norms, scaled and shifted. -/
def finals (y : Half) (g b : One) : Half :=
  addf (mulf (norms y) (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

/-- What the body makes of half a block: `wg`, `wu` and `wd` are the weights of the gates, of what they gate and of the second
    product, in two halves each. -/
def half (x : Half) (shift scale gate : One) (wg wu wg' wu' : FVec Ideal S1024x1408 .bf16) (wd wd' : FVec Ideal S1408x1024 .bf16) (g b : One) : Half :=
  finals (residuals x gate (downs (hiddens (ups (mods x shift scale) wg) (ups (mods x shift scale) wu)) wd)
    (downs (hiddens (ups (mods x shift scale) wg') (ups (mods x shift scale) wu')) wd')) g b

/-- The first half of a block of rows, and its second half. -/
def lower (x : Vec Ideal S512x1024 .f32) : Half := View.ld (Val := Elt Ideal) (e' := .f32) x r0_0
def upper (x : Vec Ideal S512x1024 .f32) : Half := View.ld (Val := Elt Ideal) (e' := .f32) x r0_8

/-- The whole of a single row. -/
def whole (x : Vec Ideal S1x1024 .f32) : One := View.ld (Val := Elt Ideal) (e' := .f32) x r0_1

/-- What the body makes of the half `x` of a block, from the blocks of the other arguments. -/
def made (x : Half) (x1 x2 x3 : Vec Ideal S1x1024 .f32) (x4 : Vec Ideal S1024x5632 .bf16) (x5 : Vec Ideal S2816x1024 .bf16)
    (x6 x7 : Vec Ideal S1x1024 .f32) : Half :=
  half x (whole x1) (whole x2) (whole x3) (View.ld (Val := Elt Ideal) (e' := .bf16) x4 r0_2) (View.ld (Val := Elt Ideal) (e' := .bf16) x4 r0_3)
    (View.ld (Val := Elt Ideal) (e' := .bf16) x4 r0_5) (View.ld (Val := Elt Ideal) (e' := .bf16) x4 r0_6)
    (View.ld (Val := Elt Ideal) (e' := .bf16) x5 r0_4) (View.ld (Val := Elt Ideal) (e' := .bf16) x5 r0_7) (whole x6) (whole x7)

/-- The body leaves the two halves, each made so, in the output's block. -/
theorem out_eq_made (x0 : Vec Ideal S512x1024 .f32) (x1 x2 x3 : Vec Ideal S1x1024 .f32) (x4 : Vec Ideal S1024x5632 .bf16)
    (x5 : Vec Ideal S2816x1024 .bf16) (x6 x7 : Vec Ideal S1x1024 .f32) :
    out0_8 x0 x1 x2 x3 x4 x5 x6 x7 = View.canon (Val := Elt Ideal) (e := .f32)
      [⟨r0_8, made (upper x0) x1 x2 x3 x4 x5 x6 x7⟩, ⟨r0_0, made (lower x0) x1 x2 x3 x4 x5 x6 x7⟩] := rfl

theorem means_apply (x : Half) (r : Fin 256) (i : Fin 1) : means x (ix2 r i) = mean fun k => x (ix2 r k) := by
  pointwise [means, mean]

theorem centres_apply (x : Half) (r : Fin 256) (k : Fin 1024) : centres x (ix2 r k) = centred (fun k => x (ix2 r k)) k := by
  unfold centred
  rw [← means_apply x r 0]
  pointwise [centres]

theorem norms_apply (x : Half) (r : Fin 256) (k : Fin 1024) : norms x (ix2 r k) = norm (fun k => x (ix2 r k)) k := by
  have e : mean (fun k => centred (fun k => x (ix2 r k)) k * centred (fun k => x (ix2 r k)) k) = means (mulf (centres x) (centres x)) (ix2 r 0) := by
    rw [means_apply]
    simp only [← centres_apply]
    rfl
  unfold norm
  rw [e, ← centres_apply]
  pointwise [norms]

theorem mods_apply (x : Half) (shift scale : One) (r : Fin 256) (k : Fin 1024) :
    mods x shift scale (ix2 r k) = modulated (fun k => x (ix2 r k)) (fun k => shift (ix2 0 k)) (fun k => scale (ix2 0 k)) k := by
  unfold modulated
  rw [← norms_apply]
  pointwise [mods]

theorem ups_apply (h : FVec Ideal S256x1024 .bf16) (w : FVec Ideal S1024x1408 .bf16) (r : Fin 256) (j : Fin 1408) :
    ups h w (ix2 r j) = ∑ k : Fin 1024, h (ix2 r k) * w (ix2 k j) := by
  pointwise [ups]

theorem hiddens_apply (g u : FVec Ideal S256x1408 .f32) (r : Fin 256) (j : Fin 1408) :
    hiddens g u (ix2 r j) = swiglu (g (ix2 r j)) (u (ix2 r j)) := by
  unfold swiglu
  rw [← zero_sub (g (ix2 r j))]
  pointwise [hiddens, ones]

theorem downs_apply (a : FVec Ideal S256x1408 .bf16) (v : FVec Ideal S1408x1024 .bf16) (r : Fin 256) (k : Fin 1024) :
    downs a v (ix2 r k) = ∑ j : Fin 1408, a (ix2 r j) * v (ix2 j k) := by
  pointwise [downs]

theorem residuals_apply (x : Half) (gate : One) (p q : Half) (r : Fin 256) (k : Fin 1024) :
    residuals x gate p q (ix2 r k)
      = Ideal.ofBits .f32 0x3FB504F3#32 * x (ix2 r k) + gate (ix2 0 k) * (p (ix2 r k) + q (ix2 r k)) := by
  pointwise [residuals]

theorem finals_apply (y : Half) (g b : One) (r : Fin 256) (k : Fin 1024) :
    finals y g b (ix2 r k) = norm (fun k => y (ix2 r k)) k * g (ix2 0 k) + b (ix2 0 k) := by
  rw [← norms_apply]
  pointwise [finals]

/-- Half a block at row `r` and column `k`, from weights that are the parts of `w` and `v`. -/
theorem half_apply (x : Half) (shift scale gate : One) (wg wu wg' wu' : FVec Ideal S1024x1408 .bf16) (wd wd' : FVec Ideal S1408x1024 .bf16)
    (g b : One) (w : Fin 1024 → Fin 5632 → EReal) (v : Fin 2816 → Fin 1024 → EReal)
    (hg : ∀ (k : Fin 1024) (j : Fin 1408), wg (ix2 k j) = w k ⟨j.val, by omega⟩)
    (hu : ∀ (k : Fin 1024) (j : Fin 1408), wu (ix2 k j) = w k ⟨2816 + j.val, by omega⟩)
    (hg' : ∀ (k : Fin 1024) (j : Fin 1408), wg' (ix2 k j) = w k ⟨1408 + j.val, by omega⟩)
    (hu' : ∀ (k : Fin 1024) (j : Fin 1408), wu' (ix2 k j) = w k ⟨2816 + (1408 + j.val), by omega⟩)
    (hd : ∀ (j : Fin 1408) (k : Fin 1024), wd (ix2 j k) = v ⟨j.val, by omega⟩ k)
    (hd' : ∀ (j : Fin 1408) (k : Fin 1024), wd' (ix2 j k) = v ⟨1408 + j.val, by omega⟩ k) (r : Fin 256) (k : Fin 1024) :
    half x shift scale gate wg wu wg' wu' wd wd' g b (ix2 r k)
      = row (fun k => x (ix2 r k)) (fun k => shift (ix2 0 k)) (fun k => scale (ix2 0 k)) (fun k => gate (ix2 0 k)) w v
          (fun k => g (ix2 0 k)) (fun k => b (ix2 0 k)) k := by
  unfold half row
  rw [finals_apply]
  refine congrArg (fun z => z * _ + _) (norm_congr (fun k => ?_) k)
  unfold residual hidden up
  rw [residuals_apply, sum_halves]
  simp only [downs_apply, hiddens_apply, ups_apply, mods_apply, hg, hu, hg', hu', hd, hd']

theorem lower_apply (x : Vec Ideal S512x1024 .f32) (r : Fin 256) (k : Fin 1024) : lower x (ix2 r k) = x (ix2 ⟨r.val, by omega⟩ k) :=
  View.ld_unit_apply_of (Val := Elt Ideal) (e := .f32) x _ _ _ _ _ (Fin.forall_fin_two.mpr ⟨(Nat.zero_add _).symm, (Nat.zero_add _).symm⟩)

theorem upper_apply (x : Vec Ideal S512x1024 .f32) (r : Fin 256) (k : Fin 1024) : upper x (ix2 r k) = x (ix2 ⟨256 + r.val, by omega⟩ k) :=
  View.ld_unit_apply_of (Val := Elt Ideal) (e := .f32) x _ _ _ _ _ (Fin.forall_fin_two.mpr ⟨rfl, (Nat.zero_add _).symm⟩)

theorem whole_apply (x : Vec Ideal S1x1024 .f32) (k : Fin 1024) : whole x (ix2 0 k) = x (ix2 0 k) :=
  View.ld_unit_apply_of (Val := Elt Ideal) (e := .f32) x _ _ _ _ _ (Fin.forall_fin_two.mpr ⟨rfl, (Nat.zero_add _).symm⟩)

/-- The columns from `o` of the first weights. -/
theorem cols_apply (x : Vec Ideal S1024x5632 .bf16) (o : ℕ) (inb) (k : Fin 1024) (j : Fin 1408) (h : o + j.val < 5632) :
    View.ld (Val := Elt Ideal) (e' := .bf16) x (Rect.unit (s := S1024x5632) ![0, o] S1024x1408.size inb) (ix2 k j) = x (ix2 k ⟨o + j.val, h⟩) :=
  View.ld_unit_apply_of (Val := Elt Ideal) (e := .bf16) x _ _ _ _ _ (Fin.forall_fin_two.mpr ⟨(Nat.zero_add _).symm, rfl⟩)

/-- The rows from `o` of the second weights. -/
theorem rows_apply (x : Vec Ideal S2816x1024 .bf16) (o : ℕ) (inb) (j : Fin 1408) (k : Fin 1024) (h : o + j.val < 2816) :
    View.ld (Val := Elt Ideal) (e' := .bf16) x (Rect.unit (s := S2816x1024) ![o, 0] S1408x1024.size inb) (ix2 j k) = x (ix2 ⟨o + j.val, h⟩ k) :=
  View.ld_unit_apply_of (Val := Elt Ideal) (e := .bf16) x _ _ _ _ _ (Fin.forall_fin_two.mpr ⟨rfl, (Nat.zero_add _).symm⟩)

theorem made_apply (x : Half) (x1 x2 x3 : Vec Ideal S1x1024 .f32) (x4 : Vec Ideal S1024x5632 .bf16) (x5 : Vec Ideal S2816x1024 .bf16)
    (x6 x7 : Vec Ideal S1x1024 .f32) (r : Fin 256) (k : Fin 1024) :
    made x x1 x2 x3 x4 x5 x6 x7 (ix2 r k)
      = row (fun k => x (ix2 r k)) (fun k => x1 (ix2 0 k)) (fun k => x2 (ix2 0 k)) (fun k => x3 (ix2 0 k)) (fun k j => x4 (ix2 k j))
          (fun j k => x5 (ix2 j k)) (fun k => x6 (ix2 0 k)) (fun k => x7 (ix2 0 k)) k := by
  unfold made
  rw [half_apply _ _ _ _ _ _ _ _ _ _ _ _ (fun k j => x4 (ix2 k j)) (fun j k => x5 (ix2 j k))
    (fun k j => (cols_apply x4 0 _ k j (by omega)).trans (congrArg (fun j => x4 (ix2 k j)) (Fin.ext (Nat.zero_add _))))
    (fun k j => cols_apply x4 2816 _ k j (by omega)) (fun k j => cols_apply x4 1408 _ k j (by omega))
    (fun k j => (cols_apply x4 4224 _ k j (by omega)).trans (congrArg (fun j => x4 (ix2 k j)) (Fin.ext (by dsimp only; omega))))
    (fun j k => (rows_apply x5 0 _ j k (by omega)).trans (congrArg (fun j => x5 (ix2 j k)) (Fin.ext (Nat.zero_add _))))
    (fun j k => rows_apply x5 1408 _ j k (by omega))]
  simp only [whole_apply]

/-- A block from its two halves is `G` where each half is. -/
theorem canon_halves (p q : Half) (G : S512x1024.Idx → EReal)
    (hp : ∀ (r : Fin 256) (k : Fin 1024), p (ix2 r k) = G (ix2 ⟨256 + r.val, by omega⟩ k))
    (hq : ∀ (r : Fin 256) (k : Fin 1024), q (ix2 r k) = G (ix2 ⟨r.val, by omega⟩ k)) (y : S512x1024.Idx) :
    View.canon (Val := Elt Ideal) (e := .f32) [⟨r0_8, p⟩, ⟨r0_0, q⟩] y = G y := by
  refine View.canon_apply_of_pieces (Val := Elt Ideal) (e := .f32) G _ ?_ y (cover0_8 (F := Ideal) p q y)
  simp only [List.forall_mem_cons, List.not_mem_nil, false_imp_iff, implies_true, and_true]
  refine ⟨fun i => ?_, fun i => ?_⟩
  · refine ((congrArg p (eq_ix2 i)).trans (hp (i 0) (i 1))).trans (congrArg G (funext fun a => Fin.ext ?_))
    match a with
    | ⟨0, _⟩ => exact (Rect.idx_unit_val (s := S512x1024) ![256, 0] S256x1024.size inb_S512x1024_S256x1024_256_0 i 0).symm
    | ⟨1, _⟩ => exact ((Rect.idx_unit_val (s := S512x1024) ![256, 0] S256x1024.size inb_S512x1024_S256x1024_256_0 i 1).trans (Nat.zero_add _)).symm
  · refine ((congrArg q (eq_ix2 i)).trans (hq (i 0) (i 1))).trans (congrArg G (funext fun a => Fin.ext ?_))
    match a with
    | ⟨0, _⟩ => exact ((Rect.idx_unit_val (s := S512x1024) ![0, 0] S256x1024.size inb_S512x1024_S256x1024_0_0 i 0).trans (Nat.zero_add _)).symm
    | ⟨1, _⟩ => exact ((Rect.idx_unit_val (s := S512x1024) ![0, 0] S256x1024.size inb_S512x1024_S256x1024_0_0 i 1).trans (Nat.zero_add _)).symm

/-- The body leaves in every row of the output's block the `row` of the rows' block. -/
theorem out_block_apply (x0 : Vec Ideal S512x1024 .f32) (x1 x2 x3 : Vec Ideal S1x1024 .f32) (x4 : Vec Ideal S1024x5632 .bf16)
    (x5 : Vec Ideal S2816x1024 .bf16) (x6 x7 : Vec Ideal S1x1024 .f32) (y : S512x1024.Idx) :
    out0_8 x0 x1 x2 x3 x4 x5 x6 x7 y
      = row (fun k => x0 (ix2 (y 0) k)) (fun k => x1 (ix2 0 k)) (fun k => x2 (ix2 0 k)) (fun k => x3 (ix2 0 k)) (fun k j => x4 (ix2 k j))
          (fun j k => x5 (ix2 j k)) (fun k => x6 (ix2 0 k)) (fun k => x7 (ix2 0 k)) (y 1) := by
  rw [out_eq_made]
  refine canon_halves _ _ (fun y => row (fun k => x0 (ix2 (y 0) k)) (fun k => x1 (ix2 0 k)) (fun k => x2 (ix2 0 k)) (fun k => x3 (ix2 0 k))
    (fun k j => x4 (ix2 k j)) (fun j k => x5 (ix2 j k)) (fun k => x6 (ix2 0 k)) (fun k => x7 (ix2 0 k)) (y 1)) (fun r k => ?_) (fun r k => ?_) y
  · rw [made_apply]
    simp only [upper_apply]
    rfl
  · rw [made_apply]
    simp only [lower_apply]
    rfl

end Cert.Ffn

end
-- ==== Proof.FfnReference.lean ====
/-
  The feed-forward reference: what it computes of its arguments, read at an element, is `row` of that element's row.
-/
module

public import proofs.«01_k».proof.Defs
public import proofs.«01_k».proof.Proof.FfnRow
public import proofs.«01_k».proof.Proof.Gen.Reference2Ideal.Run
public import Idealize.ShloMosaic.Lib.Pointwise
public import Idealize.ShloMosaic.Lib.Quiescent

@[expose] public section

noncomputable section

namespace Cert.Ffn.Ref

open Cert.Reference2Ideal Cert.Reference2Ideal.Gen
open Idealize.ShloMosaic Idealize.ShloMosaic.TcCoe Idealize.ShloMosaic.StableHlo Idealize.SL.Sem

/-- A float array over the extended reals. -/
abbrev Arr (S : Shape) := FVec Ideal S .f32

/-- The mean of each row. -/
def means (x : Arr S16384x1024) : Arr S16384x1 :=
  Host.divf (broadcastInDim S16384x1 ![0] bcast_S16384_S16384x1_0
      (Host.reduceAdd x (constant S_ .f32 0x00000000#32) reducesTo_S16384x1024_S16384_d1 h_S_))
    (broadcastInDim S16384x1 ![] bcast_S_S16384x1 (constant S_ .f32 0x44800000#32))

/-- A number of each row laid along it. -/
def along (x : Arr S16384x1) : Arr S16384x1024 := broadcastInDim S16384x1024 ![0, 1] bcast_S16384x1_S16384x1024_0_1 x

/-- One row laid over all rows. -/
def over (x : Arr S1x1024) : Arr S16384x1024 := broadcastInDim S16384x1024 ![0, 1] bcast_S1x1024_S16384x1024_0_1 x

/-- Each row less its mean. -/
def centres (x : Arr S16384x1024) : Arr S16384x1024 := subf x (along (means x))

/-- The norm of each row. -/
def norms (x : Arr S16384x1024) : Arr S16384x1024 :=
  mulf (centres x) (along (Host.rsqrt (addf (means (mulf (centres x) (centres x)))
    (broadcastInDim S16384x1 ![] bcast_S_S16384x1 (constant S_ .f32 0x358637BD#32)))))

/-- The norms, scaled and shifted. -/
def mods (x : Arr S16384x1024) (shift scale : Arr S1x1024) : Arr S16384x1024 :=
  addf (mulf (norms x) (over (addf (broadcastInDim S1x1024 ![] bcast_S_S1x1024 (constant S_ .f32 0x3F800000#32)) scale))) (over shift)

/-- The products with the first weights. -/
def ups (h : Arr S16384x1024) (w : Arr S1024x5632) : Arr S16384x5632 :=
  Host.dotGeneral dot_S16384x1024_S1024x5632_S16384x5632_1_0_0_1_n_n none h w

/-- The gates. -/
def gates (u : Arr S16384x5632) : Arr S16384x2816 := extractStridedSlice S16384x2816 ![0, 0] u slices_S16384x5632_S16384x2816_0_0

/-- The constant one. -/
def ones : Arr S16384x2816 := broadcastInDim S16384x2816 ![] bcast_S_S16384x2816 (constant S_ .f32 0x3F800000#32)

/-- The hidden numbers. -/
def hiddens (u : Arr S16384x5632) : Arr S16384x2816 :=
  mulf (mulf (gates u) (Host.divf ones (addf ones (Host.exp (Host.negf (gates u))))))
    (extractStridedSlice S16384x2816 ![0, 2816] u slices_S16384x5632_S16384x2816_0_2816)

/-- The residuals from the hidden numbers. -/
def residuals (x : Arr S16384x1024) (gate : Arr S1x1024) (a : Arr S16384x2816) (v : Arr S2816x1024) : Arr S16384x1024 :=
  addf (mulf (broadcastInDim S16384x1024 ![] bcast_S_S16384x1024 (constant S_ .f32 0x3FB504F3#32)) x)
    (mulf (over gate) (Host.dotGeneral dot_S16384x2816_S2816x1024_S16384x1024_1_0_0_1_n_n none a v))

/-- The last norms, scaled and shifted. -/
def finals (y : Arr S16384x1024) (g b : Arr S1024) : Arr S16384x1024 :=
  addf (mulf (norms y) (over (broadcastInDim S1x1024 ![1] bcast_S1024_S1x1024_1 g))) (over (broadcastInDim S1x1024 ![1] bcast_S1024_S1x1024_1 b))

/-- What the reference computes of its arguments. -/
def out (x : Arr S16384x1024) (shift scale gate : Arr S1x1024) (w : Arr S1024x5632) (v : Arr S2816x1024) (g b : Arr S1024) : Arr S16384x1024 :=
  finals (residuals x gate (hiddens (ups (mods x shift scale) w)) v) g b

theorem means_apply (x : Arr S16384x1024) (r : Fin 16384) (i : Fin 1) : means x (ix2 r i) = mean fun k => x (ix2 r k) := by
  pointwise [means, mean]

theorem centres_apply (x : Arr S16384x1024) (r : Fin 16384) (k : Fin 1024) : centres x (ix2 r k) = centred (fun k => x (ix2 r k)) k := by
  unfold centred
  rw [← means_apply x r 0]
  pointwise [centres, along]

theorem norms_apply (x : Arr S16384x1024) (r : Fin 16384) (k : Fin 1024) : norms x (ix2 r k) = norm (fun k => x (ix2 r k)) k := by
  have e : mean (fun k => centred (fun k => x (ix2 r k)) k * centred (fun k => x (ix2 r k)) k) = means (mulf (centres x) (centres x)) (ix2 r 0) := by
    rw [means_apply]
    simp only [← centres_apply]
    rfl
  unfold norm
  rw [e, ← centres_apply]
  pointwise [norms, along]

theorem mods_apply (x : Arr S16384x1024) (shift scale : Arr S1x1024) (r : Fin 16384) (k : Fin 1024) :
    mods x shift scale (ix2 r k) = modulated (fun k => x (ix2 r k)) (fun k => shift (ix2 0 k)) (fun k => scale (ix2 0 k)) k := by
  unfold modulated
  rw [← norms_apply]
  pointwise [mods, over]

theorem ups_apply (h : Arr S16384x1024) (w : Arr S1024x5632) (r : Fin 16384) (j : Fin 5632) :
    ups h w (ix2 r j) = up (fun k => h (ix2 r k)) (fun k j => w (ix2 k j)) j := by
  pointwise [ups, up]

theorem hiddens_apply (u : Arr S16384x5632) (r : Fin 16384) (j : Fin 2816) :
    hiddens u (ix2 r j) = swiglu (u (ix2 r ⟨j.val, by omega⟩)) (u (ix2 r ⟨2816 + j.val, by omega⟩)) := by
  pointwise [hiddens, gates, ones, swiglu]

theorem residuals_apply (x : Arr S16384x1024) (gate : Arr S1x1024) (a : Arr S16384x2816) (v : Arr S2816x1024) (r : Fin 16384) (k : Fin 1024) :
    residuals x gate a v (ix2 r k)
      = Ideal.ofBits .f32 0x3FB504F3#32 * x (ix2 r k) + gate (ix2 0 k) * ∑ j : Fin 2816, a (ix2 r j) * v (ix2 j k) := by
  pointwise [residuals, over]

theorem finals_apply (y : Arr S16384x1024) (g b : Arr S1024) (r : Fin 16384) (k : Fin 1024) :
    finals y g b (ix2 r k) = norm (fun k => y (ix2 r k)) k * g (ix1 k) + b (ix1 k) := by
  rw [← norms_apply]
  pointwise [finals, over]

/-- The reference at row `r` and column `k`. -/
theorem out_apply (x : Arr S16384x1024) (shift scale gate : Arr S1x1024) (w : Arr S1024x5632) (v : Arr S2816x1024) (g b : Arr S1024)
    (r : Fin 16384) (k : Fin 1024) :
    out x shift scale gate w v g b (ix2 r k)
      = row (fun k => x (ix2 r k)) (fun k => shift (ix2 0 k)) (fun k => scale (ix2 0 k)) (fun k => gate (ix2 0 k))
          (fun k j => w (ix2 k j)) (fun j k => v (ix2 j k)) (fun k => g (ix1 k)) (fun k => b (ix1 k)) k := by
  unfold out row
  rw [finals_apply]
  refine congrArg (fun z => z * _ + _) (norm_congr (fun k => ?_) k)
  unfold residual hidden
  rw [residuals_apply]
  simp only [hiddens_apply, ups_apply, mods_apply]

variable (m : (ℓ : Loc nD τ sig) → Buf (Elt Ideal) ℓ)

/-- The reference's value is `out` of its arguments. -/
theorem result_eq (c : Dev nD) : Value.res_out0 m c = out (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) := by
  unfold Value.res_out0 Value.res_main_v58
  rfl

/-- The reference's frame. -/
theorem frame : Cert.quiescent_Reference2Ideal := fun m ρ _ =>
  (θ_run (defs (F := Ideal)) _ _).mono (fun r h => ⟨fun c => (h c).2, sem_eq_zero_of_no_sems (by decide) r.2⟩) (Value.run m ρ)

end Cert.Ffn.Ref

end
-- ==== Proof.FfnSame.lean ====
/-
  The feed-forward call and its reference compute one function of the arguments: row by row both are `row`. With it the call's
  frames.
-/
module

public import proofs.«01_k».proof.Defs
public import proofs.«01_k».proof.Proof.FfnKernel
public import proofs.«01_k».proof.Proof.FfnReference
public import proofs.«01_k».proof.Proof.Gen.Kernel2

@[expose] public section

noncomputable section

namespace Cert.Ffn

open Idealize.ShloMosaic Idealize.ShloMosaic.TcCoe Idealize.ShloMosaic.StableHlo Idealize.SL.Sem

section
open Cert.Kernel2Ideal Cert.Kernel2Ideal.Gen

variable (m : (ℓ : Loc nD τ sig) → Buf (Elt Ideal) ℓ)

/-! ## The arrays the host operations leave -/

theorem V_first (c : Dev nD) (k : Fin 1024) (j : Fin 5632) :
    V m c main_v0 (ix2 k j : S1024x5632.Idx) = m ((c : Thread nD τ).loc main_arg4) (ix2 k j : S1024x5632.Idx) := by
  have e : V m c main_v0 = (truncf .bf16 (m ((c : Thread nD τ).loc main_arg4)) bitsLt_bf16_f32 : FVec Ideal S1024x5632 .bf16) := by
    show StableHlo.after (hostOps0 (F := Ideal)) (fun b => m (c, b)) (Proc.devRef .tc main_v0) = _
    after_reads_simp
  exact congrFun e _

theorem V_second (c : Dev nD) (j : Fin 2816) (k : Fin 1024) :
    V m c main_v1 (ix2 j k : S2816x1024.Idx) = m ((c : Thread nD τ).loc main_arg5) (ix2 j k : S2816x1024.Idx) := by
  have e : V m c main_v1 = (truncf .bf16 (m ((c : Thread nD τ).loc main_arg5)) bitsLt_bf16_f32 : FVec Ideal S2816x1024 .bf16) := by
    show StableHlo.after (hostOps0 (F := Ideal)) (fun b => m (c, b)) (Proc.devRef .tc main_v1) = _
    after_reads_simp
  exact congrFun e _

/-- A vector as a single row. -/
theorem as_row_apply (x : FVec Ideal S1024 .f32) (k : Fin 1024) : shapeCast S1x1024 x shapeCasts_S1024_S1x1024 (ix2 0 k) = x (ix1 k) := by
  pointwise

theorem V_gain (c : Dev nD) (k : Fin 1024) :
    V m c main_v2 (ix2 0 k : S1x1024.Idx) = m ((c : Thread nD τ).loc main_arg6) (ix1 k : S1024.Idx) := by
  have e : V m c main_v2 = (shapeCast S1x1024 (m ((c : Thread nD τ).loc main_arg6)) shapeCasts_S1024_S1x1024 : FVec Ideal S1x1024 .f32) := by
    show StableHlo.after (hostOps0 (F := Ideal)) (fun b => m (c, b)) (Proc.devRef .tc main_v2) = _
    after_reads_simp
    rfl
  exact (congrFun e _).trans (as_row_apply _ k)

theorem V_offset (c : Dev nD) (k : Fin 1024) :
    V m c main_v3 (ix2 0 k : S1x1024.Idx) = m ((c : Thread nD τ).loc main_arg7) (ix1 k : S1024.Idx) := by
  have e : V m c main_v3 = (shapeCast S1x1024 (m ((c : Thread nD τ).loc main_arg7)) shapeCasts_S1024_S1x1024 : FVec Ideal S1x1024 .f32) := by
    show StableHlo.after (hostOps0 (F := Ideal)) (fun b => m (c, b)) (Proc.devRef .tc main_v3) = _
    after_reads_simp
    rfl
  exact (congrFun e _).trans (as_row_apply _ k)

/-! ## The windows -/

theorem at0 : ∀ t : Fin grid0.N, win0_0.index t 0 = t.val ∧ win0_0.index t 1 = 0 := by decide +kernel
theorem at1 : ∀ t : Fin grid0.N, win0_1.index t 0 = 0 ∧ win0_1.index t 1 = 0 := by decide +kernel
theorem at2 : ∀ t : Fin grid0.N, win0_2.index t 0 = 0 ∧ win0_2.index t 1 = 0 := by decide +kernel
theorem at3 : ∀ t : Fin grid0.N, win0_3.index t 0 = 0 ∧ win0_3.index t 1 = 0 := by decide +kernel
theorem at4 : ∀ t : Fin grid0.N, win0_4.index t 0 = 0 ∧ win0_4.index t 1 = 0 := by decide +kernel
theorem at5 : ∀ t : Fin grid0.N, win0_5.index t 0 = 0 ∧ win0_5.index t 1 = 0 := by decide +kernel
theorem at6 : ∀ t : Fin grid0.N, win0_6.index t 0 = 0 ∧ win0_6.index t 1 = 0 := by decide +kernel
theorem at7 : ∀ t : Fin grid0.N, win0_7.index t 0 = 0 ∧ win0_7.index t 1 = 0 := by decide +kernel
theorem at8 : ∀ t : Fin grid0.N, win0_8.index t 0 = t.val ∧ win0_8.index t 1 = 0 := by decide +kernel

theorem lt_points (t : Fin cfg0.N) : t.val < 32 := lt_of_lt_of_eq t.isLt N_0

/-- The rows' block: 512 rows. -/
theorem block0 (c : Dev nD) (t : Fin cfg0.N) (r : Fin 512) (k : Fin 1024) : (iblk m c 0 t : S512x1024.Idx → EReal) (ix2 r k)
    = m ((c : Thread nD τ).loc main_arg0) (ix2 ⟨512 * t.val + r.val, by have := lt_points t; omega⟩ k : S16384x1024.Idx) := by
  rw [← V_main_arg0 m c]
  refine congrArg (V m c main_arg0) (funext fun a => Fin.ext ?_)
  match a with
  | ⟨0, _⟩ =>
    show win0_0.index t 0 * 512 + 1 * r.val = 512 * t.val + r.val
    rw [(at0 t).1]; ring
  | ⟨1, _⟩ =>
    show win0_0.index t 1 * 1024 + 1 * k.val = k.val
    rw [(at0 t).2]; ring

theorem block1 (c : Dev nD) (t : Fin cfg0.N) (i : Fin 1) (k : Fin 1024) : (iblk m c 1 t : S1x1024.Idx → EReal) (ix2 i k)
    = V m c main_arg1 (ix2 i k : S1x1024.Idx) := by
  refine congrArg (V m c main_arg1) (funext fun a => Fin.ext ?_)
  match a with
  | ⟨0, _⟩ =>
    show win0_1.index t 0 * 1 + 1 * i.val = i.val
    rw [(at1 t).1]; ring
  | ⟨1, _⟩ =>
    show win0_1.index t 1 * 1024 + 1 * k.val = k.val
    rw [(at1 t).2]; ring

theorem block2 (c : Dev nD) (t : Fin cfg0.N) (i : Fin 1) (k : Fin 1024) : (iblk m c 2 t : S1x1024.Idx → EReal) (ix2 i k)
    = V m c main_arg2 (ix2 i k : S1x1024.Idx) := by
  refine congrArg (V m c main_arg2) (funext fun a => Fin.ext ?_)
  match a with
  | ⟨0, _⟩ =>
    show win0_2.index t 0 * 1 + 1 * i.val = i.val
    rw [(at2 t).1]; ring
  | ⟨1, _⟩ =>
    show win0_2.index t 1 * 1024 + 1 * k.val = k.val
    rw [(at2 t).2]; ring

theorem block3 (c : Dev nD) (t : Fin cfg0.N) (i : Fin 1) (k : Fin 1024) : (iblk m c 3 t : S1x1024.Idx → EReal) (ix2 i k)
    = V m c main_arg3 (ix2 i k : S1x1024.Idx) := by
  refine congrArg (V m c main_arg3) (funext fun a => Fin.ext ?_)
  match a with
  | ⟨0, _⟩ =>
    show win0_3.index t 0 * 1 + 1 * i.val = i.val
    rw [(at3 t).1]; ring
  | ⟨1, _⟩ =>
    show win0_3.index t 1 * 1024 + 1 * k.val = k.val
    rw [(at3 t).2]; ring

theorem block4 (c : Dev nD) (t : Fin cfg0.N) (k : Fin 1024) (j : Fin 5632) : (iblk m c 4 t : S1024x5632.Idx → EReal) (ix2 k j)
    = V m c main_v0 (ix2 k j : S1024x5632.Idx) := by
  refine congrArg (V m c main_v0) (funext fun a => Fin.ext ?_)
  match a with
  | ⟨0, _⟩ =>
    show win0_4.index t 0 * 1024 + 1 * k.val = k.val
    rw [(at4 t).1]; ring
  | ⟨1, _⟩ =>
    show win0_4.index t 1 * 5632 + 1 * j.val = j.val
    rw [(at4 t).2]; ring

theorem block5 (c : Dev nD) (t : Fin cfg0.N) (j : Fin 2816) (k : Fin 1024) : (iblk m c 5 t : S2816x1024.Idx → EReal) (ix2 j k)
    = V m c main_v1 (ix2 j k : S2816x1024.Idx) := by
  refine congrArg (V m c main_v1) (funext fun a => Fin.ext ?_)
  match a with
  | ⟨0, _⟩ =>
    show win0_5.index t 0 * 2816 + 1 * j.val = j.val
    rw [(at5 t).1]; ring
  | ⟨1, _⟩ =>
    show win0_5.index t 1 * 1024 + 1 * k.val = k.val
    rw [(at5 t).2]; ring

theorem block6 (c : Dev nD) (t : Fin cfg0.N) (i : Fin 1) (k : Fin 1024) : (iblk m c 6 t : S1x1024.Idx → EReal) (ix2 i k)
    = V m c main_v2 (ix2 i k : S1x1024.Idx) := by
  refine congrArg (V m c main_v2) (funext fun a => Fin.ext ?_)
  match a with
  | ⟨0, _⟩ =>
    show win0_6.index t 0 * 1 + 1 * i.val = i.val
    rw [(at6 t).1]; ring
  | ⟨1, _⟩ =>
    show win0_6.index t 1 * 1024 + 1 * k.val = k.val
    rw [(at6 t).2]; ring

theorem block7 (c : Dev nD) (t : Fin cfg0.N) (i : Fin 1) (k : Fin 1024) : (iblk m c 7 t : S1x1024.Idx → EReal) (ix2 i k)
    = V m c main_v3 (ix2 i k : S1x1024.Idx) := by
  refine congrArg (V m c main_v3) (funext fun a => Fin.ext ?_)
  match a with
  | ⟨0, _⟩ =>
    show win0_7.index t 0 * 1 + 1 * i.val = i.val
    rw [(at7 t).1]; ring
  | ⟨1, _⟩ =>
    show win0_7.index t 1 * 1024 + 1 * k.val = k.val
    rw [(at7 t).2]; ring

/-- Where the result's block lies in its array. -/
theorem mem_block8 (t : Fin cfg0.N) (i : S16384x1024.Idx) : i ∈ ((cfg0.win 8).blk t).view.set ↔
    (512 * t.val ≤ (i 0).val ∧ (i 0).val < 512 * t.val + 512) ∧ 0 ≤ (i 1).val ∧ (i 1).val < 1024 := by
  show i ∈ ((View.whole main_v4).slice (win0_8.rect t)).set ↔ _
  rw [View.set_slice_whole, Rect.mem_set_unit]
  refine Fin.forall_fin_two.trans (and_congr ?_ ?_)
  · show win0_8.index t 0 * 512 ≤ (i 0).val ∧ (i 0).val < win0_8.index t 0 * 512 + 512 ↔ _
    rw [(at8 t).1]; constructor <;> intro h <;> omega
  · show win0_8.index t 1 * 1024 ≤ (i 1).val ∧ (i 1).val < win0_8.index t 1 * 1024 + 1024 ↔ _
    rw [(at8 t).2]

/-- The blocks of all points are the whole array. -/
theorem cover8 (i : S16384x1024.Idx) : ∃ t : Fin cfg0.N, (cfg0.win 8).flush t = true ∧ i ∈ ((cfg0.win 8).blk t).view.set := by
  have h0 : (i 0).val < 16384 := (i 0).isLt
  have h1 : (i 1).val < 1024 := (i 1).isLt
  refine ⟨⟨(i 0).val / 512, lt_of_lt_of_eq (by omega) N_0.symm⟩, flush0_8 _, (mem_block8 _ i).mpr ?_⟩
  dsimp only
  omega

/-- What the reference computes of the call's arguments. -/
def target (c : Dev nD) : FVec Ideal S16384x1024 .f32 :=
  Ref.out (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- What a point's body leaves is its block of the reference. -/
theorem block_eq (c : Dev nD) (t : Fin cfg0.N) (y : S512x1024.Idx) :
    out0_8 (iblk m c 0 t) (iblk m c 1 t) (iblk m c 2 t) (iblk m c 3 t) (iblk m c 4 t) (iblk m c 5 t) (iblk m c 6 t) (iblk m c 7 t) y
      = target m c (ix2 ⟨512 * t.val + (y 0).val, by have := lt_points t; have h : (y 0).val < 512 := (y 0).isLt; omega⟩ (y 1)) := by
  unfold target
  rw [out_block_apply]
  refine Eq.trans ?_ (Ref.out_apply _ _ _ _ _ _ _ _ _ _).symm
  exact row_congr (fun k => block0 m c t (y 0) k) (fun k => (block1 m c t 0 k).trans (congrFun (V_main_arg1 m c) _))
    (fun k => (block2 m c t 0 k).trans (congrFun (V_main_arg2 m c) _)) (fun k => (block3 m c t 0 k).trans (congrFun (V_main_arg3 m c) _))
    (fun k j => (block4 m c t k j).trans (V_first m c k j)) (fun j k => (block5 m c t j k).trans (V_second m c j k))
    (fun k => (block6 m c t 0 k).trans (V_gain m c k)) (fun k => (block7 m c t 0 k).trans (V_offset m c k)) (y 1)

/-- The output array is the reference of the arguments. -/
theorem out_eq (c : Dev nD) : (dats m 0 c).arrAt 8 cfg0.N = target m c := by
  refine (dats m 0 c).arrAt_eq_of_cover 8 (target m c) (fun t _ => ?_) cover8
  rw [Value.flushed8]
  funext y
  refine Eq.trans rfl ((block_eq m c t y).trans (congrArg (target m c) (funext fun a => Fin.ext ?_)))
  match a with
  | ⟨0, _⟩ =>
    show 512 * t.val + (y 0).val = win0_8.index t 0 * 512 + 1 * (y 0).val
    rw [(at8 t).1]; ring
  | ⟨1, _⟩ =>
    show (y 1).val = win0_8.index t 1 * 1024 + 1 * (y 1).val
    rw [(at8 t).2]; ring

end

/-! ## The frames -/

/-- The two programs' bodies are one table: at the only label both run the same function. -/
theorem bodies_eq : Kernel2.defs₀ (F := Bits) = Kernel2Ideal.defs₀ (F := Bits) := by
  refine congrArg Defs.onTc (funext fun ℓ => ?_)
  match ℓ with
  | ⟨0, _⟩ => exact funext fun ⟨_, _⟩ => rfl

/-- So the tables with their pipelines are one. -/
theorem tables_eq : Kernel2.defs (F := Bits) = Kernel2Ideal.defs (F := Bits) :=
  congrArg (Pipeline.defs Kernel2Ideal.pcfgs) bodies_eq

/-- The frame of the call at its own floats. -/
theorem frame_kernel : Cert.quiescent_Kernel2 := fun m ρ _ => by
  rw [tables_eq]
  exact Kernel2Ideal.Gen.frame (F := Bits) m ρ

/-- The frame of the idealized call. -/
theorem frame_ideal : Cert.quiescent_Kernel2Ideal := fun m ρ _ => Kernel2Ideal.Gen.frame m ρ

/-! ## The value -/

/-- From equal arguments the call and the reference end with equal results. -/
theorem algebraic : Cert.algebraic_Kernel2Ideal_Reference2Ideal := fun m g m' g' _ heq =>
  ⟨target m, (θ_run _ _ _).mono (fun r h c => ⟨((h c).1).trans (out_eq m c), (h c).2⟩) (Kernel2Ideal.Value.run_blocks m g),
    (θ_run _ _ _).mono (fun r h c => ⟨((h c).1).trans ((Ref.result_eq m' c).trans (by
      obtain ⟨h0, h1, h2, h3, h4, h5, h6, h7⟩ := heq c
      rw [h0, h1, h2, h3, h4, h5, h6, h7]
      rfl)), (h c).2⟩) (Reference2Ideal.Value.run m' g')⟩

end Cert.Ffn

end
-- ==== Proof.InRow.lean ====
/-
  The mathematics of one row of the projection, over the extended reals: the row's products with the weights' columns, a
  head's numbers over the root of their mean square, their rotation in pairs, the gelu and the logistic function, and the
  norm of the gMLP's second half. A constant factor and the sign of a sine may be taken into a table, which changes nothing.
-/
module

public import proofs.«01_k».proof.Proof.FfnRow

@[expose] public section

noncomputable section

namespace Cert.In

open Idealize.ShloMosaic

/-- The pair a head's column lies in. -/
abbrev half (d : Fin 128) : Fin 64 := ⟨d.val / 2, by omega⟩

/-- The row's product with column `j` of the weights. -/
def proj (h : Fin 1024 → EReal) (w : Fin 1024 → Fin 6144 → EReal) (j : Fin 6144) : EReal := ∑ k, h k * w k j

/-- A head's numbers over the root of their mean square, times a gain. -/
def scaled (y g : Fin 128 → EReal) (d : Fin 128) : EReal :=
  y d * Ideal.rsqrt (Ideal.div (∑ k, y k * y k) (Ideal.ofBits .f32 0x43000000#32) + Ideal.ofBits .f32 0x358637BD#32) * g d

/-- A head's numbers rotated, each pair of neighbours by its angle. -/
def turned (y : Fin 128 → EReal) (c s : Fin 64 → EReal) (d : Fin 128) : EReal :=
  if d.val % 2 = 0 then
    y ⟨2 * (d.val / 2), by omega⟩ * c ⟨d.val / 2, by omega⟩ - y ⟨2 * (d.val / 2) + 1, by omega⟩ * s ⟨d.val / 2, by omega⟩
  else
    y ⟨2 * (d.val / 2), by omega⟩ * s ⟨d.val / 2, by omega⟩ + y ⟨2 * (d.val / 2) + 1, by omega⟩ * c ⟨d.val / 2, by omega⟩

/-- The same from tables over the head's numbers: each number times its cosine, and its neighbour times the signed sine. -/
def swung (y c s : Fin 128 → EReal) (d : Fin 128) : EReal :=
  y d * c d + (if d.val % 2 = 0 then y ⟨(d.val + 1) % 128, by omega⟩ else y ⟨(d.val + 127) % 128, by omega⟩) * s d

/-- The gelu in its form with the hyperbolic tangent. -/
def gelu (x : EReal) : EReal :=
  Ideal.ofBits .f32 0x3F000000#32 * x * (1 + Ideal.tanh (Ideal.ofBits .f32 0x3F4C422A#32 *
    (x + Ideal.ofBits .f32 0x3D372713#32 * (x * x * x))))

/-- The logistic function. -/
def logistic (x : EReal) : EReal := Ideal.div 1 (1 + Ideal.exp (-x))

/-- The mean of 512 numbers. -/
def mean (f : Fin 512 → EReal) : EReal := Ideal.div (∑ k, f k) (Ideal.ofBits .f32 0x44000000#32)

/-- They less their mean. -/
def centred (f : Fin 512 → EReal) (k : Fin 512) : EReal := f k - mean f

/-- Their norm. -/
def norm (f : Fin 512 → EReal) (k : Fin 512) : EReal :=
  centred f k * Ideal.rsqrt (mean (fun k => centred f k * centred f k) + Ideal.ofBits .f32 0x358637BD#32)

/-- The constant of the queries is a positive real number. -/
theorem prescale_nonneg : 0 ≤ Ideal.ofBits .f32 0x3E0293EE#32 ∧ Ideal.ofBits .f32 0x3E0293EE#32 ≠ ⊤ := by
  have e : Ideal.ofBits .f32 0x3E0293EE#32 = ((8557550 / 67108864 : ℝ) : EReal) := by
    simp [Ideal.ofBits, Ideal.ieee, -EReal.coe_mul]; norm_num
  rw [e]
  exact ⟨EReal.coe_nonneg.mpr (by norm_num), EReal.coe_ne_top _⟩

/-- A rotation by the tables is the rotation by the angles they are made of. -/
theorem swung_eq (y c2 s2 : Fin 128 → EReal) (c s : Fin 64 → EReal) (hc : ∀ d, c2 d = c ⟨d.val / 2, by omega⟩)
    (hs : ∀ d : Fin 128, s2 d = if d.val % 2 = 0 then -s ⟨d.val / 2, by omega⟩ else s ⟨d.val / 2, by omega⟩) (d : Fin 128) :
    swung y c2 s2 d = turned y c s d := by
  have hd := d.isLt
  unfold swung turned
  rw [hc, hs]
  by_cases h : d.val % 2 = 0
  · rw [if_pos h, if_pos h, if_pos h, sub_eq_add_neg, mul_neg]
    have e0 : (⟨2 * (d.val / 2), by omega⟩ : Fin 128) = d := Fin.ext (by dsimp only; omega)
    have e1 : (⟨2 * (d.val / 2) + 1, by omega⟩ : Fin 128) = ⟨(d.val + 1) % 128, by omega⟩ := Fin.ext (by dsimp only; omega)
    rw [e0, e1]
  · rw [if_neg h, if_neg h, if_neg h, add_comm]
    have e0 : (⟨2 * (d.val / 2), by omega⟩ : Fin 128) = ⟨(d.val + 127) % 128, by omega⟩ := Fin.ext (by dsimp only; omega)
    have e1 : (⟨2 * (d.val / 2) + 1, by omega⟩ : Fin 128) = d := Fin.ext (by dsimp only; omega)
    rw [e0, e1]

/-- A constant factor of the gain is one of the head's numbers. -/
theorem scaled_mul (y g : Fin 128 → EReal) (p : EReal) (d : Fin 128) : scaled y (fun d => g d * p) d = scaled y g d * p :=
  (mul_assoc _ _ _).symm

/-- A nonnegative constant factor of a head's numbers is one of the rotated numbers. -/
theorem turned_mul (y : Fin 128 → EReal) (c s : Fin 64 → EReal) (p : EReal) (h0 : 0 ≤ p) (ht : p ≠ ⊤) (d : Fin 128) :
    turned (fun d => y d * p) c s d = turned y c s d * p := by
  have e : ∀ a b : EReal, a * p * b = a * b * p := fun a b => mul_right_comm a p b
  unfold turned
  split
  · rw [e, e, sub_eq_add_neg, sub_eq_add_neg, EReal.right_distrib_of_nonneg_of_ne_top h0 ht, neg_mul]
  · rw [e, e, EReal.right_distrib_of_nonneg_of_ne_top h0 ht]

/-- Equal heads turn to equal heads. -/
theorem turned_congr {y y' : Fin 128 → EReal} {c c' s s' : Fin 64 → EReal} (hy : ∀ d, y d = y' d) (hc : ∀ i, c i = c' i)
    (hs : ∀ i, s i = s' i) (d : Fin 128) : turned y c s d = turned y' c' s' d := by
  rw [funext hy, funext hc, funext hs]

theorem norm_congr {f g : Fin 512 → EReal} (h : ∀ k, f k = g k) (k : Fin 512) : norm f k = norm g k := by
  rw [funext h]

/-- Column `i` of the part from column `o`. -/
def column (o : ℕ) {n : ℕ} (b : o + n ≤ 6144) (i : Fin n) : Fin 6144 := ⟨o + i.val, by omega⟩

/-- Number `j` of a row of the result: eight query heads, rotated and scaled; two key heads, rotated; the values; the gelu of the
    gMLP's first half, and the norm of that of its second; the feed-forward's numbers; the gates. -/
def row (h : Fin 1024 → EReal) (w : Fin 1024 → Fin 6144 → EReal) (qg kg : Fin 128 → EReal) (g b : Fin 512 → EReal)
    (c s : Fin 64 → EReal) (j : Fin 6144) : EReal :=
  if j.val < 1024 then
    turned (scaled (fun d => proj h w ⟨128 * (j.val / 128) + d.val, by omega⟩) qg) c s ⟨j.val % 128, by omega⟩
      * Ideal.ofBits .f32 0x3E0293EE#32
  else if j.val < 1280 then
    turned (scaled (fun d => proj h w ⟨128 * (j.val / 128) + d.val, by omega⟩) kg) c s ⟨j.val % 128, by omega⟩
  else if j.val < 1536 then proj h w j
  else if j.val < 2048 then gelu (proj h w j)
  else if j.val < 2560 then
    norm (fun k => gelu (proj h w ⟨2048 + k.val, by omega⟩)) ⟨j.val % 512, by omega⟩ * g ⟨j.val % 512, by omega⟩
      + b ⟨j.val % 512, by omega⟩
  else if j.val < 3072 then proj h w j
  else logistic (proj h w j)

section
variable (h : Fin 1024 → EReal) (w : Fin 1024 → Fin 6144 → EReal) (qg kg : Fin 128 → EReal) (g b : Fin 512 → EReal)
  (c s : Fin 64 → EReal)

theorem row_query (o : ℕ) (b' : o + 128 ≤ 6144) (ho : o + 128 ≤ 1024) (e : o % 128 = 0) (d : Fin 128) :
    row h w qg kg g b c s (column o b' d)
      = turned (scaled (fun d => proj h w (column o b' d)) qg) c s d * Ideal.ofBits .f32 0x3E0293EE#32 := by
  have e1 : 128 * ((o + d.val) / 128) = o := by omega
  have e2 : (⟨(o + d.val) % 128, by omega⟩ : Fin 128) = d := Fin.ext (by dsimp only; omega)
  unfold row column
  dsimp only
  rw [if_pos (by omega)]
  simp only [e1, e2]

theorem row_key (o : ℕ) (b' : o + 128 ≤ 6144) (h0 : 1024 ≤ o) (ho : o + 128 ≤ 1280) (e : o % 128 = 0) (d : Fin 128) :
    row h w qg kg g b c s (column o b' d) = turned (scaled (fun d => proj h w (column o b' d)) kg) c s d := by
  have e1 : 128 * ((o + d.val) / 128) = o := by omega
  have e2 : (⟨(o + d.val) % 128, by omega⟩ : Fin 128) = d := Fin.ext (by dsimp only; omega)
  unfold row column
  dsimp only
  rw [if_neg (by omega), if_pos (by omega)]
  simp only [e1, e2]

theorem row_value (j : Fin 6144) (h0 : 1280 ≤ j.val) (h1 : j.val < 1536) : row h w qg kg g b c s j = proj h w j := by
  unfold row
  rw [if_neg (by omega), if_neg (by omega), if_pos (by omega)]

theorem row_gelu (j : Fin 6144) (h0 : 1536 ≤ j.val) (h1 : j.val < 2048) : row h w qg kg g b c s j = gelu (proj h w j) := by
  unfold row
  rw [if_neg (by omega), if_neg (by omega), if_neg (by omega), if_pos (by omega)]

theorem row_norm (b' : 2048 + 512 ≤ 6144) (i : Fin 512) : row h w qg kg g b c s (column 2048 b' i)
    = norm (fun k => gelu (proj h w (column 2048 b' k))) i * g i + b i := by
  have e2 : (⟨(2048 + i.val) % 512, by omega⟩ : Fin 512) = i := Fin.ext (by dsimp only; omega)
  unfold row column
  dsimp only
  rw [if_neg (by omega), if_neg (by omega), if_neg (by omega), if_neg (by omega), if_pos (by omega), e2]

theorem row_plain (j : Fin 6144) (h0 : 2560 ≤ j.val) (h1 : j.val < 3072) : row h w qg kg g b c s j = proj h w j := by
  unfold row
  rw [if_neg (by omega), if_neg (by omega), if_neg (by omega), if_neg (by omega), if_neg (by omega), if_pos (by omega)]

theorem row_gate (j : Fin 6144) (h0 : 3072 ≤ j.val) : row h w qg kg g b c s j = logistic (proj h w j) := by
  unfold row
  rw [if_neg (by omega), if_neg (by omega), if_neg (by omega), if_neg (by omega), if_neg (by omega), if_neg (by omega)]

end

/-- Equal arguments make equal rows. -/
theorem row_congr {h h' : Fin 1024 → EReal} {w w' : Fin 1024 → Fin 6144 → EReal} {qg qg' kg kg' : Fin 128 → EReal}
    {g g' b b' : Fin 512 → EReal} {c c' s s' : Fin 64 → EReal} (hh : ∀ k, h k = h' k) (hw : ∀ k j, w k j = w' k j)
    (hq : ∀ d, qg d = qg' d) (hk : ∀ d, kg d = kg' d) (hg : ∀ k, g k = g' k) (hb : ∀ k, b k = b' k) (hc : ∀ i, c i = c' i)
    (hs : ∀ i, s i = s' i) (j : Fin 6144) : row h w qg kg g b c s j = row h' w' qg' kg' g' b' c' s' j := by
  rw [funext hh, (funext fun k => funext (hw k) : w = w'), funext hq, funext hk, funext hg, funext hb, funext hc, funext hs]

end Cert.In

end
-- ==== Proof.InKernel.lean ====
/-
  The projection's body over the extended reals: each of the twenty parts it stores of a block of 512 rows is one function of
  the block, of columns of the weights and of the other arguments, read here at an element.
-/
module

public import proofs.«01_k».proof.Proof.InRow
public import proofs.«01_k».proof.Proof.Gen.Kernel3Ideal.Value
public import Idealize.ShloMosaic.Lib.Pointwise
public import Idealize.ShloMosaic.Lib.KernelVsHost
public import Idealize.ShloMosaic.Lib.Pipeline.ValueKit
public import Idealize.ShloMosaic.Lib.StableHlo.RunRead

@[expose] public section

noncomputable section

namespace Cert.In

open Cert.Kernel3Ideal Cert.Kernel3Ideal.Gen
open Idealize.ShloMosaic Idealize.ShloMosaic.TcCoe Idealize.ShloMosaic.StableHlo

/-- A block of rows; its products with 512 columns; a head of them. -/
abbrev Block := FVec Ideal S512x1024 .f32
abbrev Cols := FVec Ideal S512x512 .f32
abbrev Head := FVec Ideal S512x128 .f32
/-- One row for all rows, of three widths. -/
abbrev One := FVec Ideal S1x1024 .f32
abbrev Gain := FVec Ideal S1x128 .f32
abbrev Affine := FVec Ideal S1x512 .f32

/-! ## The modulated norm and the products -/

/-- The mean of each row. -/
def means (x : Block) : FVec Ideal S512x1 .f32 :=
  divf (shapeCast S512x1 (multiReduction .add [1] S512 x 0x00000000#32 reduces_S512x1024_S512 (.inl rfl) rfl) shapeCasts_S512_S512x1)
    (broadcast S512x1 (Scalar.ofBits .f32 0x44800000#32))

/-- Each row less its mean. -/
def centres (x : Block) : Block := subf x (broadcastTo S512x1024 (means x) broadcasts_S512x1_S512x1024)

/-- The norm of each row. -/
def norms (x : Block) : Block :=
  mulf (centres x) (broadcastTo S512x1024 (rsqrt (addf (means (mulf (centres x) (centres x)))
    (broadcast S512x1 (Scalar.ofBits .f32 0x358637BD#32)))) broadcasts_S512x1_S512x1024)

/-- The norms, scaled and shifted. -/
def mods (x : Block) (shift scale : One) : FVec Ideal S512x1024 .bf16 :=
  truncf .bf16 (addf (mulf (norms x) (broadcastTo S512x1024 (addf (broadcast S1x1024 (Scalar.ofBits .f32 0x3F800000#32)) scale)
    broadcasts_S1x1024_S512x1024)) (broadcastTo S512x1024 shift broadcasts_S1x1024_S512x1024)) bitsLt_bf16_f32

/-- The products with 512 columns of the weights. -/
def prods (h : FVec Ideal S512x1024 .bf16) (w : FVec Ideal S1024x512 .bf16) : Cols :=
  matmul dot_S512x1024_S1024x512_S512x512_1_0_0_1_n_n none h (shapeCast S1024x512 w shapeCasts_S1024x512_S1024x512)
    (constant S512x512 .f32 0x00000000#32)

theorem means_apply (x : Block) (r : Fin 512) (i : Fin 1) : means x (ix2 r i) = Ffn.mean fun k => x (ix2 r k) := by
  pointwise [means, Ffn.mean]

theorem centres_apply (x : Block) (r : Fin 512) (k : Fin 1024) : centres x (ix2 r k) = Ffn.centred (fun k => x (ix2 r k)) k := by
  unfold Ffn.centred
  rw [← means_apply x r 0]
  pointwise [centres]

theorem norms_apply (x : Block) (r : Fin 512) (k : Fin 1024) : norms x (ix2 r k) = Ffn.norm (fun k => x (ix2 r k)) k := by
  have e : Ffn.mean (fun k => Ffn.centred (fun k => x (ix2 r k)) k * Ffn.centred (fun k => x (ix2 r k)) k)
      = means (mulf (centres x) (centres x)) (ix2 r 0) := by
    rw [means_apply]
    simp only [← centres_apply]
    rfl
  unfold Ffn.norm
  rw [e, ← centres_apply]
  pointwise [norms]

theorem mods_apply (x : Block) (shift scale : One) (r : Fin 512) (k : Fin 1024) :
    mods x shift scale (ix2 r k) = Ffn.modulated (fun k => x (ix2 r k)) (fun k => shift (ix2 0 k)) (fun k => scale (ix2 0 k)) k := by
  unfold Ffn.modulated
  rw [← norms_apply]
  pointwise [mods]

theorem prods_apply (h : FVec Ideal S512x1024 .bf16) (w : FVec Ideal S1024x512 .bf16) (r : Fin 512) (j : Fin 512) :
    prods h w (ix2 r j) = ∑ k : Fin 1024, h (ix2 r k) * w (ix2 k j) := by
  pointwise [prods]

/-! ## A head -/

/-- One over the root of each row's mean square. -/
def rms (y : Head) : FVec Ideal S512x1 .f32 :=
  rsqrt (addf (divf (shapeCast S512x1 (multiReduction .add [1] S512 (mulf y y) 0x00000000#32 reduces_S512x128_S512 (.inl rfl) rfl)
    shapeCasts_S512_S512x1) (broadcast S512x1 (Scalar.ofBits .f32 0x43000000#32))) (broadcast S512x1 (Scalar.ofBits .f32 0x358637BD#32)))

/-- A head times it and the gain. -/
def gained (y : Head) (g : Gain) : Head :=
  mulf (mulf y (broadcastTo S512x128 (rms y) broadcasts_S512x1_S512x128)) (broadcastTo S512x128 g broadcasts_S1x128_S512x128)

/-- Where the column is even. -/
def evens : IVec S512x128 1 :=
  cmpi .eq (andi (iota .tc S512x128 32 [1] iota_S512x128_d1_w32) (broadcast S512x128 1#32)) (broadcast S512x128 0#32)

/-- A head rotated by the tables. -/
def rotated (v c s : Head) : FVec Ideal S512x128 .bf16 :=
  truncf .bf16 (addf (mulf v c) (mulf (select evens (dynamicRotate 1 127#32 none v rotates_S512x128_d1)
    (dynamicRotate 1 1#32 none v rotates_S512x128_d1)) s)) bitsLt_bf16_f32

theorem gained_apply (y : Head) (g : Gain) (r : Fin 512) (d : Fin 128) :
    gained y g (ix2 r d) = scaled (fun d => y (ix2 r d)) (fun d => g (ix2 0 d)) d := by
  pointwise [gained, rms, scaled]

theorem evens_apply (r : Fin 512) (d : Fin 128) : evens (ix2 r d) = if d.val % 2 = 0 then 1#1 else 0#1 := by
  have e : ∀ d : Fin 128, IntOp.cmpi .eq (IntOp.andi (BitVec.ofNat 32 d.val) 1#32) 0#32 = if d.val % 2 = 0 then 1#1 else 0#1 := by
    decide
  have n : iota .tc S512x128 32 [1] iota_S512x128_d1_w32 (ix2 r d) = BitVec.ofNat 32 d.val := by
    simp [iota]
  rw [← e d, ← n]
  rfl

theorem forward_apply (v : Head) (r : Fin 512) (d : Fin 128) :
    dynamicRotate 1 127#32 none v rotates_S512x128_d1 (ix2 r d) = v (ix2 r ⟨(d.val + 1) % 128, by omega⟩) :=
  dynamicRotate_apply _ _ _ _ _ _ (Fin.forall_fin_two.mpr ⟨rfl, by
    show (d.val + 1) % 128 = (d.val + 128 - 127 % 128) % 128
    omega⟩)

theorem backward_apply (v : Head) (r : Fin 512) (d : Fin 128) :
    dynamicRotate 1 1#32 none v rotates_S512x128_d1 (ix2 r d) = v (ix2 r ⟨(d.val + 127) % 128, by omega⟩) :=
  dynamicRotate_apply _ _ _ _ _ _ (Fin.forall_fin_two.mpr ⟨rfl, by
    show (d.val + 127) % 128 = (d.val + 128 - 1 % 128) % 128
    omega⟩)

theorem rotated_apply (v c s : Head) (r : Fin 512) (d : Fin 128) :
    rotated v c s (ix2 r d) = swung (fun d => v (ix2 r d)) (fun d => c (ix2 r d)) (fun d => s (ix2 r d)) d := by
  unfold swung
  dsimp only
  rw [← forward_apply v r d, ← backward_apply v r d]
  show v (ix2 r d) * c (ix2 r d) + (if evens (ix2 r d) = 1#1 then _ else _) * s (ix2 r d) = _
  rw [evens_apply]
  split
  · rfl
  · rfl

/-! ## The gMLP's halves and the gates -/

/-- The gelu. -/
def gelus (z : Cols) : Cols :=
  mulf (mulf (broadcast S512x512 (Scalar.ofBits .f32 0x3F000000#32)) z) (addf (broadcast S512x512 (Scalar.ofBits .f32 0x3F800000#32))
    (tanh (mulf (broadcast S512x512 (Scalar.ofBits .f32 0x3F4C422A#32)) (addf z (mulf (broadcast S512x512 (Scalar.ofBits .f32 0x3D372713#32))
      (mulf (mulf z z) z))))))

/-- The logistic function. -/
def sigmoids (z : Cols) : FVec Ideal S512x512 .bf16 :=
  truncf .bf16 (divf (broadcast S512x512 (Scalar.ofBits .f32 0x3F800000#32)) (addf (broadcast S512x512 (Scalar.ofBits .f32 0x3F800000#32))
    (exp (subf (broadcast S512x512 (Scalar.ofBits .f32 0x00000000#32)) z)))) bitsLt_bf16_f32

/-- The mean of each row of 512 numbers, the rows less it, and their norm. -/
def means' (x : Cols) : FVec Ideal S512x1 .f32 :=
  divf (shapeCast S512x1 (multiReduction .add [1] S512 x 0x00000000#32 reduces_S512x512_S512 (.inl rfl) rfl) shapeCasts_S512_S512x1)
    (broadcast S512x1 (Scalar.ofBits .f32 0x44000000#32))
def centres' (x : Cols) : Cols := subf x (broadcastTo S512x512 (means' x) broadcasts_S512x1_S512x512)
def norms' (x : Cols) : Cols :=
  mulf (centres' x) (broadcastTo S512x512 (rsqrt (addf (means' (mulf (centres' x) (centres' x)))
    (broadcast S512x1 (Scalar.ofBits .f32 0x358637BD#32)))) broadcasts_S512x1_S512x512)

/-- The norm, scaled and shifted. -/
def finals (y : Cols) (g b : Affine) : FVec Ideal S512x512 .bf16 :=
  truncf .bf16 (addf (mulf (norms' y) (broadcastTo S512x512 (shapeCast S1x512 g shapeCasts_S1x512_S1x512) broadcasts_S1x512_S512x512))
    (broadcastTo S512x512 (shapeCast S1x512 b shapeCasts_S1x512_S1x512) broadcasts_S1x512_S512x512)) bitsLt_bf16_f32

theorem gelus_apply (z : Cols) (r : Fin 512) (j : Fin 512) : gelus z (ix2 r j) = gelu (z (ix2 r j)) := by
  pointwise [gelus, gelu]

theorem sigmoids_apply (z : Cols) (r : Fin 512) (j : Fin 512) : sigmoids z (ix2 r j) = logistic (z (ix2 r j)) := by
  unfold logistic
  rw [← zero_sub (z (ix2 r j))]
  pointwise [sigmoids]

theorem means'_apply (x : Cols) (r : Fin 512) (i : Fin 1) : means' x (ix2 r i) = mean fun k => x (ix2 r k) := by
  pointwise [means', mean]

theorem centres'_apply (x : Cols) (r : Fin 512) (k : Fin 512) : centres' x (ix2 r k) = centred (fun k => x (ix2 r k)) k := by
  unfold centred
  rw [← means'_apply x r 0]
  pointwise [centres']

theorem norms'_apply (x : Cols) (r : Fin 512) (k : Fin 512) : norms' x (ix2 r k) = norm (fun k => x (ix2 r k)) k := by
  have e : mean (fun k => centred (fun k => x (ix2 r k)) k * centred (fun k => x (ix2 r k)) k)
      = means' (mulf (centres' x) (centres' x)) (ix2 r 0) := by
    rw [means'_apply]
    simp only [← centres'_apply]
    rfl
  unfold norm
  rw [e, ← centres'_apply]
  pointwise [norms']

theorem finals_apply (y : Cols) (g b : Affine) (r : Fin 512) (k : Fin 512) :
    finals y g b (ix2 r k) = norm (fun k => y (ix2 r k)) k * g (ix2 0 k) + b (ix2 0 k) := by
  rw [← norms'_apply]
  pointwise [finals]

/-! ## The parts of a block -/

/-- The columns from `o` of the weights. -/
def cols (x : Vec Ideal S1024x6144 .bf16) (o : ℕ) (inb : ∀ a, (![0, o] : Fin 2 → ℕ) a + S1024x512.size a ≤ S1024x6144.size a) :
    FVec Ideal S1024x512 .bf16 :=
  View.ld (Val := Elt Ideal) (e' := .bf16) x (Rect.unit (s := S1024x6144) ![0, o] S1024x512.size inb)

/-- The whole of each other argument's block. -/
def wholeRows (x : Vec Ideal S512x1024 .f32) : Block :=
  View.ld (Val := Elt Ideal) (e' := .f32) x (Rect.unit (s := S512x1024) ![0, 0] S512x1024.size inb_S512x1024_S512x1024_0_0)
def wholeOne (x : Vec Ideal S1x1024 .f32) : One :=
  View.ld (Val := Elt Ideal) (e' := .f32) x (Rect.unit (s := S1x1024) ![0, 0] S1x1024.size inb_S1x1024_S1x1024_0_0)
def wholeGain (x : Vec Ideal S1x128 .f32) : Gain :=
  shapeCast S1x128 (View.ld (Val := Elt Ideal) (e' := .f32) x (Rect.unit (s := S1x128) ![0, 0] S1x128.size inb_S1x128_S1x128_0_0) : Gain)
    shapeCasts_S1x128_S1x128
def wholeAffine (x : Vec Ideal S1x512 .f32) : Affine :=
  View.ld (Val := Elt Ideal) (e' := .f32) x (Rect.unit (s := S1x512) ![0, 0] S1x512.size inb_S1x512_S1x512_0_0)
def wholeTable (x : Vec Ideal S512x128 .f32) : Head :=
  shapeCast S512x128 (View.ld (Val := Elt Ideal) (e' := .f32) x (Rect.unit (s := S512x128) ![0, 0] S512x128.size inb_S512x128_S512x128_0_0) : Head)
    shapeCasts_S512x128_S512x128

/-- The queries' gain times the constant. -/
def prescaled (g : Gain) : Gain := mulf g (broadcast S1x128 (Scalar.ofBits .f32 0x3E0293EE#32))

theorem cols_apply (x : Vec Ideal S1024x6144 .bf16) (o : ℕ) (inb) (b : o + 512 ≤ 6144) (k : Fin 1024) (j : Fin 512) :
    cols x o inb (ix2 k j) = x (ix2 k (column o b j)) :=
  View.ld_unit_apply_of (Val := Elt Ideal) (e := .bf16) x _ _ _ _ _ (Fin.forall_fin_two.mpr ⟨(Nat.zero_add _).symm, rfl⟩)

theorem wholeRows_apply (x : Vec Ideal S512x1024 .f32) (r : Fin 512) (k : Fin 1024) : wholeRows x (ix2 r k) = x (ix2 r k) :=
  View.ld_unit_apply_of (Val := Elt Ideal) (e := .f32) x _ _ _ _ _ (Fin.forall_fin_two.mpr ⟨(Nat.zero_add _).symm, (Nat.zero_add _).symm⟩)

theorem wholeOne_apply (x : Vec Ideal S1x1024 .f32) (k : Fin 1024) : wholeOne x (ix2 0 k) = x (ix2 0 k) :=
  View.ld_unit_apply_of (Val := Elt Ideal) (e := .f32) x _ _ _ _ _ (Fin.forall_fin_two.mpr ⟨rfl, (Nat.zero_add _).symm⟩)

theorem wholeGain_apply (x : Vec Ideal S1x128 .f32) (d : Fin 128) : wholeGain x (ix2 0 d) = x (ix2 0 d) :=
  (shapeCast_apply _ _ (ix2 0 d : S1x128.Idx) (ix2 0 d : S1x128.Idx) rfl).trans
    (View.ld_unit_apply_of (Val := Elt Ideal) (e := .f32) x _ _ _ _ _ (Fin.forall_fin_two.mpr ⟨rfl, (Nat.zero_add _).symm⟩))

theorem wholeAffine_apply (x : Vec Ideal S1x512 .f32) (k : Fin 512) : wholeAffine x (ix2 0 k) = x (ix2 0 k) :=
  View.ld_unit_apply_of (Val := Elt Ideal) (e := .f32) x _ _ _ _ _ (Fin.forall_fin_two.mpr ⟨rfl, (Nat.zero_add _).symm⟩)

theorem wholeTable_apply (x : Vec Ideal S512x128 .f32) (r : Fin 512) (d : Fin 128) : wholeTable x (ix2 r d) = x (ix2 r d) :=
  (shapeCast_apply _ _ (ix2 r d : S512x128.Idx) (ix2 r d : S512x128.Idx) rfl).trans
    (View.ld_unit_apply_of (Val := Elt Ideal) (e := .f32) x _ _ _ _ _ (Fin.forall_fin_two.mpr ⟨(Nat.zero_add _).symm, (Nat.zero_add _).symm⟩))

section
variable (h : FVec Ideal S512x1024 .bf16) (w : Vec Ideal S1024x6144 .bf16)

/-- The products are the row's products with the columns from `o`. -/
theorem prods_cols (o : ℕ) (inb) (b : o + 512 ≤ 6144) (r : Fin 512) (j : Fin 512) : prods h (cols w o inb) (ix2 r j)
    = proj (fun k => h (ix2 r k)) (fun k j => w (ix2 k j)) (column o b j) := by
  rw [prods_apply]
  unfold proj
  simp only [cols_apply w o inb b]

/-- The columns from `p` among them. -/
theorem slice_cols (o o' p n : ℕ) (inb) (sl : (S512x512.Slices ![0, o'] ⟨2, ![512, n]⟩)) (e : o + o' = p) (hn : o' + n ≤ 512)
    (b : o + 512 ≤ 6144) (b' : p + n ≤ 6144) (r : Fin 512) (d : Fin n) :
    extractStridedSlice ⟨2, ![512, n]⟩ ![0, o'] (prods h (cols w o inb)) sl (ix2 r d)
      = proj (fun k => h (ix2 r k)) (fun k j => w (ix2 k j)) (column p b' d) := by
  have e' : extractStridedSlice ⟨2, ![512, n]⟩ ![0, o'] (prods h (cols w o inb)) sl (ix2 r d)
      = prods h (cols w o inb) (ix2 r ⟨o' + d.val, by omega⟩) := by
    refine congrArg (prods h (cols w o inb)) (funext fun a => Fin.ext ?_)
    match a with
    | ⟨0, _⟩ => exact Nat.zero_add _
    | ⟨1, _⟩ => rfl
  rw [e', prods_cols h w o inb b]
  exact congrArg _ (Fin.ext (by unfold column; dsimp only; omega))

section
variable (c s : Head) (r : Fin 512) (c' s' : Fin 64 → EReal) (hc : ∀ d, c (ix2 r d) = c' (half d))
  (hs : ∀ d : Fin 128, s (ix2 r d) = if d.val % 2 = 0 then -s' (half d) else s' (half d))
include hc hs

/-- A query head. -/
theorem query_apply (qg : Gain) (o o' p : ℕ) (inb) (sl : S512x512.Slices ![0, o'] S512x128) (e : o + o' = p) (hn : o' + 128 ≤ 512) (b : o + 512 ≤ 6144)
    (b' : p + 128 ≤ 6144) (d : Fin 128) :
    rotated (gained (extractStridedSlice S512x128 ![0, o'] (prods h (cols w o inb)) sl) (prescaled qg)) c s (ix2 r d)
      = turned (scaled (fun d => proj (fun k => h (ix2 r k)) (fun k j => w (ix2 k j)) (column p b' d))
          fun d => qg (ix2 0 d)) c' s' d * Ideal.ofBits .f32 0x3E0293EE#32 := by
  rw [rotated_apply, swung_eq _ _ _ c' s' hc hs, ← turned_mul _ _ _ _ prescale_nonneg.1 prescale_nonneg.2]
  refine turned_congr (fun d => ?_) (fun _ => rfl) (fun _ => rfl) d
  rw [gained_apply, ← scaled_mul, funext fun d => slice_cols h w o o' p 128 inb sl e hn b b' r d]
  rfl

/-- A key head. -/
theorem key_apply (kg : Gain) (o o' p : ℕ) (inb) (sl : S512x512.Slices ![0, o'] S512x128) (e : o + o' = p) (hn : o' + 128 ≤ 512) (b : o + 512 ≤ 6144)
    (b' : p + 128 ≤ 6144) (d : Fin 128) :
    rotated (gained (extractStridedSlice S512x128 ![0, o'] (prods h (cols w o inb)) sl) kg) c s (ix2 r d)
      = turned (scaled (fun d => proj (fun k => h (ix2 r k)) (fun k j => w (ix2 k j)) (column p b' d))
          fun d => kg (ix2 0 d)) c' s' d := by
  rw [rotated_apply, swung_eq _ _ _ c' s' hc hs]
  refine turned_congr (fun d => ?_) (fun _ => rfl) (fun _ => rfl) d
  rw [gained_apply, funext fun d => slice_cols h w o o' p 128 inb sl e hn b b' r d]

end

/-- The values. -/
def values (z : Cols) : FVec Ideal S512x256 .bf16 :=
  truncf .bf16 (extractStridedSlice S512x256 ![0, 256] z slices_S512x512_o0_256_S512x256) bitsLt_bf16_f32

/-- The products, stored as they are. -/
def plain (z : Cols) : FVec Ideal S512x512 .bf16 := truncf .bf16 z bitsLt_bf16_f32

end

/-! ## The twenty parts are the block -/

section
variable (G : S512x6144.Idx → EReal)

/-- A part of 512 columns from column `o` has the values of one function at its columns. -/
def Fits512 (o : ℕ) (b : o + 512 ≤ 6144) (p : FVec Ideal S512x512 .bf16) : Prop :=
  ∀ (r : Fin 512) (i : Fin 512), p (ix2 r i) = G (ix2 r (column o b i))

theorem part512 (o : ℕ) (b : o + 512 ≤ 6144) (inb) (p : FVec Ideal S512x512 .bf16) (hp : Fits512 G o b p)
    (i : (Rect.unit (s := S512x6144) ![0, o] S512x512.size inb).shape.Idx) :
    p i = G ((Rect.unit (s := S512x6144) ![0, o] S512x512.size inb).idx i) := by
  refine ((congrArg p (eq_ix2 i)).trans (hp (i 0) (i 1))).trans (congrArg G (funext fun a => Fin.ext ?_))
  match a with
  | ⟨0, _⟩ => exact ((Rect.idx_unit_val (s := S512x6144) ![0, o] S512x512.size inb i 0).trans (Nat.zero_add _)).symm
  | ⟨1, _⟩ => exact (Rect.idx_unit_val (s := S512x6144) ![0, o] S512x512.size inb i 1).symm

/-- A part of 256 columns from column `o` has the values of one function at its columns. -/
def Fits256 (o : ℕ) (b : o + 256 ≤ 6144) (p : FVec Ideal S512x256 .bf16) : Prop :=
  ∀ (r : Fin 512) (i : Fin 256), p (ix2 r i) = G (ix2 r (column o b i))

theorem part256 (o : ℕ) (b : o + 256 ≤ 6144) (inb) (p : FVec Ideal S512x256 .bf16) (hp : Fits256 G o b p)
    (i : (Rect.unit (s := S512x6144) ![0, o] S512x256.size inb).shape.Idx) :
    p i = G ((Rect.unit (s := S512x6144) ![0, o] S512x256.size inb).idx i) := by
  refine ((congrArg p (eq_ix2 i)).trans (hp (i 0) (i 1))).trans (congrArg G (funext fun a => Fin.ext ?_))
  match a with
  | ⟨0, _⟩ => exact ((Rect.idx_unit_val (s := S512x6144) ![0, o] S512x256.size inb i 0).trans (Nat.zero_add _)).symm
  | ⟨1, _⟩ => exact (Rect.idx_unit_val (s := S512x6144) ![0, o] S512x256.size inb i 1).symm

/-- A part of 128 columns from column `o` has the values of one function at its columns. -/
def Fits128 (o : ℕ) (b : o + 128 ≤ 6144) (p : FVec Ideal S512x128 .bf16) : Prop :=
  ∀ (r : Fin 512) (i : Fin 128), p (ix2 r i) = G (ix2 r (column o b i))

theorem part128 (o : ℕ) (b : o + 128 ≤ 6144) (inb) (p : FVec Ideal S512x128 .bf16) (hp : Fits128 G o b p)
    (i : (Rect.unit (s := S512x6144) ![0, o] S512x128.size inb).shape.Idx) :
    p i = G ((Rect.unit (s := S512x6144) ![0, o] S512x128.size inb).idx i) := by
  refine ((congrArg p (eq_ix2 i)).trans (hp (i 0) (i 1))).trans (congrArg G (funext fun a => Fin.ext ?_))
  match a with
  | ⟨0, _⟩ => exact ((Rect.idx_unit_val (s := S512x6144) ![0, o] S512x128.size inb i 0).trans (Nat.zero_add _)).symm
  | ⟨1, _⟩ => exact (Rect.idx_unit_val (s := S512x6144) ![0, o] S512x128.size inb i 1).symm

/-- Twenty parts, each of the values of one function at its columns, are that function. -/
theorem canon_parts (s5 s4 s3 s2 s1 s0 f n u : FVec Ideal S512x512 .bf16) (v : FVec Ideal S512x256 .bf16)
    (k1 k0 q7 q6 q5 q4 q3 q2 q1 q0 : FVec Ideal S512x128 .bf16)
    (hs5 : Fits512 G 5632 (by decide) s5)
    (hs4 : Fits512 G 5120 (by decide) s4)
    (hs3 : Fits512 G 4608 (by decide) s3)
    (hs2 : Fits512 G 4096 (by decide) s2)
    (hs1 : Fits512 G 3584 (by decide) s1)
    (hs0 : Fits512 G 3072 (by decide) s0)
    (hf : Fits512 G 2560 (by decide) f)
    (hn : Fits512 G 2048 (by decide) n)
    (hu : Fits512 G 1536 (by decide) u)
    (hv : Fits256 G 1280 (by decide) v)
    (hk1 : Fits128 G 1152 (by decide) k1)
    (hk0 : Fits128 G 1024 (by decide) k0)
    (hq7 : Fits128 G 896 (by decide) q7)
    (hq6 : Fits128 G 768 (by decide) q6)
    (hq5 : Fits128 G 640 (by decide) q5)
    (hq4 : Fits128 G 512 (by decide) q4)
    (hq3 : Fits128 G 384 (by decide) q3)
    (hq2 : Fits128 G 256 (by decide) q2)
    (hq1 : Fits128 G 128 (by decide) q1)
    (hq0 : Fits128 G 0 (by decide) q0)
    (y : S512x6144.Idx) :
    View.canon (Val := Elt Ideal) (e := .bf16) [⟨Rect.unit (s := S512x6144) ![0, 5632] S512x512.size inb_S512x6144_S512x512_0_5632, s5⟩,
      ⟨Rect.unit (s := S512x6144) ![0, 5120] S512x512.size inb_S512x6144_S512x512_0_5120, s4⟩,
      ⟨Rect.unit (s := S512x6144) ![0, 4608] S512x512.size inb_S512x6144_S512x512_0_4608, s3⟩,
      ⟨Rect.unit (s := S512x6144) ![0, 4096] S512x512.size inb_S512x6144_S512x512_0_4096, s2⟩,
      ⟨Rect.unit (s := S512x6144) ![0, 3584] S512x512.size inb_S512x6144_S512x512_0_3584, s1⟩,
      ⟨Rect.unit (s := S512x6144) ![0, 3072] S512x512.size inb_S512x6144_S512x512_0_3072, s0⟩,
      ⟨Rect.unit (s := S512x6144) ![0, 2560] S512x512.size inb_S512x6144_S512x512_0_2560, f⟩,
      ⟨Rect.unit (s := S512x6144) ![0, 2048] S512x512.size inb_S512x6144_S512x512_0_2048, n⟩,
      ⟨Rect.unit (s := S512x6144) ![0, 1536] S512x512.size inb_S512x6144_S512x512_0_1536, u⟩,
      ⟨Rect.unit (s := S512x6144) ![0, 1280] S512x256.size inb_S512x6144_S512x256_0_1280, v⟩,
      ⟨Rect.unit (s := S512x6144) ![0, 1152] S512x128.size inb_S512x6144_S512x128_0_1152, k1⟩,
      ⟨Rect.unit (s := S512x6144) ![0, 1024] S512x128.size inb_S512x6144_S512x128_0_1024, k0⟩,
      ⟨Rect.unit (s := S512x6144) ![0, 896] S512x128.size inb_S512x6144_S512x128_0_896, q7⟩,
      ⟨Rect.unit (s := S512x6144) ![0, 768] S512x128.size inb_S512x6144_S512x128_0_768, q6⟩,
      ⟨Rect.unit (s := S512x6144) ![0, 640] S512x128.size inb_S512x6144_S512x128_0_640, q5⟩,
      ⟨Rect.unit (s := S512x6144) ![0, 512] S512x128.size inb_S512x6144_S512x128_0_512, q4⟩,
      ⟨Rect.unit (s := S512x6144) ![0, 384] S512x128.size inb_S512x6144_S512x128_0_384, q3⟩,
      ⟨Rect.unit (s := S512x6144) ![0, 256] S512x128.size inb_S512x6144_S512x128_0_256, q2⟩,
      ⟨Rect.unit (s := S512x6144) ![0, 128] S512x128.size inb_S512x6144_S512x128_0_128, q1⟩,
      ⟨Rect.unit (s := S512x6144) ![0, 0] S512x128.size inb_S512x6144_S512x128_0_0, q0⟩] y = G y := by
  refine View.canon_apply_of_pieces (Val := Elt Ideal) (e := .bf16) G _ ?_ y (View.cover_of_tiledBy _ ![512, 128] (by sl_kernel_rfl) y)
  simp only [List.forall_mem_cons, List.not_mem_nil, false_imp_iff, implies_true, and_true]
  exact ⟨part512 G 5632 (by decide) inb_S512x6144_S512x512_0_5632 s5 hs5, part512 G 5120 (by decide) inb_S512x6144_S512x512_0_5120 s4 hs4, part512 G 4608 (by decide) inb_S512x6144_S512x512_0_4608 s3 hs3, part512 G 4096 (by decide) inb_S512x6144_S512x512_0_4096 s2 hs2, part512 G 3584 (by decide) inb_S512x6144_S512x512_0_3584 s1 hs1, part512 G 3072 (by decide) inb_S512x6144_S512x512_0_3072 s0 hs0, part512 G 2560 (by decide) inb_S512x6144_S512x512_0_2560 f hf, part512 G 2048 (by decide) inb_S512x6144_S512x512_0_2048 n hn, part512 G 1536 (by decide) inb_S512x6144_S512x512_0_1536 u hu, part256 G 1280 (by decide) inb_S512x6144_S512x256_0_1280 v hv, part128 G 1152 (by decide) inb_S512x6144_S512x128_0_1152 k1 hk1, part128 G 1024 (by decide) inb_S512x6144_S512x128_0_1024 k0 hk0, part128 G 896 (by decide) inb_S512x6144_S512x128_0_896 q7 hq7, part128 G 768 (by decide) inb_S512x6144_S512x128_0_768 q6 hq6, part128 G 640 (by decide) inb_S512x6144_S512x128_0_640 q5 hq5, part128 G 512 (by decide) inb_S512x6144_S512x128_0_512 q4 hq4, part128 G 384 (by decide) inb_S512x6144_S512x128_0_384 q3 hq3, part128 G 256 (by decide) inb_S512x6144_S512x128_0_256 q2 hq2, part128 G 128 (by decide) inb_S512x6144_S512x128_0_128 q1 hq1, part128 G 0 (by decide) inb_S512x6144_S512x128_0_0 q0 hq0⟩

end

/-! ## What the body leaves -/

section
variable (x0 : Vec Ideal S512x1024 .f32) (x1 x2 : Vec Ideal S1x1024 .f32) (x3 : Vec Ideal S1024x6144 .bf16) (x4 x5 : Vec Ideal S1x128 .f32)
  (x6 x7 : Vec Ideal S1x512 .f32) (x8 x9 : Vec Ideal S512x128 .f32)

/-- The rows' modulated norms. -/
def normed : FVec Ideal S512x1024 .bf16 := mods (wholeRows x0) (wholeOne x1) (wholeOne x2)

/-- The block the body makes of the blocks of the arguments. -/
def made : Vec Ideal S512x6144 .bf16 :=
  View.canon (Val := Elt Ideal) (e := .bf16) [⟨Rect.unit (s := S512x6144) ![0, 5632] S512x512.size inb_S512x6144_S512x512_0_5632,
        sigmoids (prods (normed x0 x1 x2) (cols x3 5632 inb_S1024x6144_S1024x512_0_5632))⟩,
      ⟨Rect.unit (s := S512x6144) ![0, 5120] S512x512.size inb_S512x6144_S512x512_0_5120,
        sigmoids (prods (normed x0 x1 x2) (cols x3 5120 inb_S1024x6144_S1024x512_0_5120))⟩,
      ⟨Rect.unit (s := S512x6144) ![0, 4608] S512x512.size inb_S512x6144_S512x512_0_4608,
        sigmoids (prods (normed x0 x1 x2) (cols x3 4608 inb_S1024x6144_S1024x512_0_4608))⟩,
      ⟨Rect.unit (s := S512x6144) ![0, 4096] S512x512.size inb_S512x6144_S512x512_0_4096,
        sigmoids (prods (normed x0 x1 x2) (cols x3 4096 inb_S1024x6144_S1024x512_0_4096))⟩,
      ⟨Rect.unit (s := S512x6144) ![0, 3584] S512x512.size inb_S512x6144_S512x512_0_3584,
        sigmoids (prods (normed x0 x1 x2) (cols x3 3584 inb_S1024x6144_S1024x512_0_3584))⟩,
      ⟨Rect.unit (s := S512x6144) ![0, 3072] S512x512.size inb_S512x6144_S512x512_0_3072,
        sigmoids (prods (normed x0 x1 x2) (cols x3 3072 inb_S1024x6144_S1024x512_0_3072))⟩,
      ⟨Rect.unit (s := S512x6144) ![0, 2560] S512x512.size inb_S512x6144_S512x512_0_2560,
        plain (prods (normed x0 x1 x2) (cols x3 2560 inb_S1024x6144_S1024x512_0_2560))⟩,
      ⟨Rect.unit (s := S512x6144) ![0, 2048] S512x512.size inb_S512x6144_S512x512_0_2048,
        finals (gelus (prods (normed x0 x1 x2) (cols x3 2048 inb_S1024x6144_S1024x512_0_2048))) (wholeAffine x6) (wholeAffine x7)⟩,
      ⟨Rect.unit (s := S512x6144) ![0, 1536] S512x512.size inb_S512x6144_S512x512_0_1536,
        plain (gelus (prods (normed x0 x1 x2) (cols x3 1536 inb_S1024x6144_S1024x512_0_1536)))⟩,
      ⟨Rect.unit (s := S512x6144) ![0, 1280] S512x256.size inb_S512x6144_S512x256_0_1280,
        values (prods (normed x0 x1 x2) (cols x3 1024 inb_S1024x6144_S1024x512_0_1024))⟩,
      ⟨Rect.unit (s := S512x6144) ![0, 1152] S512x128.size inb_S512x6144_S512x128_0_1152,
        rotated (gained (extractStridedSlice S512x128 ![0, 128] (prods (normed x0 x1 x2) (cols x3 1024 inb_S1024x6144_S1024x512_0_1024)) slices_S512x512_o0_128_S512x128) (wholeGain x5)) (wholeTable x8) (wholeTable x9)⟩,
      ⟨Rect.unit (s := S512x6144) ![0, 1024] S512x128.size inb_S512x6144_S512x128_0_1024,
        rotated (gained (extractStridedSlice S512x128 ![0, 0] (prods (normed x0 x1 x2) (cols x3 1024 inb_S1024x6144_S1024x512_0_1024)) slices_S512x512_o0_0_S512x128) (wholeGain x5)) (wholeTable x8) (wholeTable x9)⟩,
      ⟨Rect.unit (s := S512x6144) ![0, 896] S512x128.size inb_S512x6144_S512x128_0_896,
        rotated (gained (extractStridedSlice S512x128 ![0, 384] (prods (normed x0 x1 x2) (cols x3 512 inb_S1024x6144_S1024x512_0_512)) slices_S512x512_o0_384_S512x128) (prescaled (wholeGain x4))) (wholeTable x8) (wholeTable x9)⟩,
      ⟨Rect.unit (s := S512x6144) ![0, 768] S512x128.size inb_S512x6144_S512x128_0_768,
        rotated (gained (extractStridedSlice S512x128 ![0, 256] (prods (normed x0 x1 x2) (cols x3 512 inb_S1024x6144_S1024x512_0_512)) slices_S512x512_o0_256_S512x128) (prescaled (wholeGain x4))) (wholeTable x8) (wholeTable x9)⟩,
      ⟨Rect.unit (s := S512x6144) ![0, 640] S512x128.size inb_S512x6144_S512x128_0_640,
        rotated (gained (extractStridedSlice S512x128 ![0, 128] (prods (normed x0 x1 x2) (cols x3 512 inb_S1024x6144_S1024x512_0_512)) slices_S512x512_o0_128_S512x128) (prescaled (wholeGain x4))) (wholeTable x8) (wholeTable x9)⟩,
      ⟨Rect.unit (s := S512x6144) ![0, 512] S512x128.size inb_S512x6144_S512x128_0_512,
        rotated (gained (extractStridedSlice S512x128 ![0, 0] (prods (normed x0 x1 x2) (cols x3 512 inb_S1024x6144_S1024x512_0_512)) slices_S512x512_o0_0_S512x128) (prescaled (wholeGain x4))) (wholeTable x8) (wholeTable x9)⟩,
      ⟨Rect.unit (s := S512x6144) ![0, 384] S512x128.size inb_S512x6144_S512x128_0_384,
        rotated (gained (extractStridedSlice S512x128 ![0, 384] (prods (normed x0 x1 x2) (cols x3 0 inb_S1024x6144_S1024x512_0_0)) slices_S512x512_o0_384_S512x128) (prescaled (wholeGain x4))) (wholeTable x8) (wholeTable x9)⟩,
      ⟨Rect.unit (s := S512x6144) ![0, 256] S512x128.size inb_S512x6144_S512x128_0_256,
        rotated (gained (extractStridedSlice S512x128 ![0, 256] (prods (normed x0 x1 x2) (cols x3 0 inb_S1024x6144_S1024x512_0_0)) slices_S512x512_o0_256_S512x128) (prescaled (wholeGain x4))) (wholeTable x8) (wholeTable x9)⟩,
      ⟨Rect.unit (s := S512x6144) ![0, 128] S512x128.size inb_S512x6144_S512x128_0_128,
        rotated (gained (extractStridedSlice S512x128 ![0, 128] (prods (normed x0 x1 x2) (cols x3 0 inb_S1024x6144_S1024x512_0_0)) slices_S512x512_o0_128_S512x128) (prescaled (wholeGain x4))) (wholeTable x8) (wholeTable x9)⟩,
      ⟨Rect.unit (s := S512x6144) ![0, 0] S512x128.size inb_S512x6144_S512x128_0_0,
        rotated (gained (extractStridedSlice S512x128 ![0, 0] (prods (normed x0 x1 x2) (cols x3 0 inb_S1024x6144_S1024x512_0_0)) slices_S512x512_o0_0_S512x128) (prescaled (wholeGain x4))) (wholeTable x8) (wholeTable x9)⟩]

/-- Row `r` of the result, of the blocks. -/
def rowOf (c' s' : Fin 512 → Fin 64 → EReal) (y : S512x6144.Idx) : EReal :=
  row (fun k => normed x0 x1 x2 (ix2 (y 0) k)) (fun k j => x3 (ix2 k j)) (fun d => wholeGain x4 (ix2 0 d)) (fun d => wholeGain x5 (ix2 0 d))
    (fun k => wholeAffine x6 (ix2 0 k)) (fun k => wholeAffine x7 (ix2 0 k)) (c' (y 0)) (s' (y 0)) (y 1)

section
variable (c' s' : Fin 512 → Fin 64 → EReal)

theorem fits_gate (o : ℕ) (inb) (b : o + 512 ≤ 6144) (h : 3072 ≤ o) :
    Fits512 (rowOf x0 x1 x2 x3 x4 x5 x6 x7 c' s') o b (sigmoids (prods (normed x0 x1 x2) (cols x3 o inb))) := fun r i => by
  rw [sigmoids_apply, prods_cols _ _ _ _ b]
  exact (row_gate _ _ _ _ _ _ _ _ _ (by unfold column; dsimp only; omega)).symm

theorem fits_plain (inb) (b : 2560 + 512 ≤ 6144) :
    Fits512 (rowOf x0 x1 x2 x3 x4 x5 x6 x7 c' s') 2560 b (plain (prods (normed x0 x1 x2) (cols x3 2560 inb))) := fun r i => by
  refine (prods_cols _ _ _ _ b r i).trans ?_
  exact (row_plain _ _ _ _ _ _ _ _ _ (by unfold column; dsimp only; omega) (by unfold column; dsimp only; omega)).symm

theorem fits_norm (inb) (b : 2048 + 512 ≤ 6144) :
    Fits512 (rowOf x0 x1 x2 x3 x4 x5 x6 x7 c' s') 2048 b
      (finals (gelus (prods (normed x0 x1 x2) (cols x3 2048 inb))) (wholeAffine x6) (wholeAffine x7)) := fun r i => by
  rw [finals_apply]
  simp only [gelus_apply, prods_cols _ _ _ _ b]
  exact (row_norm (fun k => normed x0 x1 x2 (ix2 r k)) (fun k j => x3 (ix2 k j)) (fun d => wholeGain x4 (ix2 0 d))
    (fun d => wholeGain x5 (ix2 0 d)) (fun k => wholeAffine x6 (ix2 0 k)) (fun k => wholeAffine x7 (ix2 0 k)) (c' r) (s' r) b i).symm

theorem fits_gelu (inb) (b : 1536 + 512 ≤ 6144) :
    Fits512 (rowOf x0 x1 x2 x3 x4 x5 x6 x7 c' s') 1536 b (plain (gelus (prods (normed x0 x1 x2) (cols x3 1536 inb)))) := fun r i => by
  refine (gelus_apply _ r i).trans ?_
  rw [prods_cols _ _ _ _ b]
  exact (row_gelu _ _ _ _ _ _ _ _ _ (by unfold column; dsimp only; omega) (by unfold column; dsimp only; omega)).symm

theorem fits_value (inb) (b : 1280 + 256 ≤ 6144) :
    Fits256 (rowOf x0 x1 x2 x3 x4 x5 x6 x7 c' s') 1280 b (values (prods (normed x0 x1 x2) (cols x3 1024 inb))) := fun r i => by
  refine (slice_cols _ _ 1024 256 1280 256 inb slices_S512x512_o0_256_S512x256 rfl (by decide) (by decide) b r i).trans ?_
  exact (row_value _ _ _ _ _ _ _ _ _ (by unfold column; dsimp only; omega) (by unfold column; dsimp only; omega)).symm

variable (hc : ∀ r d, wholeTable x8 (ix2 r d) = c' r (half d))
  (hs : ∀ (r : Fin 512) (d : Fin 128), wholeTable x9 (ix2 r d) = if d.val % 2 = 0 then -s' r (half d) else s' r (half d))
include hc hs

theorem fits_query (o o' p : ℕ) (inb) (sl : S512x512.Slices ![0, o'] S512x128) (b' : p + 128 ≤ 6144) (e : o + o' = p) (hn : o' + 128 ≤ 512)
    (b : o + 512 ≤ 6144) (h : p + 128 ≤ 1024) (hp : p % 128 = 0) :
    Fits128 (rowOf x0 x1 x2 x3 x4 x5 x6 x7 c' s') p b'
      (rotated (gained (extractStridedSlice S512x128 ![0, o'] (prods (normed x0 x1 x2) (cols x3 o inb)) sl) (prescaled (wholeGain x4)))
        (wholeTable x8) (wholeTable x9)) := fun r i => by
  rw [query_apply _ _ _ _ r (c' r) (s' r) (hc r) (hs r) _ o o' p inb sl e hn b b']
  exact (row_query _ _ _ _ _ _ _ _ p b' h hp i).symm

theorem fits_key (o o' p : ℕ) (inb) (sl : S512x512.Slices ![0, o'] S512x128) (b' : p + 128 ≤ 6144) (e : o + o' = p) (hn : o' + 128 ≤ 512)
    (b : o + 512 ≤ 6144) (h0 : 1024 ≤ p) (h : p + 128 ≤ 1280) (hp : p % 128 = 0) :
    Fits128 (rowOf x0 x1 x2 x3 x4 x5 x6 x7 c' s') p b'
      (rotated (gained (extractStridedSlice S512x128 ![0, o'] (prods (normed x0 x1 x2) (cols x3 o inb)) sl) (wholeGain x5))
        (wholeTable x8) (wholeTable x9)) := fun r i => by
  rw [key_apply _ _ _ _ r (c' r) (s' r) (hc r) (hs r) _ o o' p inb sl e hn b b']
  exact (row_key _ _ _ _ _ _ _ _ p b' h0 h hp i).symm

/-- The block is made of the rows. -/
theorem made_apply (y : S512x6144.Idx) : made x0 x1 x2 x3 x4 x5 x6 x7 x8 x9 y = rowOf x0 x1 x2 x3 x4 x5 x6 x7 c' s' y := by
  unfold made
  exact canon_parts _ _ _ _ _ _ _ _ _ _ _ _ _ _ _ _ _ _ _ _ _
    (fits_gate _ _ _ _ _ _ _ _ _ _ 5632 _ _ (by decide))
    (fits_gate _ _ _ _ _ _ _ _ _ _ 5120 _ _ (by decide))
    (fits_gate _ _ _ _ _ _ _ _ _ _ 4608 _ _ (by decide))
    (fits_gate _ _ _ _ _ _ _ _ _ _ 4096 _ _ (by decide))
    (fits_gate _ _ _ _ _ _ _ _ _ _ 3584 _ _ (by decide))
    (fits_gate _ _ _ _ _ _ _ _ _ _ 3072 _ _ (by decide))
    (fits_plain _ _ _ _ _ _ _ _ _ _ _ _)
    (fits_norm _ _ _ _ _ _ _ _ _ _ _ _)
    (fits_gelu _ _ _ _ _ _ _ _ _ _ _ _)
    (fits_value _ _ _ _ _ _ _ _ _ _ _ _)
    (fits_key _ _ _ _ _ _ _ _ _ _ _ _ hc hs 1024 128 1152 _ _ _ rfl (by decide) (by decide) (by decide) (by decide) rfl)
    (fits_key _ _ _ _ _ _ _ _ _ _ _ _ hc hs 1024 0 1024 _ _ _ rfl (by decide) (by decide) (by decide) (by decide) rfl)
    (fits_query _ _ _ _ _ _ _ _ _ _ _ _ hc hs 512 384 896 _ _ _ rfl (by decide) (by decide) (by decide) rfl)
    (fits_query _ _ _ _ _ _ _ _ _ _ _ _ hc hs 512 256 768 _ _ _ rfl (by decide) (by decide) (by decide) rfl)
    (fits_query _ _ _ _ _ _ _ _ _ _ _ _ hc hs 512 128 640 _ _ _ rfl (by decide) (by decide) (by decide) rfl)
    (fits_query _ _ _ _ _ _ _ _ _ _ _ _ hc hs 512 0 512 _ _ _ rfl (by decide) (by decide) (by decide) rfl)
    (fits_query _ _ _ _ _ _ _ _ _ _ _ _ hc hs 0 384 384 _ _ _ rfl (by decide) (by decide) (by decide) rfl)
    (fits_query _ _ _ _ _ _ _ _ _ _ _ _ hc hs 0 256 256 _ _ _ rfl (by decide) (by decide) (by decide) rfl)
    (fits_query _ _ _ _ _ _ _ _ _ _ _ _ hc hs 0 128 128 _ _ _ rfl (by decide) (by decide) (by decide) rfl)
    (fits_query _ _ _ _ _ _ _ _ _ _ _ _ hc hs 0 0 0 _ _ _ rfl (by decide) (by decide) (by decide) rfl)
    y

end

end

theorem outs_eq (m : (ℓ : Loc nD τ sig) → Buf (Elt Ideal) ℓ) (c : Dev nD) (t : Fin cfg0.N) :
    outsAt0 m c t = made (iblk m c 0 t) (iblk m c 1 t) (iblk m c 2 t) (iblk m c 3 t) (iblk m c 4 t) (iblk m c 5 t) (iblk m c 6 t)
      (iblk m c 7 t) (iblk m c 8 t) (iblk m c 9 t) := by
  unfold outsAt0 out0_A_10
  rw [View.read_writes_eq_canon _ _ _ (cover0_A_10 c _ _ _ _ _ _ _ _ _ _ _ _ _ _ _ _ _ _ _ _ _ _ _ _ _ _ _ _ _ _ _ _ _)]
  unfold kernelRun0_A
  dsimp only
  frame_open
  simp only [View.readAt_eq_ld, Memref.IsWhole.read_unread]
  rfl

end Cert.In

end
-- ==== Proof.InReference.lean ====
/-
  The projection's reference: what it computes of its arguments, read at an element, is `row` of that element's row.
-/
module

public import proofs.«01_k».proof.Defs
public import proofs.«01_k».proof.Proof.InRow
public import proofs.«01_k».proof.Proof.Gen.Reference3Ideal.Run
public import Idealize.ShloMosaic.Lib.Pointwise
public import Idealize.ShloMosaic.Lib.Quiescent

@[expose] public section

noncomputable section

namespace Cert.In.Ref

open Cert.Reference3Ideal Cert.Reference3Ideal.Gen
open Idealize.ShloMosaic Idealize.ShloMosaic.TcCoe Idealize.ShloMosaic.StableHlo Idealize.SL.Sem

/-- A float array over the extended reals. -/
abbrev Arr (S : Shape) := FVec Ideal S .f32

/-! ## The modulated norm and the products -/

/-- The mean of each row. -/
def means (x : Arr S16384x1024) : Arr S16384x1 :=
  Host.divf (broadcastInDim S16384x1 ![0] bcast_S16384_S16384x1_0
      (Host.reduceAdd x (constant S_ .f32 0x00000000#32) reducesTo_S16384x1024_S16384_d1 h_S_))
    (broadcastInDim S16384x1 ![] bcast_S_S16384x1 (constant S_ .f32 0x44800000#32))

/-- A number of each row laid along it. -/
def along (x : Arr S16384x1) : Arr S16384x1024 := broadcastInDim S16384x1024 ![0, 1] bcast_S16384x1_S16384x1024_0_1 x

/-- One row laid over all rows. -/
def over (x : Arr S1x1024) : Arr S16384x1024 := broadcastInDim S16384x1024 ![0, 1] bcast_S1x1024_S16384x1024_0_1 x

/-- Each row less its mean. -/
def centres (x : Arr S16384x1024) : Arr S16384x1024 := subf x (along (means x))

/-- The norm of each row. -/
def norms (x : Arr S16384x1024) : Arr S16384x1024 :=
  mulf (centres x) (along (Host.rsqrt (addf (means (mulf (centres x) (centres x)))
    (broadcastInDim S16384x1 ![] bcast_S_S16384x1 (constant S_ .f32 0x358637BD#32)))))

/-- The norms, scaled and shifted. -/
def mods (x : Arr S16384x1024) (shift scale : Arr S1x1024) : Arr S16384x1024 :=
  addf (mulf (norms x) (over (addf (broadcastInDim S1x1024 ![] bcast_S_S1x1024 (constant S_ .f32 0x3F800000#32)) scale))) (over shift)

/-- The products with the weights. -/
def prods (h : Arr S16384x1024) (w : Arr S1024x6144) : Arr S16384x6144 :=
  Host.dotGeneral dot_S16384x1024_S1024x6144_S16384x6144_1_0_0_1_n_n none h w

theorem means_apply (x : Arr S16384x1024) (r : Fin 16384) (i : Fin 1) : means x (ix2 r i) = Ffn.mean fun k => x (ix2 r k) := by
  pointwise [means, Ffn.mean]

theorem centres_apply (x : Arr S16384x1024) (r : Fin 16384) (k : Fin 1024) : centres x (ix2 r k) = Ffn.centred (fun k => x (ix2 r k)) k := by
  unfold Ffn.centred
  rw [← means_apply x r 0]
  pointwise [centres, along]

theorem norms_apply (x : Arr S16384x1024) (r : Fin 16384) (k : Fin 1024) : norms x (ix2 r k) = Ffn.norm (fun k => x (ix2 r k)) k := by
  have e : Ffn.mean (fun k => Ffn.centred (fun k => x (ix2 r k)) k * Ffn.centred (fun k => x (ix2 r k)) k)
      = means (mulf (centres x) (centres x)) (ix2 r 0) := by
    rw [means_apply]
    simp only [← centres_apply]
    rfl
  unfold Ffn.norm
  rw [e, ← centres_apply]
  pointwise [norms, along]

theorem mods_apply (x : Arr S16384x1024) (shift scale : Arr S1x1024) (r : Fin 16384) (k : Fin 1024) :
    mods x shift scale (ix2 r k) = Ffn.modulated (fun k => x (ix2 r k)) (fun k => shift (ix2 0 k)) (fun k => scale (ix2 0 k)) k := by
  unfold Ffn.modulated
  rw [← norms_apply]
  pointwise [mods, over]

theorem prods_apply (h : Arr S16384x1024) (w : Arr S1024x6144) (r : Fin 16384) (j : Fin 6144) :
    prods h w (ix2 r j) = proj (fun k => h (ix2 r k)) (fun k j => w (ix2 k j)) j := by
  pointwise [prods, proj]

/-! ## The query heads -/

namespace Query

/-- The heads of the products. -/
def heads (z : Arr S16384x6144) : Arr S16384x8x128 :=
  shapeCast _ (extractStridedSlice S16384x1024 ![0, 0] z slices_S16384x6144_S16384x1024_0_0) shapeCasts_S16384x1024_S16384x8x128

/-- A head over the root of its mean square, times the gain. -/
def gained (y : Arr S16384x8x128) (g : Arr S128) : Arr S16384x8x128 :=
  mulf (mulf y (broadcastInDim S16384x8x128 ![0, 1, 2] bcast_S16384x8x1_S16384x8x128_0_1_2 (Host.rsqrt (addf
    (Host.divf (broadcastInDim S16384x8x1 ![0, 1] bcast_S16384x8_S16384x8x1_0_1
        (Host.reduceAdd (mulf y y) (constant S_ .f32 0x00000000#32) reducesTo_S16384x8x128_S16384x8_d2 h_S_))
      (broadcastInDim S16384x8x1 ![] bcast_S_S16384x8x1 (constant S_ .f32 0x43000000#32)))
    (broadcastInDim S16384x8x1 ![] bcast_S_S16384x8x1 (constant S_ .f32 0x358637BD#32))))))
    (broadcastInDim S16384x8x128 ![0, 1, 2] bcast_S1x1x128_S16384x8x128_0_1_2 (broadcastInDim S1x1x128 ![2] bcast_S128_S1x1x128_2 g))

/-- The first and the second numbers of a head's pairs. -/
def pairs (y : Arr S16384x8x128) : Arr S16384x8x64x2 := shapeCast _ y shapeCasts_S16384x8x128_S16384x8x64x2
def firsts (y : Arr S16384x8x128) : Arr S16384x8x64 :=
  shapeCast _ (extractStridedSlice S16384x8x64x1 ![0, 0, 0, 0] (pairs y) slices_S16384x8x64x2_S16384x8x64x1_0_0_0_0)
    shapeCasts_S16384x8x64x1_S16384x8x64
def seconds (y : Arr S16384x8x128) : Arr S16384x8x64 :=
  shapeCast _ (extractStridedSlice S16384x8x64x1 ![0, 0, 0, 1] (pairs y) slices_S16384x8x64x2_S16384x8x64x1_0_0_0_1)
    shapeCasts_S16384x8x64x1_S16384x8x64

/-- A table laid over the heads. -/
def table (c : Arr S16384x64) : Arr S16384x8x64 :=
  broadcastInDim S16384x8x64 ![0, 1, 2] bcast_S16384x1x64_S16384x8x64_0_1_2
    (broadcastInDim S16384x1x64 ![0, 2] bcast_S16384x64_S16384x1x64_0_2 c)

/-- The rotated heads. -/
def rotated (y : Arr S16384x8x128) (c s : Arr S16384x64) : Arr S16384x1024 :=
  shapeCast _ (shapeCast _ (concatenate S16384x8x64x2 3
    [⟨S16384x8x64x1, broadcastInDim S16384x8x64x1 ![0, 1, 2] bcast_S16384x8x64_S16384x8x64x1_0_1_2
        (subf (mulf (firsts y) (table c)) (mulf (seconds y) (table s)))⟩,
      ⟨S16384x8x64x1, broadcastInDim S16384x8x64x1 ![0, 1, 2] bcast_S16384x8x64_S16384x8x64x1_0_1_2
        (addf (mulf (firsts y) (table s)) (mulf (seconds y) (table c)))⟩]
    concatenates_S16384x8x64x1_S16384x8x64x1_S16384x8x64x2_d3 : Arr S16384x8x64x2)
    shapeCasts_S16384x8x64x2_S16384x8x128 : Arr S16384x8x128) shapeCasts_S16384x8x128_S16384x1024

theorem heads_apply (z : Arr S16384x6144) (r : Fin 16384) (n : Fin 8) (d : Fin 128) :
    heads z (ix3 r n d) = z (ix2 r ⟨0 + (n.val * 128 + d.val), by omega⟩) := by
  pointwise [heads]

theorem gained_apply (y : Arr S16384x8x128) (g : Arr S128) (r : Fin 16384) (n : Fin 8) (d : Fin 128) :
    gained y g (ix3 r n d) = scaled (fun d => y (ix3 r n d)) (fun d => g (ix1 d)) d := by
  pointwise [gained, scaled]

theorem firsts_apply (y : Arr S16384x8x128) (r : Fin 16384) (n : Fin 8) (i : Fin 64) :
    firsts y (ix3 r n i) = y (ix3 r n ⟨2 * i.val, by omega⟩) := by
  pointwise [firsts, pairs]
  exact congrArg (fun e => y (ix3 r n e)) (Fin.ext (Nat.mul_comm _ _))

theorem seconds_apply (y : Arr S16384x8x128) (r : Fin 16384) (n : Fin 8) (i : Fin 64) :
    seconds y (ix3 r n i) = y (ix3 r n ⟨2 * i.val + 1, by omega⟩) := by
  pointwise [seconds, pairs]
  exact congrArg (fun e => y (ix3 r n e)) (Fin.ext (congrArg (· + 1) (Nat.mul_comm _ _)))

theorem table_apply (c : Arr S16384x64) (r : Fin 16384) (n : Fin 8) (i : Fin 64) : table c (ix3 r n i) = c (ix2 r i) := by
  pointwise [table]

/-- The rotated heads side by side, their pairs joined again. -/
theorem joined_apply (u v : Arr S16384x8x64x1) (r : Fin 16384) (n : Fin 8) (d : Fin 128) :
    (shapeCast _ (shapeCast _ (concatenate S16384x8x64x2 3 [⟨S16384x8x64x1, u⟩, ⟨S16384x8x64x1, v⟩]
      concatenates_S16384x8x64x1_S16384x8x64x1_S16384x8x64x2_d3 : Arr S16384x8x64x2)
      shapeCasts_S16384x8x64x2_S16384x8x128 : Arr S16384x8x128) shapeCasts_S16384x8x128_S16384x1024 : Arr S16384x1024)
      (ix2 r ⟨n.val * 128 + d.val, by omega⟩)
      = if d.val % 2 = 0 then u (ix4 r n ⟨d.val / 2, by omega⟩ 0) else v (ix4 r n ⟨d.val / 2, by omega⟩ 0) := by
  have e1 : ∀ x : Arr S16384x8x128, shapeCast S16384x1024 x shapeCasts_S16384x8x128_S16384x1024 (ix2 r ⟨n.val * 128 + d.val, by omega⟩) = x (ix3 r n d) :=
    fun x => by pointwise
  have e2 : ∀ x : Arr S16384x8x64x2, shapeCast S16384x8x128 x shapeCasts_S16384x8x64x2_S16384x8x128 (ix3 r n d)
      = x (ix4 r n ⟨d.val / 2, by omega⟩ ⟨d.val % 2, by omega⟩) := fun x => by pointwise
  rw [e1, e2]
  by_cases h : d.val % 2 = 0
  · rw [if_pos h]
    refine concatenate_pair_apply_left (t := S16384x8x64x2) _ u v _ _ rfl (ix4 r n (⟨d.val / 2, by omega⟩ : Fin 64) (0 : Fin 1)) ?_
    intro b
    match b with
    | ⟨0, _⟩ => rfl
    | ⟨1, _⟩ => rfl
    | ⟨2, _⟩ => rfl
    | ⟨3, _⟩ => exact h.symm
  · rw [if_neg h]
    refine concatenate_pair_apply_right (t := S16384x8x64x2) _ u v _ _ rfl rfl (ix4 r n (⟨d.val / 2, by omega⟩ : Fin 64) (0 : Fin 1)) ?_ ?_
    · intro b hb
      match b with
      | ⟨0, _⟩ => rfl
      | ⟨1, _⟩ => rfl
      | ⟨2, _⟩ => rfl
      | ⟨3, _⟩ => exact absurd rfl hb
    · show 0 + 1 = d.val % 2
      omega

theorem rotated_apply (y : Arr S16384x8x128) (c s : Arr S16384x64) (r : Fin 16384) (n : Fin 8) (d : Fin 128) :
    rotated y c s (ix2 r ⟨n.val * 128 + d.val, by omega⟩)
      = turned (fun d => y (ix3 r n d)) (fun i => c (ix2 r i)) (fun i => s (ix2 r i)) d := by
  unfold rotated turned
  rw [joined_apply]
  have e : ∀ (x : Arr S16384x8x64) (i : Fin 64), broadcastInDim S16384x8x64x1 ![0, 1, 2] bcast_S16384x8x64_S16384x8x64x1_0_1_2 x (ix4 r n i 0)
      = x (ix3 r n i) := fun x i => by pointwise
  have f1 := firsts_apply y r n ⟨d.val / 2, by omega⟩
  have f2 := seconds_apply y r n ⟨d.val / 2, by omega⟩
  have t1 := table_apply c r n ⟨d.val / 2, by omega⟩
  have t2 := table_apply s r n ⟨d.val / 2, by omega⟩
  rw [e, e]
  dsimp only at f1 f2 t1 t2 ⊢
  rw [← f1, ← f2, ← t1, ← t2]
  rfl

end Query

/-! ## The key heads -/

namespace Key

/-- The heads of the products. -/
def heads (z : Arr S16384x6144) : Arr S16384x2x128 :=
  shapeCast _ (extractStridedSlice S16384x256 ![0, 1024] z slices_S16384x6144_S16384x256_0_1024) shapeCasts_S16384x256_S16384x2x128

/-- A head over the root of its mean square, times the gain. -/
def gained (y : Arr S16384x2x128) (g : Arr S128) : Arr S16384x2x128 :=
  mulf (mulf y (broadcastInDim S16384x2x128 ![0, 1, 2] bcast_S16384x2x1_S16384x2x128_0_1_2 (Host.rsqrt (addf
    (Host.divf (broadcastInDim S16384x2x1 ![0, 1] bcast_S16384x2_S16384x2x1_0_1
        (Host.reduceAdd (mulf y y) (constant S_ .f32 0x00000000#32) reducesTo_S16384x2x128_S16384x2_d2 h_S_))
      (broadcastInDim S16384x2x1 ![] bcast_S_S16384x2x1 (constant S_ .f32 0x43000000#32)))
    (broadcastInDim S16384x2x1 ![] bcast_S_S16384x2x1 (constant S_ .f32 0x358637BD#32))))))
    (broadcastInDim S16384x2x128 ![0, 1, 2] bcast_S1x1x128_S16384x2x128_0_1_2 (broadcastInDim S1x1x128 ![2] bcast_S128_S1x1x128_2 g))

/-- The first and the second numbers of a head's pairs. -/
def pairs (y : Arr S16384x2x128) : Arr S16384x2x64x2 := shapeCast _ y shapeCasts_S16384x2x128_S16384x2x64x2
def firsts (y : Arr S16384x2x128) : Arr S16384x2x64 :=
  shapeCast _ (extractStridedSlice S16384x2x64x1 ![0, 0, 0, 0] (pairs y) slices_S16384x2x64x2_S16384x2x64x1_0_0_0_0)
    shapeCasts_S16384x2x64x1_S16384x2x64
def seconds (y : Arr S16384x2x128) : Arr S16384x2x64 :=
  shapeCast _ (extractStridedSlice S16384x2x64x1 ![0, 0, 0, 1] (pairs y) slices_S16384x2x64x2_S16384x2x64x1_0_0_0_1)
    shapeCasts_S16384x2x64x1_S16384x2x64

/-- A table laid over the heads. -/
def table (c : Arr S16384x64) : Arr S16384x2x64 :=
  broadcastInDim S16384x2x64 ![0, 1, 2] bcast_S16384x1x64_S16384x2x64_0_1_2
    (broadcastInDim S16384x1x64 ![0, 2] bcast_S16384x64_S16384x1x64_0_2 c)

/-- The rotated heads. -/
def rotated (y : Arr S16384x2x128) (c s : Arr S16384x64) : Arr S16384x256 :=
  shapeCast _ (shapeCast _ (concatenate S16384x2x64x2 3
    [⟨S16384x2x64x1, broadcastInDim S16384x2x64x1 ![0, 1, 2] bcast_S16384x2x64_S16384x2x64x1_0_1_2
        (subf (mulf (firsts y) (table c)) (mulf (seconds y) (table s)))⟩,
      ⟨S16384x2x64x1, broadcastInDim S16384x2x64x1 ![0, 1, 2] bcast_S16384x2x64_S16384x2x64x1_0_1_2
        (addf (mulf (firsts y) (table s)) (mulf (seconds y) (table c)))⟩]
    concatenates_S16384x2x64x1_S16384x2x64x1_S16384x2x64x2_d3 : Arr S16384x2x64x2)
    shapeCasts_S16384x2x64x2_S16384x2x128 : Arr S16384x2x128) shapeCasts_S16384x2x128_S16384x256

theorem heads_apply (z : Arr S16384x6144) (r : Fin 16384) (n : Fin 2) (d : Fin 128) :
    heads z (ix3 r n d) = z (ix2 r ⟨1024 + (n.val * 128 + d.val), by omega⟩) := by
  pointwise [heads]

theorem gained_apply (y : Arr S16384x2x128) (g : Arr S128) (r : Fin 16384) (n : Fin 2) (d : Fin 128) :
    gained y g (ix3 r n d) = scaled (fun d => y (ix3 r n d)) (fun d => g (ix1 d)) d := by
  pointwise [gained, scaled]

theorem firsts_apply (y : Arr S16384x2x128) (r : Fin 16384) (n : Fin 2) (i : Fin 64) :
    firsts y (ix3 r n i) = y (ix3 r n ⟨2 * i.val, by omega⟩) := by
  pointwise [firsts, pairs]
  exact congrArg (fun e => y (ix3 r n e)) (Fin.ext (Nat.mul_comm _ _))

theorem seconds_apply (y : Arr S16384x2x128) (r : Fin 16384) (n : Fin 2) (i : Fin 64) :
    seconds y (ix3 r n i) = y (ix3 r n ⟨2 * i.val + 1, by omega⟩) := by
  pointwise [seconds, pairs]
  exact congrArg (fun e => y (ix3 r n e)) (Fin.ext (congrArg (· + 1) (Nat.mul_comm _ _)))

theorem table_apply (c : Arr S16384x64) (r : Fin 16384) (n : Fin 2) (i : Fin 64) : table c (ix3 r n i) = c (ix2 r i) := by
  pointwise [table]

/-- The rotated heads side by side, their pairs joined again. -/
theorem joined_apply (u v : Arr S16384x2x64x1) (r : Fin 16384) (n : Fin 2) (d : Fin 128) :
    (shapeCast _ (shapeCast _ (concatenate S16384x2x64x2 3 [⟨S16384x2x64x1, u⟩, ⟨S16384x2x64x1, v⟩]
      concatenates_S16384x2x64x1_S16384x2x64x1_S16384x2x64x2_d3 : Arr S16384x2x64x2)
      shapeCasts_S16384x2x64x2_S16384x2x128 : Arr S16384x2x128) shapeCasts_S16384x2x128_S16384x256 : Arr S16384x256)
      (ix2 r ⟨n.val * 128 + d.val, by omega⟩)
      = if d.val % 2 = 0 then u (ix4 r n ⟨d.val / 2, by omega⟩ 0) else v (ix4 r n ⟨d.val / 2, by omega⟩ 0) := by
  have e1 : ∀ x : Arr S16384x2x128, shapeCast S16384x256 x shapeCasts_S16384x2x128_S16384x256 (ix2 r ⟨n.val * 128 + d.val, by omega⟩) = x (ix3 r n d) :=
    fun x => by pointwise
  have e2 : ∀ x : Arr S16384x2x64x2, shapeCast S16384x2x128 x shapeCasts_S16384x2x64x2_S16384x2x128 (ix3 r n d)
      = x (ix4 r n ⟨d.val / 2, by omega⟩ ⟨d.val % 2, by omega⟩) := fun x => by pointwise
  rw [e1, e2]
  by_cases h : d.val % 2 = 0
  · rw [if_pos h]
    refine concatenate_pair_apply_left (t := S16384x2x64x2) _ u v _ _ rfl (ix4 r n (⟨d.val / 2, by omega⟩ : Fin 64) (0 : Fin 1)) ?_
    intro b
    match b with
    | ⟨0, _⟩ => rfl
    | ⟨1, _⟩ => rfl
    | ⟨2, _⟩ => rfl
    | ⟨3, _⟩ => exact h.symm
  · rw [if_neg h]
    refine concatenate_pair_apply_right (t := S16384x2x64x2) _ u v _ _ rfl rfl (ix4 r n (⟨d.val / 2, by omega⟩ : Fin 64) (0 : Fin 1)) ?_ ?_
    · intro b hb
      match b with
      | ⟨0, _⟩ => rfl
      | ⟨1, _⟩ => rfl
      | ⟨2, _⟩ => rfl
      | ⟨3, _⟩ => exact absurd rfl hb
    · show 0 + 1 = d.val % 2
      omega

theorem rotated_apply (y : Arr S16384x2x128) (c s : Arr S16384x64) (r : Fin 16384) (n : Fin 2) (d : Fin 128) :
    rotated y c s (ix2 r ⟨n.val * 128 + d.val, by omega⟩)
      = turned (fun d => y (ix3 r n d)) (fun i => c (ix2 r i)) (fun i => s (ix2 r i)) d := by
  unfold rotated turned
  rw [joined_apply]
  have e : ∀ (x : Arr S16384x2x64) (i : Fin 64), broadcastInDim S16384x2x64x1 ![0, 1, 2] bcast_S16384x2x64_S16384x2x64x1_0_1_2 x (ix4 r n i 0)
      = x (ix3 r n i) := fun x i => by pointwise
  have f1 := firsts_apply y r n ⟨d.val / 2, by omega⟩
  have f2 := seconds_apply y r n ⟨d.val / 2, by omega⟩
  have t1 := table_apply c r n ⟨d.val / 2, by omega⟩
  have t2 := table_apply s r n ⟨d.val / 2, by omega⟩
  rw [e, e]
  dsimp only at f1 f2 t1 t2 ⊢
  rw [← f1, ← f2, ← t1, ← t2]
  rfl

end Key

/-! ## The gMLP's halves and the gates -/

/-- The gelu of both halves. -/
def gelus (x : Arr S16384x1024) : Arr S16384x1024 :=
  mulf x (mulf (broadcastInDim S16384x1024 ![] bcast_S_S16384x1024 (constant S_ .f32 0x3F000000#32))
    (addf (broadcastInDim S16384x1024 ![] bcast_S_S16384x1024 (constant S_ .f32 0x3F800000#32))
      (Host.tanh (mulf (broadcastInDim S16384x1024 ![] bcast_S_S16384x1024 (constant S_ .f32 0x3F4C422A#32))
        (addf x (mulf (broadcastInDim S16384x1024 ![] bcast_S_S16384x1024 (constant S_ .f32 0x3D372713#32)) (mulf (mulf x x) x)))))))

/-- The gMLP's numbers among the products. -/
def middles (z : Arr S16384x6144) : Arr S16384x1024 := extractStridedSlice S16384x1024 ![0, 1536] z slices_S16384x6144_S16384x1024_0_1536

/-- The mean of each row of 512 numbers. -/
def means' (x : Arr S16384x512) : Arr S16384x1 :=
  Host.divf (broadcastInDim S16384x1 ![0] bcast_S16384_S16384x1_0
      (Host.reduceAdd x (constant S_ .f32 0x00000000#32) reducesTo_S16384x512_S16384_d1 h_S_))
    (broadcastInDim S16384x1 ![] bcast_S_S16384x1 (constant S_ .f32 0x44000000#32))

/-- A number of each row laid along it. -/
def along' (x : Arr S16384x1) : Arr S16384x512 := broadcastInDim S16384x512 ![0, 1] bcast_S16384x1_S16384x512_0_1 x

/-- A vector laid over all rows. -/
def over' (x : Arr S512) : Arr S16384x512 :=
  broadcastInDim S16384x512 ![0, 1] bcast_S1x512_S16384x512_0_1 (broadcastInDim S1x512 ![1] bcast_S512_S1x512_1 x)

/-- Each row less its mean. -/
def centres' (x : Arr S16384x512) : Arr S16384x512 := subf x (along' (means' x))

/-- The norm of each row. -/
def norms' (x : Arr S16384x512) : Arr S16384x512 :=
  mulf (centres' x) (along' (Host.rsqrt (addf (means' (mulf (centres' x) (centres' x)))
    (broadcastInDim S16384x1 ![] bcast_S_S16384x1 (constant S_ .f32 0x358637BD#32)))))

/-- The norms, scaled and shifted. -/
def finals (y : Arr S16384x512) (g b : Arr S512) : Arr S16384x512 := addf (mulf (norms' y) (over' g)) (over' b)

/-- The constant one. -/
def ones : Arr S16384x3072 := broadcastInDim S16384x3072 ![] bcast_S_S16384x3072 (constant S_ .f32 0x3F800000#32)

/-- The gates. -/
def gates (z : Arr S16384x6144) : Arr S16384x3072 :=
  Host.divf ones (addf ones (Host.exp (Host.negf (extractStridedSlice S16384x3072 ![0, 3072] z slices_S16384x6144_S16384x3072_0_3072))))

theorem gelus_apply (x : Arr S16384x1024) (r : Fin 16384) (k : Fin 1024) : gelus x (ix2 r k) = gelu (x (ix2 r k)) := by
  unfold gelu
  rw [mul_assoc, mul_left_comm]
  pointwise [gelus]

theorem middles_apply (z : Arr S16384x6144) (r : Fin 16384) (k : Fin 1024) : middles z (ix2 r k) = z (ix2 r ⟨1536 + k.val, by omega⟩) := by
  pointwise [middles]

theorem means'_apply (x : Arr S16384x512) (r : Fin 16384) (i : Fin 1) : means' x (ix2 r i) = mean fun k => x (ix2 r k) := by
  pointwise [means', mean]

theorem centres'_apply (x : Arr S16384x512) (r : Fin 16384) (k : Fin 512) : centres' x (ix2 r k) = centred (fun k => x (ix2 r k)) k := by
  unfold centred
  rw [← means'_apply x r 0]
  pointwise [centres', along']

theorem norms'_apply (x : Arr S16384x512) (r : Fin 16384) (k : Fin 512) : norms' x (ix2 r k) = norm (fun k => x (ix2 r k)) k := by
  have e : mean (fun k => centred (fun k => x (ix2 r k)) k * centred (fun k => x (ix2 r k)) k)
      = means' (mulf (centres' x) (centres' x)) (ix2 r 0) := by
    rw [means'_apply]
    simp only [← centres'_apply]
    rfl
  unfold norm
  rw [e, ← centres'_apply]
  pointwise [norms', along']

theorem finals_apply (y : Arr S16384x512) (g b : Arr S512) (r : Fin 16384) (k : Fin 512) :
    finals y g b (ix2 r k) = norm (fun k => y (ix2 r k)) k * g (ix1 k) + b (ix1 k) := by
  rw [← norms'_apply]
  pointwise [finals, over']

theorem gates_apply (z : Arr S16384x6144) (r : Fin 16384) (i : Fin 3072) :
    gates z (ix2 r i) = logistic (z (ix2 r ⟨3072 + i.val, by omega⟩)) := by
  pointwise [gates, ones, logistic]

/-! ## The parts side by side -/

/-- Seven arrays side by side. -/
def joined (q : Arr S16384x1024) (k : Arr S16384x256) (v : Arr S16384x256) (u : Arr S16384x512) (n : Arr S16384x512) (f : Arr S16384x512) (s : Arr S16384x3072) : Arr S16384x6144 :=
  concatenate S16384x6144 1 [⟨S16384x1024, q⟩, ⟨S16384x256, k⟩, ⟨S16384x256, v⟩, ⟨S16384x512, u⟩, ⟨S16384x512, n⟩, ⟨S16384x512, f⟩, ⟨S16384x3072, s⟩]
    concatenates_S16384x1024_S16384x256_S16384x256_S16384x512_S16384x512_S16384x512_S16384x3072_S16384x6144_d1

section
variable (q : Arr S16384x1024) (k : Arr S16384x256) (v : Arr S16384x256) (u : Arr S16384x512) (n : Arr S16384x512) (f : Arr S16384x512) (s : Arr S16384x3072) (r : Fin 16384)

theorem joined_q (b : 0 + 1024 ≤ 6144) (i : Fin 1024) : joined q k v u n f s (ix2 r (column 0 b i)) = q (ix2 r i) := by
  unfold joined
  refine concatenate_apply_piece (t := S16384x6144) _ _ _ _ 0 ?_ S16384x1024 q ?_ rfl 0 ?_ (ix2 r i) ?_ ?_
  · exact (by decide : 0 < 7)
  · rfl
  · rfl
  · intro a ha
    match a with
    | ⟨0, _⟩ => rfl
    | ⟨1, _⟩ => exact absurd rfl ha
  · rfl

theorem joined_k (b : 1024 + 256 ≤ 6144) (i : Fin 256) : joined q k v u n f s (ix2 r (column 1024 b i)) = k (ix2 r i) := by
  unfold joined
  refine concatenate_apply_piece (t := S16384x6144) _ _ _ _ 1 ?_ S16384x256 k ?_ rfl 1024 ?_ (ix2 r i) ?_ ?_
  · exact (by decide : 1 < 7)
  · rfl
  · rfl
  · intro a ha
    match a with
    | ⟨0, _⟩ => rfl
    | ⟨1, _⟩ => exact absurd rfl ha
  · rfl

theorem joined_v (b : 1280 + 256 ≤ 6144) (i : Fin 256) : joined q k v u n f s (ix2 r (column 1280 b i)) = v (ix2 r i) := by
  unfold joined
  refine concatenate_apply_piece (t := S16384x6144) _ _ _ _ 2 ?_ S16384x256 v ?_ rfl 1280 ?_ (ix2 r i) ?_ ?_
  · exact (by decide : 2 < 7)
  · rfl
  · rfl
  · intro a ha
    match a with
    | ⟨0, _⟩ => rfl
    | ⟨1, _⟩ => exact absurd rfl ha
  · rfl

theorem joined_u (b : 1536 + 512 ≤ 6144) (i : Fin 512) : joined q k v u n f s (ix2 r (column 1536 b i)) = u (ix2 r i) := by
  unfold joined
  refine concatenate_apply_piece (t := S16384x6144) _ _ _ _ 3 ?_ S16384x512 u ?_ rfl 1536 ?_ (ix2 r i) ?_ ?_
  · exact (by decide : 3 < 7)
  · rfl
  · rfl
  · intro a ha
    match a with
    | ⟨0, _⟩ => rfl
    | ⟨1, _⟩ => exact absurd rfl ha
  · rfl

theorem joined_n (b : 2048 + 512 ≤ 6144) (i : Fin 512) : joined q k v u n f s (ix2 r (column 2048 b i)) = n (ix2 r i) := by
  unfold joined
  refine concatenate_apply_piece (t := S16384x6144) _ _ _ _ 4 ?_ S16384x512 n ?_ rfl 2048 ?_ (ix2 r i) ?_ ?_
  · exact (by decide : 4 < 7)
  · rfl
  · rfl
  · intro a ha
    match a with
    | ⟨0, _⟩ => rfl
    | ⟨1, _⟩ => exact absurd rfl ha
  · rfl

theorem joined_f (b : 2560 + 512 ≤ 6144) (i : Fin 512) : joined q k v u n f s (ix2 r (column 2560 b i)) = f (ix2 r i) := by
  unfold joined
  refine concatenate_apply_piece (t := S16384x6144) _ _ _ _ 5 ?_ S16384x512 f ?_ rfl 2560 ?_ (ix2 r i) ?_ ?_
  · exact (by decide : 5 < 7)
  · rfl
  · rfl
  · intro a ha
    match a with
    | ⟨0, _⟩ => rfl
    | ⟨1, _⟩ => exact absurd rfl ha
  · rfl

theorem joined_s (b : 3072 + 3072 ≤ 6144) (i : Fin 3072) : joined q k v u n f s (ix2 r (column 3072 b i)) = s (ix2 r i) := by
  unfold joined
  refine concatenate_apply_piece (t := S16384x6144) _ _ _ _ 6 ?_ S16384x3072 s ?_ rfl 3072 ?_ (ix2 r i) ?_ ?_
  · exact (by decide : 6 < 7)
  · rfl
  · rfl
  · intro a ha
    match a with
    | ⟨0, _⟩ => rfl
    | ⟨1, _⟩ => exact absurd rfl ha
  · rfl

end

/-- The queries, scaled. -/
def queries (z : Arr S16384x6144) (g : Arr S128) (c s : Arr S16384x64) : Arr S16384x1024 :=
  mulf (Query.rotated (Query.gained (Query.heads z) g) c s) (broadcastInDim S16384x1024 ![] bcast_S_S16384x1024 (constant S_ .f32 0x3E0293EE#32))

/-- The result from the products. -/
def outOf (z : Arr S16384x6144) (qg kg : Arr S128) (g b : Arr S512) (c s : Arr S16384x64) : Arr S16384x6144 :=
  joined (queries z qg c s) (Key.rotated (Key.gained (Key.heads z) kg) c s)
    (extractStridedSlice S16384x256 ![0, 1280] z slices_S16384x6144_S16384x256_0_1280)
    (extractStridedSlice S16384x512 ![0, 0] (gelus (middles z)) slices_S16384x1024_S16384x512_0_0)
    (finals (extractStridedSlice S16384x512 ![0, 512] (gelus (middles z)) slices_S16384x1024_S16384x512_0_512) g b)
    (extractStridedSlice S16384x512 ![0, 2560] z slices_S16384x6144_S16384x512_0_2560) (gates z)

/-- What the reference computes of its arguments. -/
def out (x : Arr S16384x1024) (shift scale : Arr S1x1024) (w : Arr S1024x6144) (qg kg : Arr S128) (g b : Arr S512) (c s : Arr S16384x64) :
    FVec Ideal S16384x6144 .bf16 :=
  truncf .bf16 (outOf (prods (mods x shift scale) w) qg kg g b c s) bitsLt_bf16_f32

section
variable (z : Arr S16384x6144) (qg kg : Arr S128) (g b : Arr S512) (c s : Arr S16384x64) (r : Fin 16384)

/-- A query head of the result. -/
theorem queries_apply (n : Fin 8) (d : Fin 128) (h : Fin 1024 → EReal) (w : Fin 1024 → Fin 6144 → EReal)
    (hz : ∀ j, z (ix2 r j) = proj h w j) :
    queries z qg c s (ix2 r ⟨n.val * 128 + d.val, by omega⟩)
      = row h w (fun d => qg (ix1 d)) (fun d => kg (ix1 d)) (fun k => g (ix1 k)) (fun k => b (ix1 k)) (fun i => c (ix2 r i))
          (fun i => s (ix2 r i)) ⟨n.val * 128 + d.val, by omega⟩ := by
  have e : queries z qg c s (ix2 r ⟨n.val * 128 + d.val, by omega⟩)
      = Query.rotated (Query.gained (Query.heads z) qg) c s (ix2 r ⟨n.val * 128 + d.val, by omega⟩) * Ideal.ofBits .f32 0x3E0293EE#32 := by
    pointwise [queries]
  refine e.trans (Eq.trans ?_ (row_query h w _ _ _ _ _ _ (n.val * 128) (by omega) (by omega) (by omega) d).symm)
  rw [Query.rotated_apply]
  refine congrArg (· * _) (turned_congr (fun d => ?_) (fun _ => rfl) (fun _ => rfl) d)
  rw [Query.gained_apply]
  refine congrArg (fun y => scaled y _ d) (funext fun d => ?_)
  rw [Query.heads_apply, hz]
  exact congrArg _ (Fin.ext (Nat.zero_add _))

/-- A key head of the result. -/
theorem keys_apply (n : Fin 2) (d : Fin 128) (h : Fin 1024 → EReal) (w : Fin 1024 → Fin 6144 → EReal)
    (hz : ∀ j, z (ix2 r j) = proj h w j) :
    Key.rotated (Key.gained (Key.heads z) kg) c s (ix2 r ⟨n.val * 128 + d.val, by omega⟩)
      = row h w (fun d => qg (ix1 d)) (fun d => kg (ix1 d)) (fun k => g (ix1 k)) (fun k => b (ix1 k)) (fun i => c (ix2 r i))
          (fun i => s (ix2 r i)) (column (1024 + n.val * 128) (by omega) d) := by
  rw [row_key h w _ _ _ _ _ _ (1024 + n.val * 128) (by omega) (by omega) (by omega) (by omega) d, Key.rotated_apply]
  refine turned_congr (fun d => ?_) (fun _ => rfl) (fun _ => rfl) d
  rw [Key.gained_apply]
  refine congrArg (fun y => scaled y _ d) (funext fun d => ?_)
  rw [Key.heads_apply, hz]
  exact congrArg _ (Fin.ext (Nat.add_assoc _ _ _).symm)

/-- Every column lies in one of the seven parts. -/
theorem column_cases (j : Fin 6144) : (∃ i : Fin 1024, j = column 0 (by decide) i) ∨ (∃ i : Fin 256, j = column 1024 (by decide) i)
    ∨ (∃ i : Fin 256, j = column 1280 (by decide) i) ∨ (∃ i : Fin 512, j = column 1536 (by decide) i)
    ∨ (∃ i : Fin 512, j = column 2048 (by decide) i) ∨ (∃ i : Fin 512, j = column 2560 (by decide) i)
    ∨ (∃ i : Fin 3072, j = column 3072 (by decide) i) := by
  have f : ∀ (o n : ℕ) (b : o + n ≤ 6144), o ≤ j.val → j.val < o + n → ∃ i : Fin n, j = column o b i := fun o n b h0 h1 =>
    ⟨⟨j.val - o, by omega⟩, Fin.ext (by unfold column; dsimp only; omega)⟩
  by_cases h1 : j.val < 1024
  · exact .inl (f _ _ _ (Nat.zero_le _) (by omega))
  by_cases h2 : j.val < 1280
  · exact .inr (.inl (f _ _ _ (by omega) (by omega)))
  by_cases h3 : j.val < 1536
  · exact .inr (.inr (.inl (f _ _ _ (by omega) (by omega))))
  by_cases h4 : j.val < 2048
  · exact .inr (.inr (.inr (.inl (f _ _ _ (by omega) (by omega)))))
  by_cases h5 : j.val < 2560
  · exact .inr (.inr (.inr (.inr (.inl (f _ _ _ (by omega) (by omega))))))
  by_cases h6 : j.val < 3072
  · exact .inr (.inr (.inr (.inr (.inr (.inl (f _ _ _ (by omega) (by omega)))))))
  · exact .inr (.inr (.inr (.inr (.inr (.inr (f _ _ _ (by omega) (by omega)))))))

/-- The result at row `r` and column `j`, from the products. -/
theorem outOf_apply (h : Fin 1024 → EReal) (w : Fin 1024 → Fin 6144 → EReal) (hz : ∀ j, z (ix2 r j) = proj h w j) (j : Fin 6144) :
    outOf z qg kg g b c s (ix2 r j)
      = row h w (fun d => qg (ix1 d)) (fun d => kg (ix1 d)) (fun k => g (ix1 k)) (fun k => b (ix1 k)) (fun i => c (ix2 r i))
          (fun i => s (ix2 r i)) j := by
  unfold outOf
  obtain ⟨i, rfl⟩ | ⟨i, rfl⟩ | ⟨i, rfl⟩ | ⟨i, rfl⟩ | ⟨i, rfl⟩ | ⟨i, rfl⟩ | ⟨i, rfl⟩ := column_cases j
  · rw [joined_q]
    have e : i = ⟨(⟨i.val / 128, by omega⟩ : Fin 8).val * 128 + (⟨i.val % 128, by omega⟩ : Fin 128).val, by dsimp only; omega⟩ :=
      Fin.ext (by dsimp only; omega)
    have e' : (column 0 (by decide) i : Fin 6144)
        = ⟨(⟨i.val / 128, by omega⟩ : Fin 8).val * 128 + (⟨i.val % 128, by omega⟩ : Fin 128).val, by dsimp only; omega⟩ :=
      Fin.ext (by unfold column; dsimp only; omega)
    rw [e', ← queries_apply z qg kg g b c s r _ _ h w hz, ← e]
  · rw [joined_k]
    have e : i = ⟨(⟨i.val / 128, by omega⟩ : Fin 2).val * 128 + (⟨i.val % 128, by omega⟩ : Fin 128).val, by dsimp only; omega⟩ :=
      Fin.ext (by dsimp only; omega)
    have e' : (column 1024 (by decide) i : Fin 6144)
        = column (1024 + (⟨i.val / 128, by omega⟩ : Fin 2).val * 128) (by dsimp only; omega) (⟨i.val % 128, by omega⟩ : Fin 128) :=
      Fin.ext (by unfold column; dsimp only; omega)
    rw [e', ← keys_apply z qg kg g b c s r _ _ h w hz, ← e]
  · rw [joined_v, row_value _ _ _ _ _ _ _ _ _ (by unfold column; dsimp only; omega) (by unfold column; dsimp only; omega), ← hz]
    pointwise [column]
  · rw [joined_u, row_gelu _ _ _ _ _ _ _ _ _ (by unfold column; dsimp only; omega) (by unfold column; dsimp only; omega), ← hz]
    have e : extractStridedSlice S16384x512 ![0, 0] (gelus (middles z)) slices_S16384x1024_S16384x512_0_0 (ix2 r i)
        = gelus (middles z) (ix2 r ⟨i.val, by omega⟩) := by pointwise
    rw [e, gelus_apply, middles_apply]
    rfl
  · rw [joined_n, row_norm, finals_apply]
    have e : ∀ i : Fin 512, extractStridedSlice S16384x512 ![0, 512] (gelus (middles z)) slices_S16384x1024_S16384x512_0_512 (ix2 r i)
        = gelus (middles z) (ix2 r ⟨512 + i.val, by omega⟩) := fun i => by pointwise
    refine congrArg (fun y => y * _ + _) (norm_congr (fun k => ?_) i)
    rw [e, gelus_apply, middles_apply, hz]
    exact congrArg (fun j => gelu (proj h w j)) (Fin.ext (by unfold column; dsimp only; omega))
  · rw [joined_f, row_plain _ _ _ _ _ _ _ _ _ (by unfold column; dsimp only; omega) (by unfold column; dsimp only; omega), ← hz]
    pointwise [column]
  · rw [joined_s, row_gate _ _ _ _ _ _ _ _ _ (by unfold column; dsimp only; omega), ← hz, gates_apply]
    rfl

end

/-- The reference at row `r` and column `j`. -/
theorem out_apply (x : Arr S16384x1024) (shift scale : Arr S1x1024) (w : Arr S1024x6144) (qg kg : Arr S128) (g b : Arr S512)
    (c s : Arr S16384x64) (r : Fin 16384) (j : Fin 6144) :
    out x shift scale w qg kg g b c s (ix2 r j)
      = row (fun k => Ffn.modulated (fun k => x (ix2 r k)) (fun k => shift (ix2 0 k)) (fun k => scale (ix2 0 k)) k) (fun k j => w (ix2 k j))
          (fun d => qg (ix1 d)) (fun d => kg (ix1 d)) (fun k => g (ix1 k)) (fun k => b (ix1 k)) (fun i => c (ix2 r i))
          (fun i => s (ix2 r i)) j :=
  outOf_apply _ qg kg g b c s r _ _ (fun j => by rw [prods_apply]; simp only [mods_apply]) j

variable (m : (ℓ : Loc nD τ sig) → Buf (Elt Ideal) ℓ)

/-- The reference ends with `out` of its arguments, which it keeps. -/
theorem run (ρ : Dev nD → PrngReg) : θ_run defs (onTc (τ := τ) (main (F := Ideal))) ⟨m, fun _ => 0, ρ⟩ fun r => ∀ c : Dev nD,
    r.2.mem ((c.tc : Thread nD τ).loc main_v151)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun r h c => ⟨((h c).1).trans rfl, (h c).2⟩) (Value.run m ρ)

/-- The reference's frame. -/
theorem frame : Cert.quiescent_Reference3Ideal := fun m ρ _ =>
  (θ_run (defs (F := Ideal)) _ _).mono (fun r h => ⟨fun c => (h c).2, sem_eq_zero_of_no_sems (by decide) r.2⟩) (Value.run m ρ)

end Cert.In.Ref

end
-- ==== Proof.InSame.lean ====
/-
  The input-projection call and its reference compute one function of the arguments: row by row both are `row`. The rotation tables
  the call is given carry each cosine twice and each sine twice, the first time negated. With it the call's frames.
-/
module

public import proofs.«01_k».proof.Defs
public import proofs.«01_k».proof.Proof.InKernel
public import proofs.«01_k».proof.Proof.InReference
public import proofs.«01_k».proof.Proof.Gen.Kernel3

@[expose] public section

noncomputable section

namespace Cert.In

open Idealize.ShloMosaic Idealize.ShloMosaic.TcCoe Idealize.ShloMosaic.StableHlo Idealize.ShloMosaic.Ideal Idealize.SL.Sem

section
open Cert.Kernel3Ideal Cert.Kernel3Ideal.Gen

variable (m : (ℓ : Loc nD τ sig) → Buf (Elt Ideal) ℓ)

/-! ## The arrays the host operations leave -/

theorem V_weight (c : Dev nD) (k : Fin 1024) (j : Fin 6144) :
    V m c main_v7 (ix2 k j : S1024x6144.Idx) = m ((c : Thread nD τ).loc main_arg3) (ix2 k j : S1024x6144.Idx) := by
  have e : V m c main_v7 = (truncf .bf16 (m ((c : Thread nD τ).loc main_arg3)) bitsLt_bf16_f32 : FVec Ideal S1024x6144 .bf16) := by
    show StableHlo.after (hostOps0 (F := Ideal)) (fun b => m (c, b)) (Proc.devRef .tc main_v7) = _
    after_reads_simp
  exact congrFun e _

/-- A vector as a single row. -/
theorem gain_row_apply (x : FVec Ideal S128 .f32) (k : Fin 128) : shapeCast S1x128 x shapeCasts_S128_S1x128 (ix2 0 k) = x (ix1 k) := by
  pointwise

/-- A vector as a single row. -/
theorem affine_row_apply (x : FVec Ideal S512 .f32) (k : Fin 512) : shapeCast S1x512 x shapeCasts_S512_S1x512 (ix2 0 k) = x (ix1 k) := by
  pointwise

theorem V_queryGain (c : Dev nD) (k : Fin 128) :
    V m c main_v8 (ix2 0 k : S1x128.Idx) = m ((c : Thread nD τ).loc main_arg4) (ix1 k : S128.Idx) := by
  have e : V m c main_v8 = (shapeCast S1x128 (m ((c : Thread nD τ).loc main_arg4)) shapeCasts_S128_S1x128 : FVec Ideal S1x128 .f32) := by
    show StableHlo.after (hostOps0 (F := Ideal)) (fun b => m (c, b)) (Proc.devRef .tc main_v8) = _
    after_reads_simp
    rfl
  exact (congrFun e _).trans (gain_row_apply _ k)

theorem V_keyGain (c : Dev nD) (k : Fin 128) :
    V m c main_v9 (ix2 0 k : S1x128.Idx) = m ((c : Thread nD τ).loc main_arg5) (ix1 k : S128.Idx) := by
  have e : V m c main_v9 = (shapeCast S1x128 (m ((c : Thread nD τ).loc main_arg5)) shapeCasts_S128_S1x128 : FVec Ideal S1x128 .f32) := by
    show StableHlo.after (hostOps0 (F := Ideal)) (fun b => m (c, b)) (Proc.devRef .tc main_v9) = _
    after_reads_simp
    rfl
  exact (congrFun e _).trans (gain_row_apply _ k)

theorem V_gain (c : Dev nD) (k : Fin 512) :
    V m c main_v10 (ix2 0 k : S1x512.Idx) = m ((c : Thread nD τ).loc main_arg6) (ix1 k : S512.Idx) := by
  have e : V m c main_v10 = (shapeCast S1x512 (m ((c : Thread nD τ).loc main_arg6)) shapeCasts_S512_S1x512 : FVec Ideal S1x512 .f32) := by
    show StableHlo.after (hostOps0 (F := Ideal)) (fun b => m (c, b)) (Proc.devRef .tc main_v10) = _
    after_reads_simp
    rfl
  exact (congrFun e _).trans (affine_row_apply _ k)

theorem V_offset (c : Dev nD) (k : Fin 512) :
    V m c main_v11 (ix2 0 k : S1x512.Idx) = m ((c : Thread nD τ).loc main_arg7) (ix1 k : S512.Idx) := by
  have e : V m c main_v11 = (shapeCast S1x512 (m ((c : Thread nD τ).loc main_arg7)) shapeCasts_S512_S1x512 : FVec Ideal S1x512 .f32) := by
    show StableHlo.after (hostOps0 (F := Ideal)) (fun b => m (c, b)) (Proc.devRef .tc main_v11) = _
    after_reads_simp
    rfl
  exact (congrFun e _).trans (affine_row_apply _ k)

/-- Every entry twice. -/
def twice (x : FVec Ideal S16384x64 .f32) : FVec Ideal S16384x128 .f32 :=
  shapeCast S16384x128 (broadcastInDim S16384x64x2 ![0, 1] bcast_S16384x64_S16384x64x2_0_1 x) shapeCasts_S16384x64x2_S16384x128

theorem twice_apply (x : FVec Ideal S16384x64 .f32) (r : Fin 16384) (d : Fin 128) : twice x (ix2 r d) = x (ix2 r ⟨d.val / 2, by omega⟩) := by
  unfold twice
  rw [shapeCast_apply _ _ (ix2 r d) (ix3 r (⟨d.val / 2, by omega⟩ : Fin 64) (⟨d.val % 2, by omega⟩ : Fin 2)) (by
    rw [Shape.rowMajor_val_three, Shape.rowMajor_val_two]
    show (r.val * 64 + d.val / 2) * 2 + d.val % 2 = r.val * 128 + d.val
    omega)]
  pointwise

/-- Two tables in turns. -/
def turns (u v : FVec Ideal S16384x64 .f32) : FVec Ideal S16384x128 .f32 :=
  shapeCast S16384x128 (concatenate S16384x64x2 2 [⟨S16384x64x1, broadcastInDim S16384x64x1 ![0, 1] bcast_S16384x64_S16384x64x1_0_1 u⟩,
    ⟨S16384x64x1, broadcastInDim S16384x64x1 ![0, 1] bcast_S16384x64_S16384x64x1_0_1 v⟩] concatenates_S16384x64x1_S16384x64x1_S16384x64x2_d2)
    shapeCasts_S16384x64x2_S16384x128

theorem turns_apply (u v : FVec Ideal S16384x64 .f32) (r : Fin 16384) (d : Fin 128) :
    turns u v (ix2 r d) = if d.val % 2 = 0 then u (ix2 r ⟨d.val / 2, by omega⟩) else v (ix2 r ⟨d.val / 2, by omega⟩) := by
  unfold turns
  rw [shapeCast_apply _ _ (ix2 r d) (ix3 r (⟨d.val / 2, by omega⟩ : Fin 64) (⟨d.val % 2, by omega⟩ : Fin 2)) (by
    rw [Shape.rowMajor_val_three, Shape.rowMajor_val_two]
    show (r.val * 64 + d.val / 2) * 2 + d.val % 2 = r.val * 128 + d.val
    omega)]
  have e : ∀ (x : FVec Ideal S16384x64 .f32) (i : Fin 64),
      broadcastInDim S16384x64x1 ![0, 1] bcast_S16384x64_S16384x64x1_0_1 x (ix3 r i 0) = x (ix2 r i) := fun x i => by pointwise
  by_cases h : d.val % 2 = 0
  · rw [if_pos h]
    refine Eq.trans ?_ (e u _)
    refine concatenate_pair_apply_left (t := S16384x64x2) (s₁ := S16384x64x1) (s₂ := S16384x64x1) _ _ _ _ _ rfl
      (ix3 r (⟨d.val / 2, by omega⟩ : Fin 64) (0 : Fin 1)) ?_
    intro b
    match b with
    | ⟨0, _⟩ => rfl
    | ⟨1, _⟩ => rfl
    | ⟨2, _⟩ => exact h.symm
  · rw [if_neg h]
    refine Eq.trans ?_ (e v _)
    refine concatenate_pair_apply_right (t := S16384x64x2) (s₁ := S16384x64x1) (s₂ := S16384x64x1) _ _ _ _ _ rfl rfl
      (ix3 r (⟨d.val / 2, by omega⟩ : Fin 64) (0 : Fin 1)) ?_ ?_
    · intro b hb
      match b with
      | ⟨0, _⟩ => rfl
      | ⟨1, _⟩ => rfl
      | ⟨2, _⟩ => exact absurd rfl hb
    · show 0 + 1 = d.val % 2
      omega

theorem V_cos (c : Dev nD) (r : Fin 16384) (d : Fin 128) :
    V m c main_v1 (ix2 r d : S16384x128.Idx) = m ((c : Thread nD τ).loc main_arg8) (ix2 r ⟨d.val / 2, by omega⟩ : S16384x64.Idx) := by
  have e : V m c main_v1 = twice (m ((c : Thread nD τ).loc main_arg8)) := by
    show StableHlo.after (hostOps0 (F := Ideal)) (fun b => m (c, b)) (Proc.devRef .tc main_v1) = _
    after_reads_simp
    rfl
  exact (congrFun e _).trans (twice_apply _ r d)

theorem V_sin (c : Dev nD) (r : Fin 16384) (d : Fin 128) :
    V m c main_v6 (ix2 r d : S16384x128.Idx)
      = if d.val % 2 = 0 then Neg.neg (α := EReal) (m ((c : Thread nD τ).loc main_arg9) (ix2 r ⟨d.val / 2, by omega⟩ : S16384x64.Idx))
        else m ((c : Thread nD τ).loc main_arg9) (ix2 r ⟨d.val / 2, by omega⟩ : S16384x64.Idx) := by
  have e : V m c main_v6 = turns (Host.negf (m ((c : Thread nD τ).loc main_arg9) : FVec Ideal S16384x64 .f32))
      (m ((c : Thread nD τ).loc main_arg9)) := by
    show StableHlo.after (hostOps0 (F := Ideal)) (fun b => m (c, b)) (Proc.devRef .tc main_v6) = _
    after_reads_simp
    rfl
  exact (congrFun e _).trans (turns_apply _ _ r d)

/-! ## The windows -/

theorem at0 : ∀ t : Fin grid0.N, win0_0.index t 0 = t.val ∧ win0_0.index t 1 = 0 := by decide +kernel
theorem at1 : ∀ t : Fin grid0.N, win0_1.index t 0 = 0 ∧ win0_1.index t 1 = 0 := by decide +kernel
theorem at2 : ∀ t : Fin grid0.N, win0_2.index t 0 = 0 ∧ win0_2.index t 1 = 0 := by decide +kernel
theorem at3 : ∀ t : Fin grid0.N, win0_3.index t 0 = 0 ∧ win0_3.index t 1 = 0 := by decide +kernel
theorem at4 : ∀ t : Fin grid0.N, win0_4.index t 0 = 0 ∧ win0_4.index t 1 = 0 := by decide +kernel
theorem at5 : ∀ t : Fin grid0.N, win0_5.index t 0 = 0 ∧ win0_5.index t 1 = 0 := by decide +kernel
theorem at6 : ∀ t : Fin grid0.N, win0_6.index t 0 = 0 ∧ win0_6.index t 1 = 0 := by decide +kernel
theorem at7 : ∀ t : Fin grid0.N, win0_7.index t 0 = 0 ∧ win0_7.index t 1 = 0 := by decide +kernel
theorem at8 : ∀ t : Fin grid0.N, win0_8.index t 0 = t.val ∧ win0_8.index t 1 = 0 := by decide +kernel
theorem at9 : ∀ t : Fin grid0.N, win0_9.index t 0 = t.val ∧ win0_9.index t 1 = 0 := by decide +kernel
theorem at10 : ∀ t : Fin grid0.N, win0_10.index t 0 = t.val ∧ win0_10.index t 1 = 0 := by decide +kernel

theorem lt_points (t : Fin cfg0.N) : t.val < 32 := lt_of_lt_of_eq t.isLt N_0

/-- The whole array's row of a block's row. -/
def lift (t : Fin cfg0.N) (r : Fin 512) : Fin 16384 := ⟨512 * t.val + r.val, by have := lt_points t; omega⟩

theorem block0 (c : Dev nD) (t : Fin cfg0.N) (r : Fin 512) (k : Fin 1024) : (iblk m c 0 t : S512x1024.Idx → EReal) (ix2 r k)
    = V m c main_arg0 (ix2 (lift t r) k : S16384x1024.Idx) := by
  refine congrArg (V m c main_arg0) (funext fun a => Fin.ext ?_)
  match a with
  | ⟨0, _⟩ =>
    show win0_0.index t 0 * 512 + 1 * r.val = 512 * t.val + r.val
    rw [(at0 t).1]; ring
  | ⟨1, _⟩ =>
    show win0_0.index t 1 * 1024 + 1 * k.val = k.val
    rw [(at0 t).2]; ring

theorem block1 (c : Dev nD) (t : Fin cfg0.N) (r : Fin 1) (k : Fin 1024) : (iblk m c 1 t : S1x1024.Idx → EReal) (ix2 r k)
    = V m c main_arg1 (ix2 r k : S1x1024.Idx) := by
  refine congrArg (V m c main_arg1) (funext fun a => Fin.ext ?_)
  match a with
  | ⟨0, _⟩ =>
    show win0_1.index t 0 * 1 + 1 * r.val = r.val
    rw [(at1 t).1]; ring
  | ⟨1, _⟩ =>
    show win0_1.index t 1 * 1024 + 1 * k.val = k.val
    rw [(at1 t).2]; ring

theorem block2 (c : Dev nD) (t : Fin cfg0.N) (r : Fin 1) (k : Fin 1024) : (iblk m c 2 t : S1x1024.Idx → EReal) (ix2 r k)
    = V m c main_arg2 (ix2 r k : S1x1024.Idx) := by
  refine congrArg (V m c main_arg2) (funext fun a => Fin.ext ?_)
  match a with
  | ⟨0, _⟩ =>
    show win0_2.index t 0 * 1 + 1 * r.val = r.val
    rw [(at2 t).1]; ring
  | ⟨1, _⟩ =>
    show win0_2.index t 1 * 1024 + 1 * k.val = k.val
    rw [(at2 t).2]; ring

theorem block3 (c : Dev nD) (t : Fin cfg0.N) (r : Fin 1024) (k : Fin 6144) : (iblk m c 3 t : S1024x6144.Idx → EReal) (ix2 r k)
    = V m c main_v7 (ix2 r k : S1024x6144.Idx) := by
  refine congrArg (V m c main_v7) (funext fun a => Fin.ext ?_)
  match a with
  | ⟨0, _⟩ =>
    show win0_3.index t 0 * 1024 + 1 * r.val = r.val
    rw [(at3 t).1]; ring
  | ⟨1, _⟩ =>
    show win0_3.index t 1 * 6144 + 1 * k.val = k.val
    rw [(at3 t).2]; ring

theorem block4 (c : Dev nD) (t : Fin cfg0.N) (r : Fin 1) (k : Fin 128) : (iblk m c 4 t : S1x128.Idx → EReal) (ix2 r k)
    = V m c main_v8 (ix2 r k : S1x128.Idx) := by
  refine congrArg (V m c main_v8) (funext fun a => Fin.ext ?_)
  match a with
  | ⟨0, _⟩ =>
    show win0_4.index t 0 * 1 + 1 * r.val = r.val
    rw [(at4 t).1]; ring
  | ⟨1, _⟩ =>
    show win0_4.index t 1 * 128 + 1 * k.val = k.val
    rw [(at4 t).2]; ring

theorem block5 (c : Dev nD) (t : Fin cfg0.N) (r : Fin 1) (k : Fin 128) : (iblk m c 5 t : S1x128.Idx → EReal) (ix2 r k)
    = V m c main_v9 (ix2 r k : S1x128.Idx) := by
  refine congrArg (V m c main_v9) (funext fun a => Fin.ext ?_)
  match a with
  | ⟨0, _⟩ =>
    show win0_5.index t 0 * 1 + 1 * r.val = r.val
    rw [(at5 t).1]; ring
  | ⟨1, _⟩ =>
    show win0_5.index t 1 * 128 + 1 * k.val = k.val
    rw [(at5 t).2]; ring

theorem block6 (c : Dev nD) (t : Fin cfg0.N) (r : Fin 1) (k : Fin 512) : (iblk m c 6 t : S1x512.Idx → EReal) (ix2 r k)
    = V m c main_v10 (ix2 r k : S1x512.Idx) := by
  refine congrArg (V m c main_v10) (funext fun a => Fin.ext ?_)
  match a with
  | ⟨0, _⟩ =>
    show win0_6.index t 0 * 1 + 1 * r.val = r.val
    rw [(at6 t).1]; ring
  | ⟨1, _⟩ =>
    show win0_6.index t 1 * 512 + 1 * k.val = k.val
    rw [(at6 t).2]; ring

theorem block7 (c : Dev nD) (t : Fin cfg0.N) (r : Fin 1) (k : Fin 512) : (iblk m c 7 t : S1x512.Idx → EReal) (ix2 r k)
    = V m c main_v11 (ix2 r k : S1x512.Idx) := by
  refine congrArg (V m c main_v11) (funext fun a => Fin.ext ?_)
  match a with
  | ⟨0, _⟩ =>
    show win0_7.index t 0 * 1 + 1 * r.val = r.val
    rw [(at7 t).1]; ring
  | ⟨1, _⟩ =>
    show win0_7.index t 1 * 512 + 1 * k.val = k.val
    rw [(at7 t).2]; ring

theorem block8 (c : Dev nD) (t : Fin cfg0.N) (r : Fin 512) (k : Fin 128) : (iblk m c 8 t : S512x128.Idx → EReal) (ix2 r k)
    = V m c main_v1 (ix2 (lift t r) k : S16384x128.Idx) := by
  refine congrArg (V m c main_v1) (funext fun a => Fin.ext ?_)
  match a with
  | ⟨0, _⟩ =>
    show win0_8.index t 0 * 512 + 1 * r.val = 512 * t.val + r.val
    rw [(at8 t).1]; ring
  | ⟨1, _⟩ =>
    show win0_8.index t 1 * 128 + 1 * k.val = k.val
    rw [(at8 t).2]; ring

theorem block9 (c : Dev nD) (t : Fin cfg0.N) (r : Fin 512) (k : Fin 128) : (iblk m c 9 t : S512x128.Idx → EReal) (ix2 r k)
    = V m c main_v6 (ix2 (lift t r) k : S16384x128.Idx) := by
  refine congrArg (V m c main_v6) (funext fun a => Fin.ext ?_)
  match a with
  | ⟨0, _⟩ =>
    show win0_9.index t 0 * 512 + 1 * r.val = 512 * t.val + r.val
    rw [(at9 t).1]; ring
  | ⟨1, _⟩ =>
    show win0_9.index t 1 * 128 + 1 * k.val = k.val
    rw [(at9 t).2]; ring

/-- Where the result's block lies in its array. -/
theorem mem_block10 (t : Fin cfg0.N) (i : S16384x6144.Idx) : i ∈ ((cfg0.win 10).blk t).view.set ↔
    (512 * t.val ≤ (i 0).val ∧ (i 0).val < 512 * t.val + 512) ∧ 0 ≤ (i 1).val ∧ (i 1).val < 6144 := by
  show i ∈ ((View.whole main_v12).slice (win0_10.rect t)).set ↔ _
  rw [View.set_slice_whole, Rect.mem_set_unit]
  refine Fin.forall_fin_two.trans (and_congr ?_ ?_)
  · show win0_10.index t 0 * 512 ≤ (i 0).val ∧ (i 0).val < win0_10.index t 0 * 512 + 512 ↔ _
    rw [(at10 t).1]; constructor <;> intro h <;> omega
  · show win0_10.index t 1 * 6144 ≤ (i 1).val ∧ (i 1).val < win0_10.index t 1 * 6144 + 6144 ↔ _
    rw [(at10 t).2]

/-- The blocks of all points are the whole array. -/
theorem cover10 (i : S16384x6144.Idx) : ∃ t : Fin cfg0.N, (cfg0.win 10).flush t = true ∧ i ∈ ((cfg0.win 10).blk t).view.set := by
  have h0 : (i 0).val < 16384 := (i 0).isLt
  have h1 : (i 1).val < 6144 := (i 1).isLt
  refine ⟨⟨(i 0).val / 512, lt_of_lt_of_eq (by omega) N_0.symm⟩, flush0_10 _, (mem_block10 _ i).mpr ?_⟩
  dsimp only
  omega

/-- What the reference computes of the call's arguments. -/
def target (c : Dev nD) : FVec Ideal S16384x6144 .bf16 :=
  Ref.out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9))

/-- What a point's body leaves is its block of the reference. -/
theorem block_eq (c : Dev nD) (t : Fin cfg0.N) (r : Fin 512) (j : Fin 6144) :
    outsAt0 m c t (ix2 r j : S512x6144.Idx) = target m c (ix2 (lift t r) j) := by
  unfold target
  rw [outs_eq, made_apply _ _ _ _ _ _ _ _ _ _
    (fun r i => m ((c : Thread nD τ).loc main_arg8) (ix2 (lift t r) i : S16384x64.Idx))
    (fun r i => m ((c : Thread nD τ).loc main_arg9) (ix2 (lift t r) i : S16384x64.Idx))
    (fun r d => (wholeTable_apply _ _ _).trans ((block8 m c t r d).trans (V_cos m c _ d)))
    (fun r d => (wholeTable_apply _ _ _).trans ((block9 m c t r d).trans (V_sin m c _ d))) (ix2 r j)]
  refine Eq.trans ?_ (Ref.out_apply _ _ _ _ _ _ _ _ _ _ _ _).symm
  unfold rowOf
  refine row_congr (fun k => ?_) (fun k j => (block3 m c t k j).trans (V_weight m c k j))
    (fun d => (wholeGain_apply _ _).trans ((block4 m c t 0 d).trans (V_queryGain m c d)))
    (fun d => (wholeGain_apply _ _).trans ((block5 m c t 0 d).trans (V_keyGain m c d)))
    (fun k => (wholeAffine_apply _ _).trans ((block6 m c t 0 k).trans (V_gain m c k)))
    (fun k => (wholeAffine_apply _ _).trans ((block7 m c t 0 k).trans (V_offset m c k)))
    (fun _ => rfl) (fun _ => rfl) j
  refine (mods_apply _ _ _ r k).trans ?_
  have e : ∀ {x x' p p' q q' : Fin 1024 → EReal}, (∀ k, x k = x' k) → (∀ k, p k = p' k) → (∀ k, q k = q' k) →
      Ffn.modulated x p q k = Ffn.modulated x' p' q' k := fun hx hp hq => by rw [funext hx, funext hp, funext hq]
  refine e (fun k => ?_) (fun k => ?_) (fun k => ?_)
  · exact (wholeRows_apply _ _ _).trans ((block0 m c t r k).trans (congrFun (V_main_arg0 m c) _))
  · exact (wholeOne_apply _ _).trans ((block1 m c t 0 k).trans (congrFun (V_main_arg1 m c) _))
  · exact (wholeOne_apply _ _).trans ((block2 m c t 0 k).trans (congrFun (V_main_arg2 m c) _))

/-- The output array is the reference of the arguments. -/
theorem out_eq (c : Dev nD) : (dats m 0 c).arrAt 10 cfg0.N = target m c := by
  refine (dats m 0 c).arrAt_eq_of_cover 10 (target m c) (fun t _ => ?_) cover10
  rw [Value.flushed10]
  funext y
  refine Eq.trans rfl (((congrArg (outsAt0 m c t) (eq_ix2 y)).trans (block_eq m c t (y 0) (y 1))).trans (congrArg (target m c) (funext fun a => Fin.ext ?_)))
  match a with
  | ⟨0, _⟩ =>
    show 512 * t.val + (y 0).val = win0_10.index t 0 * 512 + 1 * (y 0).val
    rw [(at10 t).1]; ring
  | ⟨1, _⟩ =>
    show (y 1).val = win0_10.index t 1 * 6144 + 1 * (y 1).val
    rw [(at10 t).2]; ring

end

/-! ## The frames -/

/-- The two programs' bodies are one table: at the only label both run the same function. -/
theorem bodies_eq : Kernel3.defs₀ (F := Bits) = Kernel3Ideal.defs₀ (F := Bits) := by
  refine congrArg Defs.onTc (funext fun ℓ => ?_)
  match ℓ with
  | ⟨0, _⟩ => exact funext fun ⟨_, _⟩ => rfl

/-- So the tables with their pipelines are one. -/
theorem tables_eq : Kernel3.defs (F := Bits) = Kernel3Ideal.defs (F := Bits) :=
  congrArg (Pipeline.defs Kernel3Ideal.pcfgs) bodies_eq

/-- The frame of the call at its own floats. -/
theorem frame_kernel : Cert.quiescent_Kernel3 := fun m ρ _ => by
  rw [tables_eq]
  exact Kernel3Ideal.Gen.frame (F := Bits) m ρ

/-- The frame of the idealized call. -/
theorem frame_ideal : Cert.quiescent_Kernel3Ideal := fun m ρ _ => Kernel3Ideal.Gen.frame m ρ

/-! ## The value -/

/-- From equal arguments the call and the reference end with equal results. -/
theorem algebraic : Cert.algebraic_Kernel3Ideal_Reference3Ideal := fun m g m' g' _ heq =>
  ⟨target m, (θ_run _ _ _).mono (fun r h c => ⟨((h c).1).trans (out_eq m c), (h c).2⟩) (Kernel3Ideal.Value.run_blocks m g),
    (θ_run _ _ _).mono (fun r h c => ⟨((h c).1).trans (by
      obtain ⟨h0, h1, h2, h3, h4, h5, h6, h7, h8, h9⟩ := heq c
      rw [h0, h1, h2, h3, h4, h5, h6, h7, h8, h9]
      rfl), (h c).2⟩) (Ref.run m' g')⟩

end Cert.In

end
-- ==== Proof.MergeRow.lean ====
/-
  The mathematics of one row of the merge, over the extended reals: the spatial mixing of a chunk of 128 rows, the gated sum of
  the three branches' products, and the norm of the residual.
-/
module

public import proofs.«01_k».proof.Proof.FfnRow

@[expose] public section

noncomputable section

namespace Cert.Merge

open Idealize.ShloMosaic

/-- The group of 64 channels a channel lies in. -/
abbrev group (i : Fin 512) : Fin 8 := ⟨i.val / 64, by omega⟩

/-- A row's place in its chunk of 128 rows. -/
abbrev place (r : Fin 16384) : Fin 128 := ⟨r.val % 128, by omega⟩

/-- Row `q` of the chunk row `r` lies in. -/
abbrev chunkRow (r : Fin 16384) (q : Fin 128) : Fin 16384 := ⟨128 * (r.val / 128) + q.val, by omega⟩

/-- Where in the projection's columns the gating ones, the mixed ones and the gates lie. -/
abbrev colU (i : Fin 512) : Fin 6144 := ⟨1536 + i.val, by omega⟩
abbrev colV (i : Fin 512) : Fin 6144 := ⟨2048 + i.val, by omega⟩
abbrev colG (i : Fin 3072) : Fin 6144 := ⟨3072 + i.val, by omega⟩

/-- A place's mix of its chunk, and its bias. -/
def spatial (w v : Fin 128 → EReal) (b : EReal) : EReal := ∑ q, w q * v q + b

/-- The three branches' products, each times its gate. -/
def merged (a : Fin 1024 → EReal) (s f : Fin 512 → EReal) (g : Fin 3072 → EReal) (wa : Fin 1024 → Fin 1024 → EReal)
    (ws wf : Fin 512 → Fin 1024 → EReal) (j : Fin 1024) : EReal :=
  g ⟨j.val, by omega⟩ * ∑ i, a i * wa i j + g ⟨1024 + j.val, by omega⟩ * ∑ i, s i * ws i j
    + g ⟨2048 + j.val, by omega⟩ * ∑ i, f i * wf i j

/-- The row with the product of the merged branches added. -/
def residual (x gate y : Fin 1024 → EReal) (wo : Fin 1024 → Fin 1024 → EReal) (k : Fin 1024) : EReal :=
  Ideal.ofBits .f32 0x3FB504F3#32 * x k + gate k * ∑ j, y j * wo j k

/-- The whole row: the norm of the residual, scaled and shifted. -/
def row (a : Fin 1024 → EReal) (s f : Fin 512 → EReal) (g : Fin 3072 → EReal) (x : Fin 1024 → EReal) (wa : Fin 1024 → Fin 1024 → EReal)
    (ws wf : Fin 512 → Fin 1024 → EReal) (wo : Fin 1024 → Fin 1024 → EReal) (gate lg lb : Fin 1024 → EReal) (k : Fin 1024) : EReal :=
  Ffn.norm (residual x gate (merged a s f g wa ws wf) wo) k * lg k + lb k

/-- Equal rows and weights make equal rows. -/
theorem row_congr {a a' : Fin 1024 → EReal} {s s' f f' : Fin 512 → EReal} {g g' : Fin 3072 → EReal} {x x' : Fin 1024 → EReal}
    {wa wa' : Fin 1024 → Fin 1024 → EReal} {ws ws' wf wf' : Fin 512 → Fin 1024 → EReal} {wo wo' : Fin 1024 → Fin 1024 → EReal}
    {gate gate' lg lg' lb lb' : Fin 1024 → EReal} (ha : ∀ k, a k = a' k) (hs : ∀ i, s i = s' i) (hf : ∀ i, f i = f' i)
    (hg : ∀ i, g i = g' i) (hx : ∀ k, x k = x' k) (hwa : ∀ k j, wa k j = wa' k j) (hws : ∀ k j, ws k j = ws' k j)
    (hwf : ∀ k j, wf k j = wf' k j) (hwo : ∀ k j, wo k j = wo' k j) (hgate : ∀ k, gate k = gate' k) (hlg : ∀ k, lg k = lg' k)
    (hlb : ∀ k, lb k = lb' k) (k : Fin 1024) :
    row a s f g x wa ws wf wo gate lg lb k = row a' s' f' g' x' wa' ws' wf' wo' gate' lg' lb' k := by
  rw [funext ha, funext hs, funext hf, funext hg, funext hx, funext fun k => funext (hwa k), funext fun k => funext (hws k),
    funext fun k => funext (hwf k), funext fun k => funext (hwo k), funext hgate, funext hlg, funext hlb]

end Cert.Merge

end
-- ==== Proof.MergeKernel.lean ====
/-
  The merge's body over the extended reals: the sixteen tiles of gated columns it makes of a block of 512 rows are one function of
  the block, read here at an element, and so is the block of the result it makes of them.
-/
module

public import proofs.«01_k».proof.Proof.MergeRow
public import proofs.«01_k».proof.Proof.InKernel
public import proofs.«01_k».proof.Proof.Gen.Kernel4Ideal.Value
public import Idealize.ShloMosaic.Lib.Pointwise
public import Idealize.ShloMosaic.Lib.KernelVsHost
public import Idealize.ShloMosaic.Lib.Pipeline.ValueKit
public import Idealize.ShloMosaic.Lib.StableHlo.RunRead

@[expose] public section

noncomputable section

namespace Cert.Merge

open Cert.Kernel4Ideal Cert.Kernel4Ideal.Gen
open Idealize.ShloMosaic Idealize.ShloMosaic.TcCoe Idealize.ShloMosaic.StableHlo

/-- A block of rows, in the two widths of its numbers; half of one; a tile of it. -/
abbrev Block := FVec Ideal S512x1024 .f32
abbrev Short := FVec Ideal S512x1024 .bf16
abbrev Half := FVec Ideal S512x512 .bf16
abbrev Tile := FVec Ideal S128x128 .bf16
/-- One row for all rows. -/
abbrev One := FVec Ideal S1x1024 .f32

/-! ## A tile of the gated columns -/

/-- The mixes of 128 columns by the weights of their two groups, one group's above the other's. -/
def both (w : FVec Ideal S1x256x128 .bf16) (v : Tile) : FVec Ideal S256x128 .f32 :=
  matmul dot_S256x128_S128x128_S256x128_1_0_0_1_n_n none (shapeCast S256x128 w shapeCasts_S1x256x128_S256x128) v
    (constant S256x128 .f32 0x00000000#32)

/-- Where the column is of the first group. -/
def firsts : IVec S128x128 1 := cmpi .slt (iota .tc S128x128 32 [1] iota_S128x128_d1_w32) (broadcast S128x128 64#32)

/-- The tile: each column's own group of the two, its bias added, times the column it gates. -/
def tile (w : FVec Ideal S1x256x128 .bf16) (v : Tile) (b : FVec Ideal S128x128 .f32) (u : Tile) : Tile :=
  shapeCast S128x128 (truncf .bf16 (mulf (extf .f32 u bitsLt_bf16_f32) (addf (select firsts
    (extractStridedSlice S128x128 ![0, 0] (both w v) slices_S256x128_o0_0_S128x128)
    (extractStridedSlice S128x128 ![128, 0] (both w v) slices_S256x128_o128_0_S128x128))
    (shapeCast S128x128 b shapeCasts_S128x128_S128x128))) bitsLt_bf16_f32 : Tile) shapeCasts_S128x128_S128x128

theorem both_apply (w : FVec Ideal S1x256x128 .bf16) (v : Tile) (p : Fin 256) (l : Fin 128) :
    both w v (ix2 p l) = ∑ q : Fin 128, w (ix3 0 p q) * v (ix2 q l) := by
  pointwise [both]

theorem firsts_apply (p l : Fin 128) : firsts (ix2 p l) = if l.val < 64 then 1#1 else 0#1 := by
  have e : ∀ l : Fin 128, IntOp.cmpi .slt (BitVec.ofNat 32 l.val) 64#32 = if l.val < 64 then 1#1 else 0#1 := by
    decide
  have n : iota .tc S128x128 32 [1] iota_S128x128_d1_w32 (ix2 p l) = BitVec.ofNat 32 l.val := by
    simp [iota]
  rw [← e l, ← n]
  rfl

/-- The row of the two groups' weights that mixes column `l` for place `p`. -/
abbrev under (p l : Fin 128) : Fin 256 := ⟨128 * (l.val / 64) + p.val, by omega⟩

theorem tile_apply (w : FVec Ideal S1x256x128 .bf16) (v : Tile) (b : FVec Ideal S128x128 .f32) (u : Tile) (p l : Fin 128) :
    tile w v b u (ix2 p l) = u (ix2 p l) * spatial (fun q => w (ix3 0 (under p l) q)) (fun q => v (ix2 q l)) (b (ix2 p l)) := by
  have e : tile w v b u (ix2 p l) = u (ix2 p l) * ((if firsts (ix2 p l) = 1#1 then both w v (ix2 (⟨p.val, by omega⟩ : Fin 256) l)
      else both w v (ix2 (⟨128 + p.val, by omega⟩ : Fin 256) l)) + b (ix2 p l)) := by
    pointwise [tile]
    rfl
  rw [e, firsts_apply]
  unfold spatial
  rw [← both_apply w v (under p l) l]
  by_cases h : l.val < 64
  · rw [if_pos h, if_pos rfl]
    refine congrArg (fun a => u (ix2 p l) * (both w v (ix2 a l) + b (ix2 p l))) (Fin.ext ?_)
    show p.val = 128 * (l.val / 64) + p.val
    omega
  · rw [if_neg h, if_neg (by decide)]
    refine congrArg (fun a => u (ix2 p l) * (both w v (ix2 a l) + b (ix2 p l))) (Fin.ext ?_)
    show 128 + p.val = 128 * (l.val / 64) + p.val
    omega

/-! ## The sixteen tiles are one block -/

section
variable (G : S512x512.Idx → EReal)

/-- A tile at row `p` and column `o` has the values of one function there. -/
def Fits (p o : ℕ) (hp : p + 128 ≤ 512) (ho : o + 128 ≤ 512) (x : Tile) : Prop :=
  ∀ (r i : Fin 128), x (ix2 r i) = G (ix2 (⟨p + r.val, by omega⟩ : Fin 512) (⟨o + i.val, by omega⟩ : Fin 512))

theorem part (p o : ℕ) (hp : p + 128 ≤ 512) (ho : o + 128 ≤ 512) (inb) (x : Tile) (hx : Fits G p o hp ho x)
    (i : (Rect.unit (s := S512x512) ![p, o] S128x128.size inb).shape.Idx) :
    x i = G ((Rect.unit (s := S512x512) ![p, o] S128x128.size inb).idx i) := by
  refine ((congrArg x (eq_ix2 i)).trans (hx (i 0) (i 1))).trans (congrArg G (funext fun a => Fin.ext ?_))
  match a with
  | ⟨0, _⟩ => exact (Rect.idx_unit_val (s := S512x512) ![p, o] S128x128.size inb i 0).symm
  | ⟨1, _⟩ => exact (Rect.idx_unit_val (s := S512x512) ![p, o] S128x128.size inb i 1).symm

/-- Sixteen tiles, each of the values of one function at its place, are that function. -/
theorem canon_tiles (t33 t32 t31 t30 t23 t22 t21 t20 t13 t12 t11 t10 t03 t02 t01 t00 : Tile)
    (h33 : Fits G 384 384 (by decide) (by decide) t33)
    (h32 : Fits G 384 256 (by decide) (by decide) t32)
    (h31 : Fits G 384 128 (by decide) (by decide) t31)
    (h30 : Fits G 384 0 (by decide) (by decide) t30)
    (h23 : Fits G 256 384 (by decide) (by decide) t23)
    (h22 : Fits G 256 256 (by decide) (by decide) t22)
    (h21 : Fits G 256 128 (by decide) (by decide) t21)
    (h20 : Fits G 256 0 (by decide) (by decide) t20)
    (h13 : Fits G 128 384 (by decide) (by decide) t13)
    (h12 : Fits G 128 256 (by decide) (by decide) t12)
    (h11 : Fits G 128 128 (by decide) (by decide) t11)
    (h10 : Fits G 128 0 (by decide) (by decide) t10)
    (h03 : Fits G 0 384 (by decide) (by decide) t03)
    (h02 : Fits G 0 256 (by decide) (by decide) t02)
    (h01 : Fits G 0 128 (by decide) (by decide) t01)
    (h00 : Fits G 0 0 (by decide) (by decide) t00)
    (y : S512x512.Idx) :
    View.canon (Val := Elt Ideal) (e := .bf16) [⟨Rect.unit (s := S512x512) ![384, 384] S128x128.size inb_S512x512_S128x128_384_384, t33⟩,
      ⟨Rect.unit (s := S512x512) ![384, 256] S128x128.size inb_S512x512_S128x128_384_256, t32⟩,
      ⟨Rect.unit (s := S512x512) ![384, 128] S128x128.size inb_S512x512_S128x128_384_128, t31⟩,
      ⟨Rect.unit (s := S512x512) ![384, 0] S128x128.size inb_S512x512_S128x128_384_0, t30⟩,
      ⟨Rect.unit (s := S512x512) ![256, 384] S128x128.size inb_S512x512_S128x128_256_384, t23⟩,
      ⟨Rect.unit (s := S512x512) ![256, 256] S128x128.size inb_S512x512_S128x128_256_256, t22⟩,
      ⟨Rect.unit (s := S512x512) ![256, 128] S128x128.size inb_S512x512_S128x128_256_128, t21⟩,
      ⟨Rect.unit (s := S512x512) ![256, 0] S128x128.size inb_S512x512_S128x128_256_0, t20⟩,
      ⟨Rect.unit (s := S512x512) ![128, 384] S128x128.size inb_S512x512_S128x128_128_384, t13⟩,
      ⟨Rect.unit (s := S512x512) ![128, 256] S128x128.size inb_S512x512_S128x128_128_256, t12⟩,
      ⟨Rect.unit (s := S512x512) ![128, 128] S128x128.size inb_S512x512_S128x128_128_128, t11⟩,
      ⟨Rect.unit (s := S512x512) ![128, 0] S128x128.size inb_S512x512_S128x128_128_0, t10⟩,
      ⟨Rect.unit (s := S512x512) ![0, 384] S128x128.size inb_S512x512_S128x128_0_384, t03⟩,
      ⟨Rect.unit (s := S512x512) ![0, 256] S128x128.size inb_S512x512_S128x128_0_256, t02⟩,
      ⟨Rect.unit (s := S512x512) ![0, 128] S128x128.size inb_S512x512_S128x128_0_128, t01⟩,
      ⟨Rect.unit (s := S512x512) ![0, 0] S128x128.size inb_S512x512_S128x128_0_0, t00⟩] y = G y := by
  refine View.canon_apply_of_pieces (Val := Elt Ideal) (e := .bf16) G _ ?_ y (View.cover_of_tiledBy _ ![128, 128] (by sl_kernel_rfl) y)
  simp only [List.forall_mem_cons, List.not_mem_nil, false_imp_iff, implies_true, and_true]
  exact ⟨part G 384 384 (by decide) (by decide) inb_S512x512_S128x128_384_384 t33 h33,
    part G 384 256 (by decide) (by decide) inb_S512x512_S128x128_384_256 t32 h32,
    part G 384 128 (by decide) (by decide) inb_S512x512_S128x128_384_128 t31 h31,
    part G 384 0 (by decide) (by decide) inb_S512x512_S128x128_384_0 t30 h30,
    part G 256 384 (by decide) (by decide) inb_S512x512_S128x128_256_384 t23 h23,
    part G 256 256 (by decide) (by decide) inb_S512x512_S128x128_256_256 t22 h22,
    part G 256 128 (by decide) (by decide) inb_S512x512_S128x128_256_128 t21 h21,
    part G 256 0 (by decide) (by decide) inb_S512x512_S128x128_256_0 t20 h20,
    part G 128 384 (by decide) (by decide) inb_S512x512_S128x128_128_384 t13 h13,
    part G 128 256 (by decide) (by decide) inb_S512x512_S128x128_128_256 t12 h12,
    part G 128 128 (by decide) (by decide) inb_S512x512_S128x128_128_128 t11 h11,
    part G 128 0 (by decide) (by decide) inb_S512x512_S128x128_128_0 t10 h10,
    part G 0 384 (by decide) (by decide) inb_S512x512_S128x128_0_384 t03 h03,
    part G 0 256 (by decide) (by decide) inb_S512x512_S128x128_0_256 t02 h02,
    part G 0 128 (by decide) (by decide) inb_S512x512_S128x128_0_128 t01 h01,
    part G 0 0 (by decide) (by decide) inb_S512x512_S128x128_0_0 t00 h00⟩

end

section
variable (u v : Vec Ideal S512x512 .bf16) (w : Vec Ideal S4x256x128 .bf16) (b : Vec Ideal S128x512 .f32)

/-- The two groups' weights number `n`. -/
def pair (n : ℕ) (inb : ∀ a, (![n, 0, 0] : Fin 3 → ℕ) a + S1x256x128.size a ≤ S4x256x128.size a) : FVec Ideal S1x256x128 .bf16 :=
  View.ld (Val := Elt Ideal) (e' := .bf16) w (Rect.unit (s := S4x256x128) ![n, 0, 0] S1x256x128.size inb)

/-- A tile of a block. -/
def tileOf (x : Vec Ideal S512x512 .bf16) (p o : ℕ) (inb : ∀ a, (![p, o] : Fin 2 → ℕ) a + S128x128.size a ≤ S512x512.size a) : Tile :=
  View.ld (Val := Elt Ideal) (e' := .bf16) x (Rect.unit (s := S512x512) ![p, o] S128x128.size inb)

/-- The biases of the columns from `o`. -/
def bias (o : ℕ) (inb : ∀ a, (![0, o] : Fin 2 → ℕ) a + S128x128.size a ≤ S128x512.size a) : FVec Ideal S128x128 .f32 :=
  View.ld (Val := Elt Ideal) (e' := .f32) b (Rect.unit (s := S128x512) ![0, o] S128x128.size inb)

theorem pair_apply (n : ℕ) (inb) (h : n < 4) (p : Fin 256) (q : Fin 128) : pair w n inb (ix3 0 p q) = w (ix3 (⟨n, h⟩ : Fin 4) p q) :=
  View.ld_unit_apply_of (Val := Elt Ideal) (e := .bf16) w _ _ _ _ _ (fun a => by
    match a with
    | ⟨0, _⟩ => rfl
    | ⟨1, _⟩ => exact (Nat.zero_add _).symm
    | ⟨2, _⟩ => exact (Nat.zero_add _).symm)

theorem tileOf_apply (x : Vec Ideal S512x512 .bf16) (p o : ℕ) (inb) (hp : p + 128 ≤ 512) (ho : o + 128 ≤ 512) (r i : Fin 128) :
    tileOf x p o inb (ix2 r i) = x (ix2 (⟨p + r.val, by omega⟩ : Fin 512) (⟨o + i.val, by omega⟩ : Fin 512)) :=
  View.ld_unit_apply_of (Val := Elt Ideal) (e := .bf16) x _ _ _ _ _ (Fin.forall_fin_two.mpr ⟨rfl, rfl⟩)

theorem bias_apply (o : ℕ) (inb) (ho : o + 128 ≤ 512) (r i : Fin 128) :
    bias b o inb (ix2 r i) = b (ix2 r (⟨o + i.val, by omega⟩ : Fin 512)) :=
  View.ld_unit_apply_of (Val := Elt Ideal) (e := .f32) b _ _ _ _ _ (Fin.forall_fin_two.mpr ⟨(Nat.zero_add _).symm, rfl⟩)

/-- The two groups that column `i` is of, its row of their weights, its place, and row `q` of its chunk, in a block. -/
abbrev couple (i : Fin 512) : Fin 4 := ⟨i.val / 128, by omega⟩
abbrev within (r i : Fin 512) : Fin 256 := ⟨128 * (i.val % 128 / 64) + r.val % 128, by omega⟩
abbrev spot (r : Fin 512) : Fin 128 := ⟨r.val % 128, by omega⟩
abbrev peer (r : Fin 512) (q : Fin 128) : Fin 512 := ⟨128 * (r.val / 128) + q.val, by omega⟩

/-- The gated columns of a block, at an element. -/
def gatedAt (r i : Fin 512) : EReal :=
  u (ix2 r i) * spatial (fun q => w (ix3 (couple i) (within r i) q)) (fun q => v (ix2 (peer r q) i)) (b (ix2 (spot r) i))

theorem fits_tile (n c o p : ℕ) (ho : o = 128 * n) (hp : p = 128 * c) (hn : n < 4) (hc : c < 4) (inb inb' inb'') (bp : p + 128 ≤ 512)
    (bo : o + 128 ≤ 512) : Fits (fun y => gatedAt u v w b (y 0) (y 1)) p o bp bo
      (tile (pair w n inb) (tileOf v p o inb') (bias b o inb'') (tileOf u p o inb')) := fun r i => by
  rw [tile_apply]
  simp only [pair_apply w n inb hn, tileOf_apply _ p o inb' bp bo, bias_apply b o inb'' bo]
  have e1 : couple (⟨o + i.val, by omega⟩ : Fin 512) = ⟨n, hn⟩ := Fin.ext (by
    show (o + i.val) / 128 = n
    omega)
  have e2 : within (⟨p + r.val, by omega⟩ : Fin 512) (⟨o + i.val, by omega⟩ : Fin 512) = under r i := Fin.ext (by
    show 128 * ((o + i.val) % 128 / 64) + (p + r.val) % 128 = 128 * (i.val / 64) + r.val
    omega)
  have e3 : spot (⟨p + r.val, by omega⟩ : Fin 512) = r := Fin.ext (by
    show (p + r.val) % 128 = r.val
    omega)
  have e4 : ∀ q : Fin 128, peer (⟨p + r.val, by omega⟩ : Fin 512) q = (⟨p + q.val, by omega⟩ : Fin 512) := fun q => Fin.ext (by
    show 128 * ((p + r.val) / 128) + q.val = p + q.val
    omega)
  show _ = gatedAt u v w b (⟨p + r.val, by omega⟩ : Fin 512) (⟨o + i.val, by omega⟩ : Fin 512)
  unfold gatedAt
  rw [e1, e2, e3]
  simp only [e4]

/-- The gated columns of a block, of its sixteen tiles. -/
def gatedBlock : Vec Ideal S512x512 .bf16 :=
  View.canon (Val := Elt Ideal) (e := .bf16) [⟨Rect.unit (s := S512x512) ![384, 384] S128x128.size inb_S512x512_S128x128_384_384,
        tile (pair w 3 inb_S4x256x128_S1x256x128_3_0_0) (tileOf v 384 384 inb_S512x512_S128x128_384_384)
          (bias b 384 inb_S128x512_S128x128_0_384) (tileOf u 384 384 inb_S512x512_S128x128_384_384)⟩,
      ⟨Rect.unit (s := S512x512) ![384, 256] S128x128.size inb_S512x512_S128x128_384_256,
        tile (pair w 2 inb_S4x256x128_S1x256x128_2_0_0) (tileOf v 384 256 inb_S512x512_S128x128_384_256)
          (bias b 256 inb_S128x512_S128x128_0_256) (tileOf u 384 256 inb_S512x512_S128x128_384_256)⟩,
      ⟨Rect.unit (s := S512x512) ![384, 128] S128x128.size inb_S512x512_S128x128_384_128,
        tile (pair w 1 inb_S4x256x128_S1x256x128_1_0_0) (tileOf v 384 128 inb_S512x512_S128x128_384_128)
          (bias b 128 inb_S128x512_S128x128_0_128) (tileOf u 384 128 inb_S512x512_S128x128_384_128)⟩,
      ⟨Rect.unit (s := S512x512) ![384, 0] S128x128.size inb_S512x512_S128x128_384_0,
        tile (pair w 0 inb_S4x256x128_S1x256x128_0_0_0) (tileOf v 384 0 inb_S512x512_S128x128_384_0)
          (bias b 0 inb_S128x512_S128x128_0_0) (tileOf u 384 0 inb_S512x512_S128x128_384_0)⟩,
      ⟨Rect.unit (s := S512x512) ![256, 384] S128x128.size inb_S512x512_S128x128_256_384,
        tile (pair w 3 inb_S4x256x128_S1x256x128_3_0_0) (tileOf v 256 384 inb_S512x512_S128x128_256_384)
          (bias b 384 inb_S128x512_S128x128_0_384) (tileOf u 256 384 inb_S512x512_S128x128_256_384)⟩,
      ⟨Rect.unit (s := S512x512) ![256, 256] S128x128.size inb_S512x512_S128x128_256_256,
        tile (pair w 2 inb_S4x256x128_S1x256x128_2_0_0) (tileOf v 256 256 inb_S512x512_S128x128_256_256)
          (bias b 256 inb_S128x512_S128x128_0_256) (tileOf u 256 256 inb_S512x512_S128x128_256_256)⟩,
      ⟨Rect.unit (s := S512x512) ![256, 128] S128x128.size inb_S512x512_S128x128_256_128,
        tile (pair w 1 inb_S4x256x128_S1x256x128_1_0_0) (tileOf v 256 128 inb_S512x512_S128x128_256_128)
          (bias b 128 inb_S128x512_S128x128_0_128) (tileOf u 256 128 inb_S512x512_S128x128_256_128)⟩,
      ⟨Rect.unit (s := S512x512) ![256, 0] S128x128.size inb_S512x512_S128x128_256_0,
        tile (pair w 0 inb_S4x256x128_S1x256x128_0_0_0) (tileOf v 256 0 inb_S512x512_S128x128_256_0)
          (bias b 0 inb_S128x512_S128x128_0_0) (tileOf u 256 0 inb_S512x512_S128x128_256_0)⟩,
      ⟨Rect.unit (s := S512x512) ![128, 384] S128x128.size inb_S512x512_S128x128_128_384,
        tile (pair w 3 inb_S4x256x128_S1x256x128_3_0_0) (tileOf v 128 384 inb_S512x512_S128x128_128_384)
          (bias b 384 inb_S128x512_S128x128_0_384) (tileOf u 128 384 inb_S512x512_S128x128_128_384)⟩,
      ⟨Rect.unit (s := S512x512) ![128, 256] S128x128.size inb_S512x512_S128x128_128_256,
        tile (pair w 2 inb_S4x256x128_S1x256x128_2_0_0) (tileOf v 128 256 inb_S512x512_S128x128_128_256)
          (bias b 256 inb_S128x512_S128x128_0_256) (tileOf u 128 256 inb_S512x512_S128x128_128_256)⟩,
      ⟨Rect.unit (s := S512x512) ![128, 128] S128x128.size inb_S512x512_S128x128_128_128,
        tile (pair w 1 inb_S4x256x128_S1x256x128_1_0_0) (tileOf v 128 128 inb_S512x512_S128x128_128_128)
          (bias b 128 inb_S128x512_S128x128_0_128) (tileOf u 128 128 inb_S512x512_S128x128_128_128)⟩,
      ⟨Rect.unit (s := S512x512) ![128, 0] S128x128.size inb_S512x512_S128x128_128_0,
        tile (pair w 0 inb_S4x256x128_S1x256x128_0_0_0) (tileOf v 128 0 inb_S512x512_S128x128_128_0)
          (bias b 0 inb_S128x512_S128x128_0_0) (tileOf u 128 0 inb_S512x512_S128x128_128_0)⟩,
      ⟨Rect.unit (s := S512x512) ![0, 384] S128x128.size inb_S512x512_S128x128_0_384,
        tile (pair w 3 inb_S4x256x128_S1x256x128_3_0_0) (tileOf v 0 384 inb_S512x512_S128x128_0_384)
          (bias b 384 inb_S128x512_S128x128_0_384) (tileOf u 0 384 inb_S512x512_S128x128_0_384)⟩,
      ⟨Rect.unit (s := S512x512) ![0, 256] S128x128.size inb_S512x512_S128x128_0_256,
        tile (pair w 2 inb_S4x256x128_S1x256x128_2_0_0) (tileOf v 0 256 inb_S512x512_S128x128_0_256)
          (bias b 256 inb_S128x512_S128x128_0_256) (tileOf u 0 256 inb_S512x512_S128x128_0_256)⟩,
      ⟨Rect.unit (s := S512x512) ![0, 128] S128x128.size inb_S512x512_S128x128_0_128,
        tile (pair w 1 inb_S4x256x128_S1x256x128_1_0_0) (tileOf v 0 128 inb_S512x512_S128x128_0_128)
          (bias b 128 inb_S128x512_S128x128_0_128) (tileOf u 0 128 inb_S512x512_S128x128_0_128)⟩,
      ⟨Rect.unit (s := S512x512) ![0, 0] S128x128.size inb_S512x512_S128x128_0_0,
        tile (pair w 0 inb_S4x256x128_S1x256x128_0_0_0) (tileOf v 0 0 inb_S512x512_S128x128_0_0)
          (bias b 0 inb_S128x512_S128x128_0_0) (tileOf u 0 0 inb_S512x512_S128x128_0_0)⟩]

theorem gatedBlock_apply (r i : Fin 512) : gatedBlock u v w b (ix2 r i) = gatedAt u v w b r i := by
  unfold gatedBlock
  exact canon_tiles (fun y => gatedAt u v w b (y 0) (y 1)) _ _ _ _ _ _ _ _ _ _ _ _ _ _ _ _
    (fits_tile u v w b 3 3 384 384 rfl rfl (by decide) (by decide) _ _ _ _ _)
    (fits_tile u v w b 2 3 256 384 rfl rfl (by decide) (by decide) _ _ _ _ _)
    (fits_tile u v w b 1 3 128 384 rfl rfl (by decide) (by decide) _ _ _ _ _)
    (fits_tile u v w b 0 3 0 384 rfl rfl (by decide) (by decide) _ _ _ _ _)
    (fits_tile u v w b 3 2 384 256 rfl rfl (by decide) (by decide) _ _ _ _ _)
    (fits_tile u v w b 2 2 256 256 rfl rfl (by decide) (by decide) _ _ _ _ _)
    (fits_tile u v w b 1 2 128 256 rfl rfl (by decide) (by decide) _ _ _ _ _)
    (fits_tile u v w b 0 2 0 256 rfl rfl (by decide) (by decide) _ _ _ _ _)
    (fits_tile u v w b 3 1 384 128 rfl rfl (by decide) (by decide) _ _ _ _ _)
    (fits_tile u v w b 2 1 256 128 rfl rfl (by decide) (by decide) _ _ _ _ _)
    (fits_tile u v w b 1 1 128 128 rfl rfl (by decide) (by decide) _ _ _ _ _)
    (fits_tile u v w b 0 1 0 128 rfl rfl (by decide) (by decide) _ _ _ _ _)
    (fits_tile u v w b 3 0 384 0 rfl rfl (by decide) (by decide) _ _ _ _ _)
    (fits_tile u v w b 2 0 256 0 rfl rfl (by decide) (by decide) _ _ _ _ _)
    (fits_tile u v w b 1 0 128 0 rfl rfl (by decide) (by decide) _ _ _ _ _)
    (fits_tile u v w b 0 0 0 0 rfl rfl (by decide) (by decide) _ _ _ _ _)
    (ix2 r i)

end

/-! ## The branches, the residual and the norm -/

/-- The products with square weights, and with half as many. -/
def prods (h : Short) (w : FVec Ideal S1024x1024 .bf16) : Block :=
  matmul dot_S512x1024_S1024x1024_S512x1024_1_0_0_1_n_n none h (shapeCast S1024x1024 w shapeCasts_S1024x1024_S1024x1024)
    (constant S512x1024 .f32 0x00000000#32)
def prods' (h : Half) (w : Short) : Block :=
  matmul dot_S512x512_S512x1024_S512x1024_1_0_0_1_n_n none h (shapeCast S512x1024 w shapeCasts_S512x1024_S512x1024)
    (constant S512x1024 .f32 0x00000000#32)

/-- The sum of the three branches. -/
def mergeds (ga gs gf a : Short) (s : Half) (f : FVec Ideal S512x512 .f32) (wa : FVec Ideal S1024x1024 .bf16) (ws wf : Short) : Short :=
  truncf .bf16 (addf (addf (mulf (extf .f32 ga bitsLt_bf16_f32) (prods a wa)) (mulf (extf .f32 gs bitsLt_bf16_f32) (prods' s ws)))
    (mulf (extf .f32 gf bitsLt_bf16_f32) (prods' (truncf .bf16 f bitsLt_bf16_f32) wf))) bitsLt_bf16_f32

/-- The residuals. -/
def residuals (x : Block) (gate : One) (y : Short) (wo : FVec Ideal S1024x1024 .bf16) : Block :=
  addf (mulf (broadcast S512x1024 (Scalar.ofBits .f32 0x3FB504F3#32)) x) (mulf (broadcastTo S512x1024 gate broadcasts_S1x1024_S512x1024)
    (prods y wo))

/-- The last norms, scaled and shifted. -/
def finals (y : Block) (g b : One) : Block :=
  addf (mulf (In.norms y) (broadcastTo S512x1024 g broadcasts_S1x1024_S512x1024)) (broadcastTo S512x1024 b broadcasts_S1x1024_S512x1024)

theorem prods_apply (h : Short) (w : FVec Ideal S1024x1024 .bf16) (r : Fin 512) (j : Fin 1024) :
    prods h w (ix2 r j) = ∑ k : Fin 1024, h (ix2 r k) * w (ix2 k j) := by
  pointwise [prods]

theorem prods'_apply (h : Half) (w : Short) (r : Fin 512) (j : Fin 1024) :
    prods' h w (ix2 r j) = ∑ k : Fin 512, h (ix2 r k) * w (ix2 k j) := by
  pointwise [prods']

theorem mergeds_apply (ga gs gf a : Short) (s : Half) (f : FVec Ideal S512x512 .f32) (wa : FVec Ideal S1024x1024 .bf16) (ws wf : Short)
    (r : Fin 512) (j : Fin 1024) : mergeds ga gs gf a s f wa ws wf (ix2 r j)
      = ga (ix2 r j) * ∑ k : Fin 1024, a (ix2 r k) * wa (ix2 k j) + gs (ix2 r j) * ∑ k : Fin 512, s (ix2 r k) * ws (ix2 k j)
        + gf (ix2 r j) * ∑ k : Fin 512, f (ix2 r k) * wf (ix2 k j) := by
  rw [← prods_apply, ← prods'_apply]
  refine (show _ = ga (ix2 r j) * prods a wa (ix2 r j) + gs (ix2 r j) * prods' s ws (ix2 r j)
    + gf (ix2 r j) * prods' (truncf .bf16 f bitsLt_bf16_f32) wf (ix2 r j) from rfl).trans ?_
  rw [prods'_apply _ wf]
  rfl

theorem residuals_apply (x : Block) (gate : One) (y : Short) (wo : FVec Ideal S1024x1024 .bf16) (r : Fin 512) (k : Fin 1024) :
    residuals x gate y wo (ix2 r k)
      = residual (fun k => x (ix2 r k)) (fun k => gate (ix2 0 k)) (fun j => y (ix2 r j)) (fun j k => wo (ix2 j k)) k := by
  unfold residual
  rw [← prods_apply]
  pointwise [residuals]

theorem finals_apply (y : Block) (g b : One) (r : Fin 512) (k : Fin 1024) :
    finals y g b (ix2 r k) = Ffn.norm (fun k => y (ix2 r k)) k * g (ix2 0 k) + b (ix2 0 k) := by
  refine Eq.trans ?_ (congrArg (fun e => e * g (ix2 0 k) + b (ix2 0 k)) (In.norms_apply y r k))
  pointwise [finals]

/-! ## What the body leaves -/

/-- The whole of each argument's block. -/
def wholeRows (x : Vec Ideal S512x1024 .f32) : Block :=
  View.ld (Val := Elt Ideal) (e' := .f32) x (Rect.unit (s := S512x1024) ![0, 0] S512x1024.size inb_S512x1024_S512x1024_0_0)
def wholeShort (x : Vec Ideal S512x1024 .bf16) : Short :=
  View.ld (Val := Elt Ideal) (e' := .bf16) x (Rect.unit (s := S512x1024) ![0, 0] S512x1024.size inb_S512x1024_S512x1024_0_0)
def wholeHalf (x : Vec Ideal S512x512 .bf16) : Half :=
  View.ld (Val := Elt Ideal) (e' := .bf16) x (Rect.unit (s := S512x512) ![0, 0] S512x512.size inb_S512x512_S512x512_0_0)
def wholeModes (x : Vec Ideal S512x512 .f32) : FVec Ideal S512x512 .f32 :=
  View.ld (Val := Elt Ideal) (e' := .f32) x (Rect.unit (s := S512x512) ![0, 0] S512x512.size inb_S512x512_S512x512_0_0)
def wholeSquare (x : Vec Ideal S1024x1024 .bf16) : FVec Ideal S1024x1024 .bf16 :=
  View.ld (Val := Elt Ideal) (e' := .bf16) x (Rect.unit (s := S1024x1024) ![0, 0] S1024x1024.size inb_S1024x1024_S1024x1024_0_0)
def wholeOne (x : Vec Ideal S1x1024 .f32) : One :=
  View.ld (Val := Elt Ideal) (e' := .f32) x (Rect.unit (s := S1x1024) ![0, 0] S1x1024.size inb_S1x1024_S1x1024_0_0)
def wholeVec (x : Vec Ideal S1x1024 .f32) : One := shapeCast S1x1024 (wholeOne x) shapeCasts_S1x1024_S1x1024

/-- One branch's gates. -/
def gates (x : Vec Ideal S512x3072 .bf16) (o : ℕ) (inb : ∀ a, (![0, o] : Fin 2 → ℕ) a + S512x1024.size a ≤ S512x3072.size a) : Short :=
  View.ld (Val := Elt Ideal) (e' := .bf16) x (Rect.unit (s := S512x3072) ![0, o] S512x1024.size inb)

theorem wholeRows_apply (x : Vec Ideal S512x1024 .f32) (r : Fin 512) (k : Fin 1024) : wholeRows x (ix2 r k) = x (ix2 r k) :=
  View.ld_unit_apply_of (Val := Elt Ideal) (e := .f32) x _ _ _ _ _ (Fin.forall_fin_two.mpr ⟨(Nat.zero_add _).symm, (Nat.zero_add _).symm⟩)

theorem wholeShort_apply (x : Vec Ideal S512x1024 .bf16) (r : Fin 512) (k : Fin 1024) : wholeShort x (ix2 r k) = x (ix2 r k) :=
  View.ld_unit_apply_of (Val := Elt Ideal) (e := .bf16) x _ _ _ _ _ (Fin.forall_fin_two.mpr ⟨(Nat.zero_add _).symm, (Nat.zero_add _).symm⟩)

theorem wholeHalf_apply (x : Vec Ideal S512x512 .bf16) (r : Fin 512) (k : Fin 512) : wholeHalf x (ix2 r k) = x (ix2 r k) :=
  View.ld_unit_apply_of (Val := Elt Ideal) (e := .bf16) x _ _ _ _ _ (Fin.forall_fin_two.mpr ⟨(Nat.zero_add _).symm, (Nat.zero_add _).symm⟩)

theorem wholeModes_apply (x : Vec Ideal S512x512 .f32) (r : Fin 512) (k : Fin 512) : wholeModes x (ix2 r k) = x (ix2 r k) :=
  View.ld_unit_apply_of (Val := Elt Ideal) (e := .f32) x _ _ _ _ _ (Fin.forall_fin_two.mpr ⟨(Nat.zero_add _).symm, (Nat.zero_add _).symm⟩)

theorem wholeSquare_apply (x : Vec Ideal S1024x1024 .bf16) (r : Fin 1024) (k : Fin 1024) : wholeSquare x (ix2 r k) = x (ix2 r k) :=
  View.ld_unit_apply_of (Val := Elt Ideal) (e := .bf16) x _ _ _ _ _ (Fin.forall_fin_two.mpr ⟨(Nat.zero_add _).symm, (Nat.zero_add _).symm⟩)

theorem wholeOne_apply (x : Vec Ideal S1x1024 .f32) (k : Fin 1024) : wholeOne x (ix2 0 k) = x (ix2 0 k) :=
  View.ld_unit_apply_of (Val := Elt Ideal) (e := .f32) x _ _ _ _ _ (Fin.forall_fin_two.mpr ⟨rfl, (Nat.zero_add _).symm⟩)

theorem wholeVec_apply (x : Vec Ideal S1x1024 .f32) (k : Fin 1024) : wholeVec x (ix2 0 k) = x (ix2 0 k) :=
  (shapeCast_apply _ _ (ix2 0 k : S1x1024.Idx) (ix2 0 k : S1x1024.Idx) rfl).trans (wholeOne_apply x k)

theorem gates_apply (x : Vec Ideal S512x3072 .bf16) (o : ℕ) (inb) (b : o + 1024 ≤ 3072) (r : Fin 512) (j : Fin 1024) :
    gates x o inb (ix2 r j) = x (ix2 r (⟨o + j.val, by omega⟩ : Fin 3072)) :=
  View.ld_unit_apply_of (Val := Elt Ideal) (e := .bf16) x _ _ _ _ _ (Fin.forall_fin_two.mpr ⟨(Nat.zero_add _).symm, rfl⟩)

section
variable (x0 : Vec Ideal S512x1024 .bf16) (x1 x2 : Vec Ideal S512x512 .bf16) (x3 : Vec Ideal S512x512 .f32) (x4 : Vec Ideal S512x3072 .bf16)
  (x5 : Vec Ideal S512x1024 .f32) (x6 : Vec Ideal S1024x1024 .bf16) (x7 x8 : Vec Ideal S512x1024 .bf16) (x9 : Vec Ideal S1024x1024 .bf16)
  (x10 : Vec Ideal S4x256x128 .bf16) (x11 : Vec Ideal S128x512 .f32) (x12 x13 x14 : Vec Ideal S1x1024 .f32)

/-- The merged branches of a block. -/
def mergedBlock : Short :=
  mergeds (gates x4 0 inb_S512x3072_S512x1024_0_0) (gates x4 1024 inb_S512x3072_S512x1024_0_1024)
    (gates x4 2048 inb_S512x3072_S512x1024_0_2048) (wholeShort x0) (wholeHalf (gatedBlock x1 x2 x10 x11)) (wholeModes x3) (wholeSquare x6)
    (wholeShort x7) (wholeShort x8)

/-- The block the body makes of the blocks of the arguments. -/
def made : Vec Ideal S512x1024 .f32 :=
  View.canon (Val := Elt Ideal) (e := .f32) [⟨Rect.unit (s := S512x1024) ![0, 0] S512x1024.size inb_S512x1024_S512x1024_0_0,
    finals (residuals (wholeRows x5) (wholeOne x12) (mergedBlock x0 x1 x2 x3 x4 x6 x7 x8 x10 x11) (wholeSquare x9)) (wholeVec x13)
      (wholeVec x14)⟩]

theorem mergedBlock_apply (r : Fin 512) (j : Fin 1024) : mergedBlock x0 x1 x2 x3 x4 x6 x7 x8 x10 x11 (ix2 r j)
    = merged (fun k => x0 (ix2 r k)) (fun i => gatedAt x1 x2 x10 x11 r i) (fun i => x3 (ix2 r i)) (fun i => x4 (ix2 r i))
        (fun k j => x6 (ix2 k j)) (fun k j => x7 (ix2 k j)) (fun k j => x8 (ix2 k j)) j := by
  unfold mergedBlock merged
  rw [mergeds_apply, gates_apply _ 0 _ (by decide), gates_apply _ 1024 _ (by decide), gates_apply _ 2048 _ (by decide)]
  simp only [wholeShort_apply, wholeHalf_apply, wholeModes_apply, wholeSquare_apply, gatedBlock_apply, Nat.zero_add]

/-- The block is made of the rows. -/
theorem made_apply (r : Fin 512) (k : Fin 1024) : made x0 x1 x2 x3 x4 x5 x6 x7 x8 x9 x10 x11 x12 x13 x14 (ix2 r k)
    = row (fun k => x0 (ix2 r k)) (fun i => gatedAt x1 x2 x10 x11 r i) (fun i => x3 (ix2 r i)) (fun i => x4 (ix2 r i))
        (fun k => x5 (ix2 r k)) (fun k j => x6 (ix2 k j)) (fun k j => x7 (ix2 k j)) (fun k j => x8 (ix2 k j)) (fun k j => x9 (ix2 k j))
        (fun k => x12 (ix2 0 k)) (fun k => x13 (ix2 0 k)) (fun k => x14 (ix2 0 k)) k := by
  unfold made row
  rw [View.canon_apply_of_pieces (Val := Elt Ideal) (e := .f32)
    (finals (residuals (wholeRows x5) (wholeOne x12) (mergedBlock x0 x1 x2 x3 x4 x6 x7 x8 x10 x11) (wholeSquare x9)) (wholeVec x13)
      (wholeVec x14)) _ (by
        simp only [List.forall_mem_cons, List.not_mem_nil, false_imp_iff, implies_true, and_true]
        intro i
        refine congrArg (finals _ _ _) (funext fun a => Fin.ext ?_)
        match a with
        | ⟨0, _⟩ => exact ((Rect.idx_unit_val (s := S512x1024) ![0, 0] S512x1024.size inb_S512x1024_S512x1024_0_0 i 0).trans (Nat.zero_add _)).symm
        | ⟨1, _⟩ => exact ((Rect.idx_unit_val (s := S512x1024) ![0, 0] S512x1024.size inb_S512x1024_S512x1024_0_0 i 1).trans (Nat.zero_add _)).symm)
    (ix2 r k) (View.cover_of_tiledBy _ ![512, 1024] (by sl_kernel_rfl) _)]
  rw [finals_apply]
  simp only [residuals_apply, mergedBlock_apply, wholeRows_apply, wholeOne_apply, wholeVec_apply, wholeSquare_apply]

end

theorem outs_eq (m : (ℓ : Loc nD τ sig) → Buf (Elt Ideal) ℓ) (c : Dev nD) (t : Fin cfg0.N) :
    outsAt0 m c t = made (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) := by
  unfold outsAt0 out0_A_15
  rw [View.read_writes_eq_canon _ _ _ (cover0_A_15 c _ _ _ _ _ _ _ _ _ _ _ _ _ _ _ _ _ _ _ _ _ _ _ _ _ _ _ _ _ _ _ _ _ _ _ _ _ _ _ _ _ _ _ _ _ _ _ _ _ _)]
  unfold kernelRun0_A
  dsimp only
  frame_open
  simp only [View.readAt_eq_ld, Memref.IsWhole.read_unread, View.readCov_eq_canon']
  rfl

end Cert.Merge

end
-- ==== Proof.MergeReference.lean ====
/-
  The merge's reference: what it computes of its arguments, read at an element, is `row` of that element's row and its chunk.
-/
module

public import proofs.«01_k».proof.Defs
public import proofs.«01_k».proof.Proof.MergeRow
public import proofs.«01_k».proof.Proof.FfnReference
public import proofs.«01_k».proof.Proof.Gen.Reference4Ideal.Run
public import Idealize.ShloMosaic.Lib.Pointwise
public import Idealize.ShloMosaic.Lib.Quiescent

@[expose] public section

noncomputable section

namespace Cert.Merge.Ref

open Cert.Reference4Ideal Cert.Reference4Ideal.Gen
open Idealize.ShloMosaic Idealize.ShloMosaic.TcCoe Idealize.ShloMosaic.StableHlo Idealize.SL.Sem

/-- A float array over the extended reals. -/
abbrev Arr (S : Shape) := FVec Ideal S .f32
/-- The projection's columns, and the attention's output. -/
abbrev Cols := FVec Ideal S16384x6144 .bf16
abbrev Heads := FVec Ideal S16384x1024 .bf16

/-- The mixed columns, by chunk, place, group and channel. -/
def groups (z : Cols) : Arr S128x128x8x64 :=
  shapeCast S128x128x8x64 (extractStridedSlice S16384x512 ![0, 2048] (extf .f32 z bitsLt_bf16_f32 : Arr S16384x6144)
    slices_S16384x6144_S16384x512_0_2048) shapeCasts_S16384x512_S128x128x8x64

/-- Every place's mix of its chunk. -/
def mixes (z : Cols) (w : Arr S8x128x128) : Arr S128x128x8x64 :=
  transpose S128x128x8x64 [1, 3, 0, 2] (Host.dotGeneral dot_S128x128x8x64_S8x128x128_S8x128x64x128_1_2_03_1_2_0 none (groups z) w)
    transposes_S8x128x64x128_S128x128x8x64_1_3_0_2

/-- The biases of the places and groups. -/
def biases (b : Arr S8x128) : Arr S128x128x8x64 :=
  broadcastInDim S128x128x8x64 ![0, 1, 2, 3] bcast_S1x128x8x1_S128x128x8x64_0_1_2_3
    (broadcastInDim S1x128x8x1 ![1, 2] bcast_S128x8_S1x128x8x1_1_2 (transpose S128x8 [1, 0] b transposes_S8x128_S128x8_1_0))

/-- The mixes and biases, row by row. -/
def mixed (z : Cols) (w : Arr S8x128x128) (b : Arr S8x128) : Arr S16384x512 :=
  shapeCast S16384x512 (addf (mixes z w) (biases b)) shapeCasts_S128x128x8x64_S16384x512

/-- They times the columns they gate. -/
def gated (z : Cols) (w : Arr S8x128x128) (b : Arr S8x128) : Arr S16384x512 :=
  mulf (extractStridedSlice S16384x512 ![0, 1536] (extf .f32 z bitsLt_bf16_f32 : Arr S16384x6144) slices_S16384x6144_S16384x512_0_1536)
    (mixed z w b)

/-- The gates of the three branches. -/
def gates (z : Cols) : Arr S16384x3x1024 :=
  shapeCast S16384x3x1024 (extractStridedSlice S16384x3072 ![0, 3072] (extf .f32 z bitsLt_bf16_f32 : Arr S16384x6144)
    slices_S16384x6144_S16384x3072_0_3072) shapeCasts_S16384x3072_S16384x3x1024

/-- One branch's gates. -/
def gate1 (x : Arr S16384x3x1024) (o : Fin 3) (h : S16384x3x1024.Slices ![0, o.val, 0] S16384x1x1024) : Arr S16384x1024 :=
  shapeCast S16384x1024 (extractStridedSlice S16384x1x1024 ![0, o.val, 0] x h) shapeCasts_S16384x1x1024_S16384x1024

/-- The sum of the three branches. -/
def mergeds (a : Heads) (z : Cols) (f : Arr S16384x512) (wa : Arr S1024x1024) (ws wf : Arr S512x1024) (w : Arr S8x128x128)
    (b : Arr S8x128) : Arr S16384x1024 :=
  addf (addf (mulf (gate1 (gates z) 0 slices_S16384x3x1024_S16384x1x1024_0_0_0)
      (Host.dotGeneral dot_S16384x1024_S1024x1024_S16384x1024_1_0_0_1_n_n none (extf .f32 a bitsLt_bf16_f32 : Arr S16384x1024) wa))
    (mulf (gate1 (gates z) 1 slices_S16384x3x1024_S16384x1x1024_0_1_0)
      (Host.dotGeneral dot_S16384x512_S512x1024_S16384x1024_1_0_0_1_n_n none (gated z w b) ws)))
    (mulf (gate1 (gates z) 2 slices_S16384x3x1024_S16384x1x1024_0_2_0)
      (Host.dotGeneral dot_S16384x512_S512x1024_S16384x1024_1_0_0_1_n_n none f wf))

/-- The residuals. -/
def residuals (x : Arr S16384x1024) (gate : Arr S1x1024) (y : Arr S16384x1024) (wo : Arr S1024x1024) : Arr S16384x1024 :=
  addf (mulf (broadcastInDim S16384x1024 ![] bcast_S_S16384x1024 (constant S_ .f32 0x3FB504F3#32)) x)
    (mulf (broadcastInDim S16384x1024 ![0, 1] bcast_S1x1024_S16384x1024_0_1 gate)
      (Host.dotGeneral dot_S16384x1024_S1024x1024_S16384x1024_1_0_0_1_n_n none y wo))

/-- What the reference computes of its arguments. -/
def out (a : Heads) (z : Cols) (f : Arr S16384x512) (x : Arr S16384x1024) (wa : Arr S1024x1024) (ws wf : Arr S512x1024)
    (wo : Arr S1024x1024) (w : Arr S8x128x128) (b : Arr S8x128) (gate : Arr S1x1024) (lg lb : Arr S1024) : Arr S16384x1024 :=
  Ffn.Ref.finals (residuals x gate (mergeds a z f wa ws wf w b) wo) lg lb

theorem groups_apply (z : Cols) (n p : Fin 128) (g : Fin 8) (c : Fin 64) :
    groups z (ix4 n p g c) = z (ix2 (⟨128 * n.val + p.val, by omega⟩ : Fin 16384) (⟨2048 + (64 * g.val + c.val), by omega⟩ : Fin 6144)) := by
  unfold groups
  rw [shapeCast_apply _ _ (ix4 n p g c) (ix2 (⟨128 * n.val + p.val, by omega⟩ : Fin 16384) (⟨64 * g.val + c.val, by omega⟩ : Fin 512)) (by
    rw [Shape.rowMajor_val_two, Shape.rowMajor_val_four]
    show (128 * n.val + p.val) * 512 + (64 * g.val + c.val) = ((n.val * 128 + p.val) * 8 + g.val) * 64 + c.val
    omega)]
  pointwise

theorem mixes_apply (z : Cols) (w : Arr S8x128x128) (n p : Fin 128) (g : Fin 8) (c : Fin 64) :
    mixes z w (ix4 n p g c) = ∑ q : Fin 128, groups z (ix4 n q g c) * w (ix3 g p q) := by
  pointwise [mixes]

theorem biases_apply (b : Arr S8x128) (n p : Fin 128) (g : Fin 8) (c : Fin 64) : biases b (ix4 n p g c) = b (ix2 g p) := by
  pointwise [biases]

theorem mixed_apply (z : Cols) (w : Arr S8x128x128) (b : Arr S8x128) (r : Fin 16384) (i : Fin 512) :
    mixed z w b (ix2 r i) = spatial (fun q => w (ix3 (group i) (place r) q)) (fun q => z (ix2 (chunkRow r q) (colV i)))
      (b (ix2 (group i) (place r))) := by
  unfold mixed spatial
  rw [shapeCast_apply _ _ (ix2 r i) (ix4 (⟨r.val / 128, by omega⟩ : Fin 128) (place r) (group i) (⟨i.val % 64, by omega⟩ : Fin 64)) (by
    rw [Shape.rowMajor_val_two, Shape.rowMajor_val_four]
    show ((r.val / 128 * 128 + r.val % 128) * 8 + i.val / 64) * 64 + i.val % 64 = r.val * 512 + i.val
    omega)]
  refine (show _ = mixes z w _ + biases b _ from rfl).trans ?_
  rw [mixes_apply, biases_apply]
  refine congrArg (· + _) (Finset.sum_congr rfl fun q _ => ?_)
  rw [groups_apply, mul_comm]
  refine congrArg (fun e => w (ix3 (group i) (place r) q) * z (ix2 (chunkRow r q) e)) (Fin.ext ?_)
  show 2048 + (64 * (i.val / 64) + i.val % 64) = 2048 + i.val
  omega

theorem gated_apply (z : Cols) (w : Arr S8x128x128) (b : Arr S8x128) (r : Fin 16384) (i : Fin 512) :
    gated z w b (ix2 r i) = z (ix2 r (colU i)) * spatial (fun q => w (ix3 (group i) (place r) q))
      (fun q => z (ix2 (chunkRow r q) (colV i))) (b (ix2 (group i) (place r))) := by
  rw [← mixed_apply]
  pointwise [gated]

theorem gate1_apply (z : Cols) (o : Fin 3) (h) (r : Fin 16384) (j : Fin 1024) :
    gate1 (gates z) o h (ix2 r j) = z (ix2 r (colG ⟨1024 * o.val + j.val, by omega⟩)) := by
  unfold gate1
  rw [shapeCast_apply _ _ (ix2 r j) (ix3 r (0 : Fin 1) j) (by
    rw [Shape.rowMajor_val_two, Shape.rowMajor_val_three]
    show (r.val * 1 + 0) * 1024 + j.val = r.val * 1024 + j.val
    omega)]
  have e : extractStridedSlice S16384x1x1024 ![0, o.val, 0] (gates z) h (ix3 r (0 : Fin 1) j) = gates z (ix3 r o j) := by
    refine congrArg (gates z) (funext fun a => Fin.ext ?_)
    match a with
    | ⟨0, _⟩ => exact Nat.zero_add _
    | ⟨1, _⟩ => rfl
    | ⟨2, _⟩ => exact Nat.zero_add _
  rw [e]
  unfold gates
  rw [shapeCast_apply _ _ (ix3 r o j) (ix2 r (⟨1024 * o.val + j.val, by omega⟩ : Fin 3072)) (by
    rw [Shape.rowMajor_val_two, Shape.rowMajor_val_three]
    show r.val * 3072 + (1024 * o.val + j.val) = (r.val * 3 + o.val) * 1024 + j.val
    omega)]
  pointwise

theorem mergeds_apply (a : Heads) (z : Cols) (f : Arr S16384x512) (wa : Arr S1024x1024) (ws wf : Arr S512x1024) (w : Arr S8x128x128)
    (b : Arr S8x128) (r : Fin 16384) (j : Fin 1024) :
    mergeds a z f wa ws wf w b (ix2 r j) = merged (fun k => a (ix2 r k)) (fun i => gated z w b (ix2 r i)) (fun i => f (ix2 r i))
      (fun i => z (ix2 r (colG i))) (fun k j => wa (ix2 k j)) (fun k j => ws (ix2 k j)) (fun k j => wf (ix2 k j)) j := by
  have e : mergeds a z f wa ws wf w b (ix2 r j) = gate1 (gates z) 0 slices_S16384x3x1024_S16384x1x1024_0_0_0 (ix2 r j)
        * ∑ i : Fin 1024, a (ix2 r i) * wa (ix2 i j)
      + gate1 (gates z) 1 slices_S16384x3x1024_S16384x1x1024_0_1_0 (ix2 r j) * ∑ i : Fin 512, gated z w b (ix2 r i) * ws (ix2 i j)
      + gate1 (gates z) 2 slices_S16384x3x1024_S16384x1x1024_0_2_0 (ix2 r j) * ∑ i : Fin 512, f (ix2 r i) * wf (ix2 i j) := by
    pointwise [mergeds]
  rw [e, gate1_apply, gate1_apply, gate1_apply]
  unfold merged
  refine congrArg (fun e => z (ix2 r (colG e)) * _ + _ + _) (Fin.ext ?_)
  show 1024 * 0 + j.val = j.val
  omega

theorem residuals_apply (x : Arr S16384x1024) (gate : Arr S1x1024) (y : Arr S16384x1024) (wo : Arr S1024x1024) (r : Fin 16384)
    (k : Fin 1024) : residuals x gate y wo (ix2 r k)
      = residual (fun k => x (ix2 r k)) (fun k => gate (ix2 0 k)) (fun j => y (ix2 r j)) (fun j k => wo (ix2 j k)) k := by
  pointwise [residuals, residual]

/-- The reference at row `r` and column `k`. -/
theorem out_apply (a : Heads) (z : Cols) (f : Arr S16384x512) (x : Arr S16384x1024) (wa : Arr S1024x1024) (ws wf : Arr S512x1024)
    (wo : Arr S1024x1024) (w : Arr S8x128x128) (b : Arr S8x128) (gate : Arr S1x1024) (lg lb : Arr S1024) (r : Fin 16384) (k : Fin 1024) :
    out a z f x wa ws wf wo w b gate lg lb (ix2 r k)
      = row (fun k => a (ix2 r k))
          (fun i => z (ix2 r (colU i)) * spatial (fun q => w (ix3 (group i) (place r) q)) (fun q => z (ix2 (chunkRow r q) (colV i)))
            (b (ix2 (group i) (place r))))
          (fun i => f (ix2 r i)) (fun i => z (ix2 r (colG i))) (fun k => x (ix2 r k)) (fun k j => wa (ix2 k j)) (fun k j => ws (ix2 k j))
          (fun k j => wf (ix2 k j)) (fun k j => wo (ix2 k j)) (fun k => gate (ix2 0 k)) (fun k => lg (ix1 k)) (fun k => lb (ix1 k)) k := by
  unfold out row
  refine (Ffn.Ref.finals_apply _ _ _ r k).trans ?_
  refine congrArg (fun z => z * _ + _) (Ffn.norm_congr (fun k => ?_) k)
  refine (residuals_apply _ _ _ _ r k).trans ?_
  simp only [mergeds_apply, gated_apply]

variable (m : (ℓ : Loc nD τ sig) → Buf (Elt Ideal) ℓ)

/-- The reference's value is `out` of its arguments. -/
theorem result_eq (c : Dev nD) : Value.res_out0 m c = out (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) := by
  unfold Value.res_out0 Value.res_main_v58
  rfl

/-- The reference's frame. -/
theorem frame : Cert.quiescent_Reference4Ideal := fun m ρ _ =>
  (θ_run (defs (F := Ideal)) _ _).mono (fun r h => ⟨fun c => (h c).2, sem_eq_zero_of_no_sems (by decide) r.2⟩) (Value.run m ρ)

end Cert.Merge.Ref

end
-- ==== Proof.MergeSame.lean ====
/-
  The merge and its reference compute one function of the arguments: row by row both are `row`. The weights of the spatial mixing
  reach the call two groups at a time, and its biases once for every channel of a group. With it the call's frames.
-/
module

public import proofs.«01_k».proof.Defs
public import proofs.«01_k».proof.Proof.MergeKernel
public import proofs.«01_k».proof.Proof.MergeReference
public import proofs.«01_k».proof.Proof.Gen.Kernel4

@[expose] public section

noncomputable section

namespace Cert.Merge

open Idealize.ShloMosaic Idealize.ShloMosaic.TcCoe Idealize.ShloMosaic.StableHlo Idealize.ShloMosaic.Ideal Idealize.SL.Sem

section
open Cert.Kernel4Ideal Cert.Kernel4Ideal.Gen

variable (m : (ℓ : Loc nD τ sig) → Buf (Elt Ideal) ℓ)

/-! ## The arrays the host operations leave -/

theorem V_attn (c : Dev nD) (k : Fin 1024) (j : Fin 1024) :
    V m c main_v5 (ix2 k j : S1024x1024.Idx) = m ((c : Thread nD τ).loc main_arg4) (ix2 k j : S1024x1024.Idx) := by
  have e : V m c main_v5 = (truncf .bf16 (m ((c : Thread nD τ).loc main_arg4)) bitsLt_bf16_f32 : FVec Ideal S1024x1024 .bf16) := by
    show StableHlo.after (hostOps0 (F := Ideal)) (fun b => m (c, b)) (Proc.devRef .tc main_v5) = _
    after_reads_simp
  exact congrFun e _

theorem V_sgu (c : Dev nD) (k : Fin 512) (j : Fin 1024) :
    V m c main_v6 (ix2 k j : S512x1024.Idx) = m ((c : Thread nD τ).loc main_arg5) (ix2 k j : S512x1024.Idx) := by
  have e : V m c main_v6 = (truncf .bf16 (m ((c : Thread nD τ).loc main_arg5)) bitsLt_bf16_f32 : FVec Ideal S512x1024 .bf16) := by
    show StableHlo.after (hostOps0 (F := Ideal)) (fun b => m (c, b)) (Proc.devRef .tc main_v6) = _
    after_reads_simp
  exact congrFun e _

theorem V_fourier (c : Dev nD) (k : Fin 512) (j : Fin 1024) :
    V m c main_v7 (ix2 k j : S512x1024.Idx) = m ((c : Thread nD τ).loc main_arg6) (ix2 k j : S512x1024.Idx) := by
  have e : V m c main_v7 = (truncf .bf16 (m ((c : Thread nD τ).loc main_arg6)) bitsLt_bf16_f32 : FVec Ideal S512x1024 .bf16) := by
    show StableHlo.after (hostOps0 (F := Ideal)) (fun b => m (c, b)) (Proc.devRef .tc main_v7) = _
    after_reads_simp
  exact congrFun e _

theorem V_mix (c : Dev nD) (k : Fin 1024) (j : Fin 1024) :
    V m c main_v8 (ix2 k j : S1024x1024.Idx) = m ((c : Thread nD τ).loc main_arg7) (ix2 k j : S1024x1024.Idx) := by
  have e : V m c main_v8 = (truncf .bf16 (m ((c : Thread nD τ).loc main_arg7)) bitsLt_bf16_f32 : FVec Ideal S1024x1024 .bf16) := by
    show StableHlo.after (hostOps0 (F := Ideal)) (fun b => m (c, b)) (Proc.devRef .tc main_v8) = _
    after_reads_simp
  exact congrFun e _

/-- A vector as a single row. -/
theorem vec_row_apply (x : FVec Ideal S1024 .f32) (k : Fin 1024) : shapeCast S1x1024 x shapeCasts_S1024_S1x1024 (ix2 0 k) = x (ix1 k) := by
  pointwise

theorem V_gain (c : Dev nD) (k : Fin 1024) :
    V m c main_v9 (ix2 0 k : S1x1024.Idx) = m ((c : Thread nD τ).loc main_arg11) (ix1 k : S1024.Idx) := by
  have e : V m c main_v9 = (shapeCast S1x1024 (m ((c : Thread nD τ).loc main_arg11)) shapeCasts_S1024_S1x1024 : FVec Ideal S1x1024 .f32) := by
    show StableHlo.after (hostOps0 (F := Ideal)) (fun b => m (c, b)) (Proc.devRef .tc main_v9) = _
    after_reads_simp
    rfl
  exact (congrFun e _).trans (vec_row_apply _ k)

theorem V_offset (c : Dev nD) (k : Fin 1024) :
    V m c main_v10 (ix2 0 k : S1x1024.Idx) = m ((c : Thread nD τ).loc main_arg12) (ix1 k : S1024.Idx) := by
  have e : V m c main_v10 = (shapeCast S1x1024 (m ((c : Thread nD τ).loc main_arg12)) shapeCasts_S1024_S1x1024 : FVec Ideal S1x1024 .f32) := by
    show StableHlo.after (hostOps0 (F := Ideal)) (fun b => m (c, b)) (Proc.devRef .tc main_v10) = _
    after_reads_simp
    rfl
  exact (congrFun e _).trans (vec_row_apply _ k)

/-- The groups' weights two at a time. -/
def pairs (x : FVec Ideal S8x128x128 .f32) : FVec Ideal S4x256x128 .bf16 :=
  shapeCast S4x256x128 (truncf .bf16 x bitsLt_bf16_f32 : FVec Ideal S8x128x128 .bf16) shapeCasts_S8x128x128_S4x256x128

theorem pairs_apply (x : FVec Ideal S8x128x128 .f32) (n : Fin 4) (p : Fin 256) (q : Fin 128) :
    pairs x (ix3 n p q) = x (ix3 (⟨2 * n.val + p.val / 128, by omega⟩ : Fin 8) (⟨p.val % 128, by omega⟩ : Fin 128) q) := by
  unfold pairs
  rw [shapeCast_apply _ _ (ix3 n p q) (ix3 (⟨2 * n.val + p.val / 128, by omega⟩ : Fin 8) (⟨p.val % 128, by omega⟩ : Fin 128) q) (by
    rw [Shape.rowMajor_val_three, Shape.rowMajor_val_three]
    show ((2 * n.val + p.val / 128) * 128 + p.val % 128) * 128 + q.val = (n.val * 256 + p.val) * 128 + q.val
    omega)]
  rfl

theorem V_weights (c : Dev nD) (n : Fin 4) (p : Fin 256) (q : Fin 128) :
    V m c main_v1 (ix3 n p q : S4x256x128.Idx) = m ((c : Thread nD τ).loc main_arg8)
      (ix3 (⟨2 * n.val + p.val / 128, by omega⟩ : Fin 8) (⟨p.val % 128, by omega⟩ : Fin 128) q : S8x128x128.Idx) := by
  have e : V m c main_v1 = pairs (m ((c : Thread nD τ).loc main_arg8)) := by
    show StableHlo.after (hostOps0 (F := Ideal)) (fun b => m (c, b)) (Proc.devRef .tc main_v1) = _
    after_reads_simp
    rfl
  exact (congrFun e _).trans (pairs_apply _ n p q)

/-- The biases, once for every channel. -/
def spread (x : FVec Ideal S8x128 .f32) : FVec Ideal S128x512 .f32 :=
  shapeCast S128x512 (broadcastInDim S128x8x64 ![0, 1] bcast_S128x8_S128x8x64_0_1 (transpose S128x8 [1, 0] x transposes_S8x128_S128x8_1_0))
    shapeCasts_S128x8x64_S128x512

theorem spread_apply (x : FVec Ideal S8x128 .f32) (p : Fin 128) (i : Fin 512) : spread x (ix2 p i) = x (ix2 (group i) p) := by
  unfold spread
  rw [shapeCast_apply _ _ (ix2 p i) (ix3 p (group i) (⟨i.val % 64, by omega⟩ : Fin 64)) (by
    rw [Shape.rowMajor_val_three, Shape.rowMajor_val_two]
    show (p.val * 8 + i.val / 64) * 64 + i.val % 64 = p.val * 512 + i.val
    omega)]
  pointwise

theorem V_biases (c : Dev nD) (p : Fin 128) (i : Fin 512) :
    V m c main_v4 (ix2 p i : S128x512.Idx) = m ((c : Thread nD τ).loc main_arg9) (ix2 (group i) p : S8x128.Idx) := by
  have e : V m c main_v4 = spread (m ((c : Thread nD τ).loc main_arg9)) := by
    show StableHlo.after (hostOps0 (F := Ideal)) (fun b => m (c, b)) (Proc.devRef .tc main_v4) = _
    after_reads_simp
    rfl
  exact (congrFun e _).trans (spread_apply _ p i)

/-! ## The windows -/

theorem at0 : ∀ t : Fin grid0.N, win0_0.index t 0 = t.val ∧ win0_0.index t 1 = 0 := by decide +kernel
theorem at1 : ∀ t : Fin grid0.N, win0_1.index t 0 = t.val ∧ win0_1.index t 1 = 3 := by decide +kernel
theorem at2 : ∀ t : Fin grid0.N, win0_2.index t 0 = t.val ∧ win0_2.index t 1 = 4 := by decide +kernel
theorem at3 : ∀ t : Fin grid0.N, win0_3.index t 0 = t.val ∧ win0_3.index t 1 = 0 := by decide +kernel
theorem at4 : ∀ t : Fin grid0.N, win0_4.index t 0 = t.val ∧ win0_4.index t 1 = 1 := by decide +kernel
theorem at5 : ∀ t : Fin grid0.N, win0_5.index t 0 = t.val ∧ win0_5.index t 1 = 0 := by decide +kernel
theorem at6 : ∀ t : Fin grid0.N, win0_6.index t 0 = 0 ∧ win0_6.index t 1 = 0 := by decide +kernel
theorem at7 : ∀ t : Fin grid0.N, win0_7.index t 0 = 0 ∧ win0_7.index t 1 = 0 := by decide +kernel
theorem at8 : ∀ t : Fin grid0.N, win0_8.index t 0 = 0 ∧ win0_8.index t 1 = 0 := by decide +kernel
theorem at9 : ∀ t : Fin grid0.N, win0_9.index t 0 = 0 ∧ win0_9.index t 1 = 0 := by decide +kernel
theorem at10 : ∀ t : Fin grid0.N, win0_10.index t 0 = 0 ∧ win0_10.index t 1 = 0 ∧ win0_10.index t 2 = 0 := by decide +kernel
theorem at11 : ∀ t : Fin grid0.N, win0_11.index t 0 = 0 ∧ win0_11.index t 1 = 0 := by decide +kernel
theorem at12 : ∀ t : Fin grid0.N, win0_12.index t 0 = 0 ∧ win0_12.index t 1 = 0 := by decide +kernel
theorem at13 : ∀ t : Fin grid0.N, win0_13.index t 0 = 0 ∧ win0_13.index t 1 = 0 := by decide +kernel
theorem at14 : ∀ t : Fin grid0.N, win0_14.index t 0 = 0 ∧ win0_14.index t 1 = 0 := by decide +kernel
theorem at15 : ∀ t : Fin grid0.N, win0_15.index t 0 = t.val ∧ win0_15.index t 1 = 0 := by decide +kernel

theorem lt_points (t : Fin cfg0.N) : t.val < 32 := lt_of_lt_of_eq t.isLt N_0

/-- The whole array's row of a block's row. -/
def lift (t : Fin cfg0.N) (r : Fin 512) : Fin 16384 := ⟨512 * t.val + r.val, by have := lt_points t; omega⟩

theorem block0 (c : Dev nD) (t : Fin cfg0.N) (r : Fin 512) (k : Fin 1024) : (iblk m c 0 t : S512x1024.Idx → EReal) (ix2 r k)
    = V m c main_arg0 (ix2 (lift t r) k : S16384x1024.Idx) := by
  refine congrArg (V m c main_arg0) (funext fun a => Fin.ext ?_)
  match a with
  | ⟨0, _⟩ =>
    show win0_0.index t 0 * 512 + 1 * r.val = 512 * t.val + r.val
    rw [(at0 t).1]; ring
  | ⟨1, _⟩ =>
    show win0_0.index t 1 * 1024 + 1 * k.val = k.val
    rw [(at0 t).2]; ring

theorem block1 (c : Dev nD) (t : Fin cfg0.N) (r : Fin 512) (k : Fin 512) : (iblk m c 1 t : S512x512.Idx → EReal) (ix2 r k)
    = V m c main_arg1 (ix2 (lift t r) (colU k) : S16384x6144.Idx) := by
  refine congrArg (V m c main_arg1) (funext fun a => Fin.ext ?_)
  match a with
  | ⟨0, _⟩ =>
    show win0_1.index t 0 * 512 + 1 * r.val = 512 * t.val + r.val
    rw [(at1 t).1]; ring
  | ⟨1, _⟩ =>
    show win0_1.index t 1 * 512 + 1 * k.val = 1536 + k.val
    rw [(at1 t).2]; ring

theorem block2 (c : Dev nD) (t : Fin cfg0.N) (r : Fin 512) (k : Fin 512) : (iblk m c 2 t : S512x512.Idx → EReal) (ix2 r k)
    = V m c main_arg1 (ix2 (lift t r) (colV k) : S16384x6144.Idx) := by
  refine congrArg (V m c main_arg1) (funext fun a => Fin.ext ?_)
  match a with
  | ⟨0, _⟩ =>
    show win0_2.index t 0 * 512 + 1 * r.val = 512 * t.val + r.val
    rw [(at2 t).1]; ring
  | ⟨1, _⟩ =>
    show win0_2.index t 1 * 512 + 1 * k.val = 2048 + k.val
    rw [(at2 t).2]; ring

theorem block3 (c : Dev nD) (t : Fin cfg0.N) (r : Fin 512) (k : Fin 512) : (iblk m c 3 t : S512x512.Idx → EReal) (ix2 r k)
    = V m c main_arg2 (ix2 (lift t r) k : S16384x512.Idx) := by
  refine congrArg (V m c main_arg2) (funext fun a => Fin.ext ?_)
  match a with
  | ⟨0, _⟩ =>
    show win0_3.index t 0 * 512 + 1 * r.val = 512 * t.val + r.val
    rw [(at3 t).1]; ring
  | ⟨1, _⟩ =>
    show win0_3.index t 1 * 512 + 1 * k.val = k.val
    rw [(at3 t).2]; ring

theorem block4 (c : Dev nD) (t : Fin cfg0.N) (r : Fin 512) (k : Fin 3072) : (iblk m c 4 t : S512x3072.Idx → EReal) (ix2 r k)
    = V m c main_arg1 (ix2 (lift t r) (colG k) : S16384x6144.Idx) := by
  refine congrArg (V m c main_arg1) (funext fun a => Fin.ext ?_)
  match a with
  | ⟨0, _⟩ =>
    show win0_4.index t 0 * 512 + 1 * r.val = 512 * t.val + r.val
    rw [(at4 t).1]; ring
  | ⟨1, _⟩ =>
    show win0_4.index t 1 * 3072 + 1 * k.val = 3072 + k.val
    rw [(at4 t).2]; ring

theorem block5 (c : Dev nD) (t : Fin cfg0.N) (r : Fin 512) (k : Fin 1024) : (iblk m c 5 t : S512x1024.Idx → EReal) (ix2 r k)
    = V m c main_arg3 (ix2 (lift t r) k : S16384x1024.Idx) := by
  refine congrArg (V m c main_arg3) (funext fun a => Fin.ext ?_)
  match a with
  | ⟨0, _⟩ =>
    show win0_5.index t 0 * 512 + 1 * r.val = 512 * t.val + r.val
    rw [(at5 t).1]; ring
  | ⟨1, _⟩ =>
    show win0_5.index t 1 * 1024 + 1 * k.val = k.val
    rw [(at5 t).2]; ring

theorem block6 (c : Dev nD) (t : Fin cfg0.N) (r : Fin 1024) (k : Fin 1024) : (iblk m c 6 t : S1024x1024.Idx → EReal) (ix2 r k)
    = V m c main_v5 (ix2 r k : S1024x1024.Idx) := by
  refine congrArg (V m c main_v5) (funext fun a => Fin.ext ?_)
  match a with
  | ⟨0, _⟩ =>
    show win0_6.index t 0 * 1024 + 1 * r.val = r.val
    rw [(at6 t).1]; ring
  | ⟨1, _⟩ =>
    show win0_6.index t 1 * 1024 + 1 * k.val = k.val
    rw [(at6 t).2]; ring

theorem block7 (c : Dev nD) (t : Fin cfg0.N) (r : Fin 512) (k : Fin 1024) : (iblk m c 7 t : S512x1024.Idx → EReal) (ix2 r k)
    = V m c main_v6 (ix2 r k : S512x1024.Idx) := by
  refine congrArg (V m c main_v6) (funext fun a => Fin.ext ?_)
  match a with
  | ⟨0, _⟩ =>
    show win0_7.index t 0 * 512 + 1 * r.val = r.val
    rw [(at7 t).1]; ring
  | ⟨1, _⟩ =>
    show win0_7.index t 1 * 1024 + 1 * k.val = k.val
    rw [(at7 t).2]; ring

theorem block8 (c : Dev nD) (t : Fin cfg0.N) (r : Fin 512) (k : Fin 1024) : (iblk m c 8 t : S512x1024.Idx → EReal) (ix2 r k)
    = V m c main_v7 (ix2 r k : S512x1024.Idx) := by
  refine congrArg (V m c main_v7) (funext fun a => Fin.ext ?_)
  match a with
  | ⟨0, _⟩ =>
    show win0_8.index t 0 * 512 + 1 * r.val = r.val
    rw [(at8 t).1]; ring
  | ⟨1, _⟩ =>
    show win0_8.index t 1 * 1024 + 1 * k.val = k.val
    rw [(at8 t).2]; ring

theorem block9 (c : Dev nD) (t : Fin cfg0.N) (r : Fin 1024) (k : Fin 1024) : (iblk m c 9 t : S1024x1024.Idx → EReal) (ix2 r k)
    = V m c main_v8 (ix2 r k : S1024x1024.Idx) := by
  refine congrArg (V m c main_v8) (funext fun a => Fin.ext ?_)
  match a with
  | ⟨0, _⟩ =>
    show win0_9.index t 0 * 1024 + 1 * r.val = r.val
    rw [(at9 t).1]; ring
  | ⟨1, _⟩ =>
    show win0_9.index t 1 * 1024 + 1 * k.val = k.val
    rw [(at9 t).2]; ring

theorem block11 (c : Dev nD) (t : Fin cfg0.N) (r : Fin 128) (k : Fin 512) : (iblk m c 11 t : S128x512.Idx → EReal) (ix2 r k)
    = V m c main_v4 (ix2 r k : S128x512.Idx) := by
  refine congrArg (V m c main_v4) (funext fun a => Fin.ext ?_)
  match a with
  | ⟨0, _⟩ =>
    show win0_11.index t 0 * 128 + 1 * r.val = r.val
    rw [(at11 t).1]; ring
  | ⟨1, _⟩ =>
    show win0_11.index t 1 * 512 + 1 * k.val = k.val
    rw [(at11 t).2]; ring

theorem block12 (c : Dev nD) (t : Fin cfg0.N) (r : Fin 1) (k : Fin 1024) : (iblk m c 12 t : S1x1024.Idx → EReal) (ix2 r k)
    = V m c main_arg10 (ix2 r k : S1x1024.Idx) := by
  refine congrArg (V m c main_arg10) (funext fun a => Fin.ext ?_)
  match a with
  | ⟨0, _⟩ =>
    show win0_12.index t 0 * 1 + 1 * r.val = r.val
    rw [(at12 t).1]; ring
  | ⟨1, _⟩ =>
    show win0_12.index t 1 * 1024 + 1 * k.val = k.val
    rw [(at12 t).2]; ring

theorem block13 (c : Dev nD) (t : Fin cfg0.N) (r : Fin 1) (k : Fin 1024) : (iblk m c 13 t : S1x1024.Idx → EReal) (ix2 r k)
    = V m c main_v9 (ix2 r k : S1x1024.Idx) := by
  refine congrArg (V m c main_v9) (funext fun a => Fin.ext ?_)
  match a with
  | ⟨0, _⟩ =>
    show win0_13.index t 0 * 1 + 1 * r.val = r.val
    rw [(at13 t).1]; ring
  | ⟨1, _⟩ =>
    show win0_13.index t 1 * 1024 + 1 * k.val = k.val
    rw [(at13 t).2]; ring

theorem block14 (c : Dev nD) (t : Fin cfg0.N) (r : Fin 1) (k : Fin 1024) : (iblk m c 14 t : S1x1024.Idx → EReal) (ix2 r k)
    = V m c main_v10 (ix2 r k : S1x1024.Idx) := by
  refine congrArg (V m c main_v10) (funext fun a => Fin.ext ?_)
  match a with
  | ⟨0, _⟩ =>
    show win0_14.index t 0 * 1 + 1 * r.val = r.val
    rw [(at14 t).1]; ring
  | ⟨1, _⟩ =>
    show win0_14.index t 1 * 1024 + 1 * k.val = k.val
    rw [(at14 t).2]; ring

theorem block10 (c : Dev nD) (t : Fin cfg0.N) (n : Fin 4) (p : Fin 256) (q : Fin 128) : (iblk m c 10 t : S4x256x128.Idx → EReal) (ix3 n p q)
    = V m c main_v1 (ix3 n p q : S4x256x128.Idx) := by
  refine congrArg (V m c main_v1) (funext fun a => Fin.ext ?_)
  match a with
  | ⟨0, _⟩ =>
    show win0_10.index t 0 * 4 + 1 * n.val = n.val
    rw [(at10 t).1]; ring
  | ⟨1, _⟩ =>
    show win0_10.index t 1 * 256 + 1 * p.val = p.val
    rw [(at10 t).2.1]; ring
  | ⟨2, _⟩ =>
    show win0_10.index t 2 * 128 + 1 * q.val = q.val
    rw [(at10 t).2.2]; ring

/-- Where the result's block lies in its array. -/
theorem mem_block15 (t : Fin cfg0.N) (i : S16384x1024.Idx) : i ∈ ((cfg0.win 15).blk t).view.set ↔
    (512 * t.val ≤ (i 0).val ∧ (i 0).val < 512 * t.val + 512) ∧ 0 ≤ (i 1).val ∧ (i 1).val < 1024 := by
  show i ∈ ((View.whole main_v11).slice (win0_15.rect t)).set ↔ _
  rw [View.set_slice_whole, Rect.mem_set_unit]
  refine Fin.forall_fin_two.trans (and_congr ?_ ?_)
  · show win0_15.index t 0 * 512 ≤ (i 0).val ∧ (i 0).val < win0_15.index t 0 * 512 + 512 ↔ _
    rw [(at15 t).1]; constructor <;> intro h <;> omega
  · show win0_15.index t 1 * 1024 ≤ (i 1).val ∧ (i 1).val < win0_15.index t 1 * 1024 + 1024 ↔ _
    rw [(at15 t).2]

/-- The blocks of all points are the whole array. -/
theorem cover15 (i : S16384x1024.Idx) : ∃ t : Fin cfg0.N, (cfg0.win 15).flush t = true ∧ i ∈ ((cfg0.win 15).blk t).view.set := by
  have h0 : (i 0).val < 16384 := (i 0).isLt
  have h1 : (i 1).val < 1024 := (i 1).isLt
  refine ⟨⟨(i 0).val / 512, lt_of_lt_of_eq (by omega) N_0.symm⟩, flush0_15 _, (mem_block15 _ i).mpr ?_⟩
  dsimp only
  omega

/-- What the reference computes of the call's arguments. -/
def target (c : Dev nD) : FVec Ideal S16384x1024 .f32 :=
  Ref.out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12))

/-- The gated columns of a point's block. -/
theorem gated_eq (c : Dev nD) (t : Fin cfg0.N) (r : Fin 512) (i : Fin 512) :
    gatedAt (iblk m c 1 t) (iblk m c 2 t) (iblk m c 10 t) (iblk m c 11 t) r i
      = (show EReal from m ((c : Thread nD τ).loc main_arg1) (ix2 (lift t r) (colU i) : S16384x6144.Idx))
        * spatial (fun q => m ((c : Thread nD τ).loc main_arg8) (ix3 (group i) (place (lift t r)) q : S8x128x128.Idx))
            (fun q => m ((c : Thread nD τ).loc main_arg1) (ix2 (chunkRow (lift t r) q) (colV i) : S16384x6144.Idx))
            (m ((c : Thread nD τ).loc main_arg9) (ix2 (group i) (place (lift t r)) : S8x128.Idx)) := by
  have e : ∀ {u u' b b' : EReal} {w w' v v' : Fin 128 → EReal}, u = u' → (∀ q, w q = w' q) → (∀ q, v q = v' q) → b = b' →
      u * spatial w v b = u' * spatial w' v' b' := fun hu hw hv hb => by rw [hu, funext hw, funext hv, hb]
  have ep : spot r = place (lift t r) := Fin.ext (by
    show r.val % 128 = (512 * t.val + r.val) % 128
    omega)
  unfold gatedAt
  refine e ?_ (fun q => ?_) (fun q => ?_) ?_
  · exact (block1 m c t r i).trans (congrFun (V_main_arg1 m c) _)
  · refine ((block10 m c t _ _ q).trans (V_weights m c _ _ q)).trans
      (congrArg (m ((c : Thread nD τ).loc main_arg8)) (funext fun a => Fin.ext ?_))
    match a with
    | ⟨0, _⟩ =>
      show 2 * (i.val / 128) + (128 * (i.val % 128 / 64) + r.val % 128) / 128 = i.val / 64
      omega
    | ⟨1, _⟩ =>
      show (128 * (i.val % 128 / 64) + r.val % 128) % 128 = (512 * t.val + r.val) % 128
      omega
    | ⟨2, _⟩ => rfl
  · refine ((block2 m c t _ i).trans (congrFun (V_main_arg1 m c) _)).trans
      (congrArg (m ((c : Thread nD τ).loc main_arg1)) (funext fun a => Fin.ext ?_))
    match a with
    | ⟨0, _⟩ =>
      show 512 * t.val + (128 * (r.val / 128) + q.val) = 128 * ((512 * t.val + r.val) / 128) + q.val
      omega
    | ⟨1, _⟩ => rfl
  · rw [← ep]
    exact (block11 m c t _ i).trans (V_biases m c _ i)

/-- What a point's body leaves is its block of the reference. -/
theorem block_eq (c : Dev nD) (t : Fin cfg0.N) (r : Fin 512) (j : Fin 1024) :
    outsAt0 m c t (ix2 r j : S512x1024.Idx) = target m c (ix2 (lift t r) j) := by
  unfold target
  rw [outs_eq]
  refine (made_apply _ _ _ _ _ _ _ _ _ _ _ _ _ _ _ r j).trans (Eq.trans ?_ (Ref.out_apply _ _ _ _ _ _ _ _ _ _ _ _ _ _ _).symm)
  exact row_congr (fun k => (block0 m c t r k).trans (congrFun (V_main_arg0 m c) _))
    (fun i => gated_eq m c t r i)
    (fun i => (block3 m c t r i).trans (congrFun (V_main_arg2 m c) _))
    (fun i => (block4 m c t r i).trans (congrFun (V_main_arg1 m c) _))
    (fun k => (block5 m c t r k).trans (congrFun (V_main_arg3 m c) _))
    (fun k j => (block6 m c t k j).trans (V_attn m c k j))
    (fun k j => (block7 m c t k j).trans (V_sgu m c k j))
    (fun k j => (block8 m c t k j).trans (V_fourier m c k j))
    (fun k j => (block9 m c t k j).trans (V_mix m c k j))
    (fun k => (block12 m c t 0 k).trans (congrFun (V_main_arg10 m c) _))
    (fun k => (block13 m c t 0 k).trans (V_gain m c k))
    (fun k => (block14 m c t 0 k).trans (V_offset m c k)) j

/-- The output array is the reference of the arguments. -/
theorem out_eq (c : Dev nD) : (dats m 0 c).arrAt 15 cfg0.N = target m c := by
  refine (dats m 0 c).arrAt_eq_of_cover 15 (target m c) (fun t _ => ?_) cover15
  rw [Value.flushed15]
  funext y
  refine Eq.trans rfl (((congrArg (outsAt0 m c t) (eq_ix2 y)).trans (block_eq m c t (y 0) (y 1))).trans (congrArg (target m c) (funext fun a => Fin.ext ?_)))
  match a with
  | ⟨0, _⟩ =>
    show 512 * t.val + (y 0).val = win0_15.index t 0 * 512 + 1 * (y 0).val
    rw [(at15 t).1]; ring
  | ⟨1, _⟩ =>
    show (y 1).val = win0_15.index t 1 * 1024 + 1 * (y 1).val
    rw [(at15 t).2]; ring

end

/-! ## The frames -/

/-- The two programs' bodies are one table: at the only label both run the same function. -/
theorem bodies_eq : Kernel4.defs₀ (F := Bits) = Kernel4Ideal.defs₀ (F := Bits) := by
  refine congrArg Defs.onTc (funext fun ℓ => ?_)
  match ℓ with
  | ⟨0, _⟩ => exact funext fun ⟨_, _⟩ => rfl

/-- So the tables with their pipelines are one. -/
theorem tables_eq : Kernel4.defs (F := Bits) = Kernel4Ideal.defs (F := Bits) :=
  congrArg (Pipeline.defs Kernel4Ideal.pcfgs) bodies_eq

/-- The frame of the call at its own floats. -/
theorem frame_kernel : Cert.quiescent_Kernel4 := fun m ρ _ => by
  rw [tables_eq]
  exact Kernel4Ideal.Gen.frame (F := Bits) m ρ

/-- The frame of the idealized call. -/
theorem frame_ideal : Cert.quiescent_Kernel4Ideal := fun m ρ _ => Kernel4Ideal.Gen.frame m ρ

/-! ## The value -/

/-- From equal arguments the call and the reference end with equal results. -/
theorem algebraic : Cert.algebraic_Kernel4Ideal_Reference4Ideal := fun m g m' g' _ heq =>
  ⟨target m, (θ_run _ _ _).mono (fun r h c => ⟨((h c).1).trans (out_eq m c), (h c).2⟩) (Kernel4Ideal.Value.run_blocks m g),
    (θ_run _ _ _).mono (fun r h c => ⟨((h c).1).trans ((Ref.result_eq m' c).trans (by
      obtain ⟨h0, h1, h2, h3, h4, h5, h6, h7, h8, h9, h10, h11, h12⟩ := heq c
      rw [h0, h1, h2, h3, h4, h5, h6, h7, h8, h9, h10, h11, h12]
      rfl)), (h c).2⟩) (Reference4Ideal.Value.run m' g')⟩

end Cert.Merge

end
-- ==== Proof.lean ====
/-
  The certificate: the attention call's and the reference's frames, and the theorem that from finite queries and keys the two
  compute one function; and the same of the feed-forward call, of the input projection and of the merge, from any arguments.
  `Proof/Frames.lean`, `Proof/Reference.lean` and `Proof/Same.lean` hold the attention's parts, `Proof/FfnSame.lean` and
  `Proof/FfnReference.lean` the feed-forward's, `Proof/InSame.lean` and `Proof/InReference.lean` the projection's, and
  `Proof/MergeSame.lean` and `Proof/MergeReference.lean` the merge's.
-/
module

public import proofs.«01_k».proof.Proof.Same
public import proofs.«01_k».proof.Proof.FfnSame
public import proofs.«01_k».proof.Proof.InSame
public import proofs.«01_k».proof.Proof.MergeSame

@[expose] public section

noncomputable section

namespace Cert.Proof

/-- All the claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_finite_qk.Gen.facts,
    Cert.Attn.frame_kernel, Cert.Attn.frame_ideal, Cert.Attn.frame_ideal_pre, Cert.Ref.frame_ref, Cert.Ref.frame_ref_pre,
    Cert.Ffn.frame_kernel, Cert.Ffn.frame_ideal, Cert.Ffn.Ref.frame, Cert.In.frame_kernel, Cert.In.frame_ideal, Cert.In.Ref.frame,
    Cert.Merge.frame_kernel, Cert.Merge.frame_ideal, Cert.Merge.Ref.frame,
    trivial, Cert.Attn.algebraic, trivial, Cert.Ffn.algebraic, trivial, Cert.In.algebraic, trivial, Cert.Merge.algebraic⟩

end Cert.Proof

end
